-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x32 : Shape := ⟨2, ![1024, 32]⟩
abbrev S32x1024 : Shape := ⟨2, ![32, 1024]⟩
abbrev S1024x1024 : Shape := ⟨2, ![1024, 1024]⟩
abbrev S2x3x256x256 : Shape := ⟨4, ![2, 3, 256, 256]⟩
abbrev S2x256x256 : Shape := ⟨3, ![2, 256, 256]⟩
abbrev S2x7x32x256 : Shape := ⟨4, ![2, 7, 32, 256]⟩
abbrev S2x32x256 : Shape := ⟨3, ![2, 32, 256]⟩
abbrev S2x7x128x256 : Shape := ⟨4, ![2, 7, 128, 256]⟩
abbrev S2x128x256 : Shape := ⟨3, ![2, 128, 256]⟩
abbrev S2x3x32x256 : Shape := ⟨4, ![2, 3, 32, 256]⟩
abbrev S2x3 : Shape := ⟨2, ![2, 3]⟩
abbrev S2x7 : Shape := ⟨2, ![2, 7]⟩
abbrev S32x512 : Shape := ⟨2, ![32, 512]⟩
abbrev S1024x512 : Shape := ⟨2, ![1024, 512]⟩
abbrev S_ : Shape := ⟨0, ![]⟩
abbrev S1x1 : Shape := ⟨2, ![1, 1]⟩
abbrev S1x1x256x256 : Shape := ⟨4, ![1, 1, 256, 256]⟩
abbrev S256x256 : Shape := ⟨2, ![256, 256]⟩
abbrev S1x1x128x256 : Shape := ⟨4, ![1, 1, 128, 256]⟩
abbrev S128x256 : Shape := ⟨2, ![128, 256]⟩
abbrev S1x256x256 : Shape := ⟨3, ![1, 256, 256]⟩
abbrev S1x1x32x256 : Shape := ⟨4, ![1, 1, 32, 256]⟩
abbrev S32x256 : Shape := ⟨2, ![32, 256]⟩
abbrev S1x32x256 : Shape := ⟨3, ![1, 32, 256]⟩
abbrev S1x128x256 : Shape := ⟨3, ![1, 128, 256]⟩

abbrev nBuf : Space → Nat
  | .hbm => 3
  | .vmem => 18
  | .smem => 0
  | _ => 0

abbrev bufTy : (tb : Table) → Fin (tcTables nBuf tb) → BufTy
  | .hbm, ⟨0, _⟩ => ⟨S1024x32, .bf16⟩
  | .hbm, ⟨1, _⟩ => ⟨S32x1024, .bf16⟩
  | .hbm, ⟨2, _⟩ => ⟨S1024x1024, .f32⟩
  | .local _ .vmem, ⟨0, _⟩ => ⟨S1024x32, .bf16⟩
  | .local _ .vmem, ⟨1, _⟩ => ⟨S32x1024, .bf16⟩
  | .local _ .vmem, ⟨2, _⟩ => ⟨S1024x1024, .f32⟩
  | .local _ .vmem, ⟨3, _⟩ => ⟨S1024x1024, .bf16⟩
  | .local _ .vmem, ⟨4, _⟩ => ⟨S2x3x256x256, .bf16⟩
  | .local _ .vmem, ⟨5, _⟩ => ⟨S2x256x256, .bf16⟩
  | .local _ .vmem, ⟨6, _⟩ => ⟨S2x7x32x256, .bf16⟩
  | .local _ .vmem, ⟨7, _⟩ => ⟨S2x32x256, .bf16⟩
  | .local _ .vmem, ⟨8, _⟩ => ⟨S2x7x32x256, .bf16⟩
  | .local _ .vmem, ⟨9, _⟩ => ⟨S2x256x256, .bf16⟩
  | .local _ .vmem, ⟨10, _⟩ => ⟨S2x3x256x256, .bf16⟩
  | .local _ .vmem, ⟨11, _⟩ => ⟨S2x7x128x256, .bf16⟩
  | .local _ .vmem, ⟨12, _⟩ => ⟨S2x128x256, .bf16⟩
  | .local _ .vmem, ⟨13, _⟩ => ⟨S2x3x32x256, .bf16⟩
  | .local _ .vmem, ⟨14, _⟩ => ⟨S2x32x256, .bf16⟩
  | .local _ .vmem, ⟨15, _⟩ => ⟨S2x3x32x256, .bf16⟩
  | .local _ .vmem, ⟨16, _⟩ => ⟨S2x128x256, .bf16⟩
  | .local _ .vmem, ⟨17, _⟩ => ⟨S2x7x128x256, .bf16⟩
  | _, _ => ⟨S1024x32, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 163 → Bool
  | ⟨i, _⟩ => dmaSemScopedAt i

abbrev sig : RefSig :=
  (ofTc nBuf bufTy 1 163 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_16 : BitVec 32 := 1#32
  let v40 : BitVec 32 := Scalar.addi v19 c1_i32_16
  let c4_i32 : BitVec 32 := 4#32
  let c0_i32_17 : BitVec 32 := 0#32
  let v41 : BitVec 1 := Scalar.cmpi .eq c4_i32 c0_i32_17
  let c1_i32_18 : BitVec 32 := 1#32
  let v42 : BitVec 32 := Scalar.select v41 c1_i32_18 c4_i32
  let v43 : BitVec 32 := Scalar.remsi v40 v42
  let c0_i32_20 : BitVec 32 := 0#32
  let v45 : BitVec 1 := Scalar.cmpi .slt v43 c0_i32_20
  let c0_i32_21 : BitVec 32 := 0#32
  let v46 : BitVec 1 := Scalar.cmpi .slt v42 c0_i32_21
  let v47 : BitVec 1 := Scalar.xori v45 v46
  let c0_i32_19 : BitVec 32 := 0#32
  let v44 : BitVec 1 := Scalar.cmpi .ne v43 c0_i32_19
  let v48 : BitVec 1 := Scalar.andi v47 v44
  let v49 : BitVec 32 := Scalar.addi v43 v42
  let v50 : BitVec 32 := Scalar.select v48 v49 v43
  let c8_i32_22 : BitVec 32 := 8#32
  let v51 : BitVec 32 := Scalar.muli v50 c8_i32_22
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_24 : BitVec 32 := 1#32
  let v53 : BitVec 32 := Scalar.muli v52 c1_i32_24
  let v54 : BitVec 32 := Scalar.addi c0_i32_25 v53
  v54.toNat
def k0_dev2 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32 : BitVec 32 := 2#32
  let v55 : BitVec 32 := Scalar.addi v19 c2_i32
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c8_i32_32 : BitVec 32 := 8#32
  let v66 : BitVec 32 := Scalar.muli v65 c8_i32_32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v67 : BitVec 32 := Scalar.addi v66 v29
  let c1_i32_34 : BitVec 32 := 1#32
  let v68 : BitVec 32 := Scalar.muli v67 c1_i32_34
  let v69 : BitVec 32 := Scalar.addi c0_i32_35 v68
  v69.toNat
def k0_dev3 (d0 : Dev nD) : Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v70 : BitVec 32 := Scalar.addi v19 c3_i32
  let c4_i32_36 : BitVec 32 := 4#32
  let c0_i32_37 : BitVec 32 := 0#32
  let v71 : BitVec 1 := Scalar.cmpi .eq c4_i32_36 c0_i32_37
  let c1_i32_38 : BitVec 32 := 1#32
  let v72 : BitVec 32 := Scalar.select v71 c1_i32_38 c4_i32_36
  let v73 : BitVec 32 := Scalar.remsi v70 v72
  let c0_i32_40 : BitVec 32 := 0#32
  let v75 : BitVec 1 := Scalar.cmpi .slt v73 c0_i32_40
  let c0_i32_41 : BitVec 32 := 0#32
  let v76 : BitVec 1 := Scalar.cmpi .slt v72 c0_i32_41
  let v77 : BitVec 1 := Scalar.xori v75 v76
  let c0_i32_39 : BitVec 32 := 0#32
  let v74 : BitVec 1 := Scalar.cmpi .ne v73 c0_i32_39
  let v78 : BitVec 1 := Scalar.andi v77 v74
  let v79 : BitVec 32 := Scalar.addi v73 v72
  let v80 : BitVec 32 := Scalar.select v78 v79 v73
  let c8_i32_42 : BitVec 32 := 8#32
  let v81 : BitVec 32 := Scalar.muli v80 c8_i32_42
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v82 : BitVec 32 := Scalar.addi v81 v29
  let c1_i32_44 : BitVec 32 := 1#32
  let v83 : BitVec 32 := Scalar.muli v82 c1_i32_44
  let v84 : BitVec 32 := Scalar.addi c0_i32_45 v83
  v84.toNat
def k0_dev4 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_46 : BitVec 32 := 8#32
  let v85 : BitVec 32 := Scalar.muli v19 c8_i32_46
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_47 : BitVec 32 := 1#32
  let v86 : BitVec 32 := Scalar.addi v29 c1_i32_47
  let c8_i32_48 : BitVec 32 := 8#32
  let c0_i32_49 : BitVec 32 := 0#32
  let v87 : BitVec 1 := Scalar.cmpi .eq c8_i32_48 c0_i32_49
  let c1_i32_50 : BitVec 32 := 1#32
  let v88 : BitVec 32 := Scalar.select v87 c1_i32_50 c8_i32_48
  let v89 : BitVec 32 := Scalar.remsi v86 v88
  let c0_i32_52 : BitVec 32 := 0#32
  let v91 : BitVec 1 := Scalar.cmpi .slt v89 c0_i32_52
  let c0_i32_53 : BitVec 32 := 0#32
  let v92 : BitVec 1 := Scalar.cmpi .slt v88 c0_i32_53
  let v93 : BitVec 1 := Scalar.xori v91 v92
  let c0_i32_51 : BitVec 32 := 0#32
  let v90 : BitVec 1 := Scalar.cmpi .ne v89 c0_i32_51
  let v94 : BitVec 1 := Scalar.andi v93 v90
  let v95 : BitVec 32 := Scalar.addi v89 v88
  let v96 : BitVec 32 := Scalar.select v94 v95 v89
  let v97 : BitVec 32 := Scalar.addi v85 v96
  let c1_i32_55 : BitVec 32 := 1#32
  let v98 : BitVec 32 := Scalar.muli v97 c1_i32_55
  let v99 : BitVec 32 := Scalar.addi c0_i32_56 v98
  v99.toNat
def k0_dev5 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_57 : BitVec 32 := 8#32
  let v100 : BitVec 32 := Scalar.muli v19 c8_i32_57
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_58 : BitVec 32 := 2#32
  let v101 : BitVec 32 := Scalar.addi v29 c2_i32_58
  let c8_i32_59 : BitVec 32 := 8#32
  let c0_i32_60 : BitVec 32 := 0#32
  let v102 : BitVec 1 := Scalar.cmpi .eq c8_i32_59 c0_i32_60
  let c1_i32_61 : BitVec 32 := 1#32
  let v103 : BitVec 32 := Scalar.select v102 c1_i32_61 c8_i32_59
  let v104 : BitVec 32 := Scalar.remsi v101 v103
  let c0_i32_63 : BitVec 32 := 0#32
  let v106 : BitVec 1 := Scalar.cmpi .slt v104 c0_i32_63
  let c0_i32_64 : BitVec 32 := 0#32
  let v107 : BitVec 1 := Scalar.cmpi .slt v103 c0_i32_64
  let v108 : BitVec 1 := Scalar.xori v106 v107
  let c0_i32_62 : BitVec 32 := 0#32
  let v105 : BitVec 1 := Scalar.cmpi .ne v104 c0_i32_62
  let v109 : BitVec 1 := Scalar.andi v108 v105
  let v110 : BitVec 32 := Scalar.addi v104 v103
  let v111 : BitVec 32 := Scalar.select v109 v110 v104
  let v112 : BitVec 32 := Scalar.addi v100 v111
  let c1_i32_66 : BitVec 32 := 1#32
  let v113 : BitVec 32 := Scalar.muli v112 c1_i32_66
  let v114 : BitVec 32 := Scalar.addi c0_i32_67 v113
  v114.toNat
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_68 : BitVec 32 := 8#32
  let v115 : BitVec 32 := Scalar.muli v19 c8_i32_68
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_69 : BitVec 32 := 3#32
  let v116 : BitVec 32 := Scalar.addi v29 c3_i32_69
  let c8_i32_70 : BitVec 32 := 8#32
  let c0_i32_71 : BitVec 32 := 0#32
  let v117 : BitVec 1 := Scalar.cmpi .eq c8_i32_70 c0_i32_71
  let c1_i32_72 : BitVec 32 := 1#32
  let v118 : BitVec 32 := Scalar.select v117 c1_i32_72 c8_i32_70
  let v119 : BitVec 32 := Scalar.remsi v116 v118
  let c0_i32_74 : BitVec 32 := 0#32
  let v121 : BitVec 1 := Scalar.cmpi .slt v119 c0_i32_74
  let c0_i32_75 : BitVec 32 := 0#32
  let v122 : BitVec 1 := Scalar.cmpi .slt v118 c0_i32_75
  let v123 : BitVec 1 := Scalar.xori v121 v122
  let c0_i32_73 : BitVec 32 := 0#32
  let v120 : BitVec 1 := Scalar.cmpi .ne v119 c0_i32_73
  let v124 : BitVec 1 := Scalar.andi v123 v120
  let v125 : BitVec 32 := Scalar.addi v119 v118
  let v126 : BitVec 32 := Scalar.select v124 v125 v119
  let v127 : BitVec 32 := Scalar.addi v115 v126
  let c1_i32_77 : BitVec 32 := 1#32
  let v128 : BitVec 32 := Scalar.muli v127 c1_i32_77
  let v129 : BitVec 32 := Scalar.addi c0_i32_78 v128
  v129.toNat
def k0_dev7 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_79 : BitVec 32 := 8#32
  let v130 : BitVec 32 := Scalar.muli v19 c8_i32_79
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_80 : BitVec 32 := 4#32
  let v131 : BitVec 32 := Scalar.addi v29 c4_i32_80
  let c8_i32_81 : BitVec 32 := 8#32
  let c0_i32_82 : BitVec 32 := 0#32
  let v132 : BitVec 1 := Scalar.cmpi .eq c8_i32_81 c0_i32_82
  let c1_i32_83 : BitVec 32 := 1#32
  let v133 : BitVec 32 := Scalar.select v132 c1_i32_83 c8_i32_81
  let v134 : BitVec 32 := Scalar.remsi v131 v133
  let c0_i32_85 : BitVec 32 := 0#32
  let v136 : BitVec 1 := Scalar.cmpi .slt v134 c0_i32_85
  let c0_i32_86 : BitVec 32 := 0#32
  let v137 : BitVec 1 := Scalar.cmpi .slt v133 c0_i32_86
  let v138 : BitVec 1 := Scalar.xori v136 v137
  let c0_i32_84 : BitVec 32 := 0#32
  let v135 : BitVec 1 := Scalar.cmpi .ne v134 c0_i32_84
  let v139 : BitVec 1 := Scalar.andi v138 v135
  let v140 : BitVec 32 := Scalar.addi v134 v133
  let v141 : BitVec 32 := Scalar.select v139 v140 v134
  let v142 : BitVec 32 := Scalar.addi v130 v141
  let c1_i32_88 : BitVec 32 := 1#32
  let v143 : BitVec 32 := Scalar.muli v142 c1_i32_88
  let v144 : BitVec 32 := Scalar.addi c0_i32_89 v143
  v144.toNat
def k0_dev8 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_90 : BitVec 32 := 8#32
  let v145 : BitVec 32 := Scalar.muli v19 c8_i32_90
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32 : BitVec 32 := 5#32
  let v146 : BitVec 32 := Scalar.addi v29 c5_i32
  let c8_i32_91 : BitVec 32 := 8#32
  let c0_i32_92 : BitVec 32 := 0#32
  let v147 : BitVec 1 := Scalar.cmpi .eq c8_i32_91 c0_i32_92
  let c1_i32_93 : BitVec 32 := 1#32
  let v148 : BitVec 32 := Scalar.select v147 c1_i32_93 c8_i32_91
  let v149 : BitVec 32 := Scalar.remsi v146 v148
  let c0_i32_95 : BitVec 32 := 0#32
  let v151 : BitVec 1 := Scalar.cmpi .slt v149 c0_i32_95
  let c0_i32_96 : BitVec 32 := 0#32
  let v152 : BitVec 1 := Scalar.cmpi .slt v148 c0_i32_96
  let v153 : BitVec 1 := Scalar.xori v151 v152
  let c0_i32_94 : BitVec 32 := 0#32
  let v150 : BitVec 1 := Scalar.cmpi .ne v149 c0_i32_94
  let v154 : BitVec 1 := Scalar.andi v153 v150
  let v155 : BitVec 32 := Scalar.addi v149 v148
  let v156 : BitVec 32 := Scalar.select v154 v155 v149
  let v157 : BitVec 32 := Scalar.addi v145 v156
  let c1_i32_98 : BitVec 32 := 1#32
  let v158 : BitVec 32 := Scalar.muli v157 c1_i32_98
  let v159 : BitVec 32 := Scalar.addi c0_i32_99 v158
  v159.toNat
def k0_dev9 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_100 : BitVec 32 := 8#32
  let v160 : BitVec 32 := Scalar.muli v19 c8_i32_100
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32 : BitVec 32 := 6#32
  let v161 : BitVec 32 := Scalar.addi v29 c6_i32
  let c8_i32_101 : BitVec 32 := 8#32
  let c0_i32_102 : BitVec 32 := 0#32
  let v162 : BitVec 1 := Scalar.cmpi .eq c8_i32_101 c0_i32_102
  let c1_i32_103 : BitVec 32 := 1#32
  let v163 : BitVec 32 := Scalar.select v162 c1_i32_103 c8_i32_101
  let v164 : BitVec 32 := Scalar.remsi v161 v163
  let c0_i32_105 : BitVec 32 := 0#32
  let v166 : BitVec 1 := Scalar.cmpi .slt v164 c0_i32_105
  let c0_i32_106 : BitVec 32 := 0#32
  let v167 : BitVec 1 := Scalar.cmpi .slt v163 c0_i32_106
  let v168 : BitVec 1 := Scalar.xori v166 v167
  let c0_i32_104 : BitVec 32 := 0#32
  let v165 : BitVec 1 := Scalar.cmpi .ne v164 c0_i32_104
  let v169 : BitVec 1 := Scalar.andi v168 v165
  let v170 : BitVec 32 := Scalar.addi v164 v163
  let v171 : BitVec 32 := Scalar.select v169 v170 v164
  let v172 : BitVec 32 := Scalar.addi v160 v171
  let c1_i32_108 : BitVec 32 := 1#32
  let v173 : BitVec 32 := Scalar.muli v172 c1_i32_108
  let v174 : BitVec 32 := Scalar.addi c0_i32_109 v173
  v174.toNat
def k0_dev10 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_110 : BitVec 32 := 8#32
  let v175 : BitVec 32 := Scalar.muli v19 c8_i32_110
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32 : BitVec 32 := 7#32
  let v176 : BitVec 32 := Scalar.addi v29 c7_i32
  let c8_i32_111 : BitVec 32 := 8#32
  let c0_i32_112 : BitVec 32 := 0#32
  let v177 : BitVec 1 := Scalar.cmpi .eq c8_i32_111 c0_i32_112
  let c1_i32_113 : BitVec 32 := 1#32
  let v178 : BitVec 32 := Scalar.select v177 c1_i32_113 c8_i32_111
  let v179 : BitVec 32 := Scalar.remsi v176 v178
  let c0_i32_115 : BitVec 32 := 0#32
  let v181 : BitVec 1 := Scalar.cmpi .slt v179 c0_i32_115
  let c0_i32_116 : BitVec 32 := 0#32
  let v182 : BitVec 1 := Scalar.cmpi .slt v178 c0_i32_116
  let v183 : BitVec 1 := Scalar.xori v181 v182
  let c0_i32_114 : BitVec 32 := 0#32
  let v180 : BitVec 1 := Scalar.cmpi .ne v179 c0_i32_114
  let v184 : BitVec 1 := Scalar.andi v183 v180
  let v185 : BitVec 32 := Scalar.addi v179 v178
  let v186 : BitVec 32 := Scalar.select v184 v185 v179
  let v187 : BitVec 32 := Scalar.addi v175 v186
  let c1_i32_118 : BitVec 32 := 1#32
  let v188 : BitVec 32 := Scalar.muli v187 c1_i32_118
  let v189 : BitVec 32 := Scalar.addi c0_i32_119 v188
  v189.toNat
def k0_off1 (d0 : Dev nD) (c1_i32_120 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v190 : BitVec 32 := Scalar.addi v19 c1_i32_120
  let c4_i32_121 : BitVec 32 := 4#32
  let c0_i32_122 : BitVec 32 := 0#32
  let v191 : BitVec 1 := Scalar.cmpi .eq c4_i32_121 c0_i32_122
  let c1_i32_123 : BitVec 32 := 1#32
  let v192 : BitVec 32 := Scalar.select v191 c1_i32_123 c4_i32_121
  let v193 : BitVec 32 := Scalar.remsi v190 v192
  let c0_i32_125 : BitVec 32 := 0#32
  let v195 : BitVec 1 := Scalar.cmpi .slt v193 c0_i32_125
  let c0_i32_126 : BitVec 32 := 0#32
  let v196 : BitVec 1 := Scalar.cmpi .slt v192 c0_i32_126
  let v197 : BitVec 1 := Scalar.xori v195 v196
  let c0_i32_124 : BitVec 32 := 0#32
  let v194 : BitVec 1 := Scalar.cmpi .ne v193 c0_i32_124
  let v198 : BitVec 1 := Scalar.andi v197 v194
  let v199 : BitVec 32 := Scalar.addi v193 v192
  let v200 : BitVec 32 := Scalar.select v198 v199 v193
  let c256_i32 : BitVec 32 := 256#32
  let v201 : BitVec 32 := Scalar.muli v200 c256_i32
  let c0_i32_145 : BitVec 32 := 0#32
  ![v201.toNat, 0]
def k0_dev11 (d0 : Dev nD) : Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_127 : BitVec 32 := 1#32
  let v202 : BitVec 32 := Scalar.addi v19 c1_i32_127
  let c4_i32_128 : BitVec 32 := 4#32
  let c0_i32_129 : BitVec 32 := 0#32
  let v203 : BitVec 1 := Scalar.cmpi .eq c4_i32_128 c0_i32_129
  let c1_i32_130 : BitVec 32 := 1#32
  let v204 : BitVec 32 := Scalar.select v203 c1_i32_130 c4_i32_128
  let v205 : BitVec 32 := Scalar.remsi v202 v204
  let c0_i32_132 : BitVec 32 := 0#32
  let v207 : BitVec 1 := Scalar.cmpi .slt v205 c0_i32_132
  let c0_i32_133 : BitVec 32 := 0#32
  let v208 : BitVec 1 := Scalar.cmpi .slt v204 c0_i32_133
  let v209 : BitVec 1 := Scalar.xori v207 v208
  let c0_i32_131 : BitVec 32 := 0#32
  let v206 : BitVec 1 := Scalar.cmpi .ne v205 c0_i32_131
  let v210 : BitVec 1 := Scalar.andi v209 v206
  let v211 : BitVec 32 := Scalar.addi v205 v204
  let v212 : BitVec 32 := Scalar.select v210 v211 v205
  let c8_i32_134 : BitVec 32 := 8#32
  let v213 : BitVec 32 := Scalar.muli v212 c8_i32_134
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v214 : BitVec 32 := Scalar.addi v213 v29
  let c1_i32_141 : BitVec 32 := 1#32
  let v215 : BitVec 32 := Scalar.muli v214 c1_i32_141
  let v216 : BitVec 32 := Scalar.addi c0_i32_142 v215
  v216.toNat
def k0_dev12 (d0 : Dev nD) : Nat :=
  let c0_i32_169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_154 : BitVec 32 := 2#32
  let v236 : BitVec 32 := Scalar.addi v19 c2_i32_154
  let c4_i32_155 : BitVec 32 := 4#32
  let c0_i32_156 : BitVec 32 := 0#32
  let v237 : BitVec 1 := Scalar.cmpi .eq c4_i32_155 c0_i32_156
  let c1_i32_157 : BitVec 32 := 1#32
  let v238 : BitVec 32 := Scalar.select v237 c1_i32_157 c4_i32_155
  let v239 : BitVec 32 := Scalar.remsi v236 v238
  let c0_i32_159 : BitVec 32 := 0#32
  let v241 : BitVec 1 := Scalar.cmpi .slt v239 c0_i32_159
  let c0_i32_160 : BitVec 32 := 0#32
  let v242 : BitVec 1 := Scalar.cmpi .slt v238 c0_i32_160
  let v243 : BitVec 1 := Scalar.xori v241 v242
  let c0_i32_158 : BitVec 32 := 0#32
  let v240 : BitVec 1 := Scalar.cmpi .ne v239 c0_i32_158
  let v244 : BitVec 1 := Scalar.andi v243 v240
  let v245 : BitVec 32 := Scalar.addi v239 v238
  let v246 : BitVec 32 := Scalar.select v244 v245 v239
  let c8_i32_161 : BitVec 32 := 8#32
  let v247 : BitVec 32 := Scalar.muli v246 c8_i32_161
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v248 : BitVec 32 := Scalar.addi v247 v29
  let c1_i32_168 : BitVec 32 := 1#32
  let v249 : BitVec 32 := Scalar.muli v248 c1_i32_168
  let v250 : BitVec 32 := Scalar.addi c0_i32_169 v249
  v250.toNat
def k0_dev13 (d0 : Dev nD) : Nat :=
  let c0_i32_196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_181 : BitVec 32 := 3#32
  let v270 : BitVec 32 := Scalar.addi v19 c3_i32_181
  let c4_i32_182 : BitVec 32 := 4#32
  let c0_i32_183 : BitVec 32 := 0#32
  let v271 : BitVec 1 := Scalar.cmpi .eq c4_i32_182 c0_i32_183
  let c1_i32_184 : BitVec 32 := 1#32
  let v272 : BitVec 32 := Scalar.select v271 c1_i32_184 c4_i32_182
  let v273 : BitVec 32 := Scalar.remsi v270 v272
  let c0_i32_186 : BitVec 32 := 0#32
  let v275 : BitVec 1 := Scalar.cmpi .slt v273 c0_i32_186
  let c0_i32_187 : BitVec 32 := 0#32
  let v276 : BitVec 1 := Scalar.cmpi .slt v272 c0_i32_187
  let v277 : BitVec 1 := Scalar.xori v275 v276
  let c0_i32_185 : BitVec 32 := 0#32
  let v274 : BitVec 1 := Scalar.cmpi .ne v273 c0_i32_185
  let v278 : BitVec 1 := Scalar.andi v277 v274
  let v279 : BitVec 32 := Scalar.addi v273 v272
  let v280 : BitVec 32 := Scalar.select v278 v279 v273
  let c8_i32_188 : BitVec 32 := 8#32
  let v281 : BitVec 32 := Scalar.muli v280 c8_i32_188
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v282 : BitVec 32 := Scalar.addi v281 v29
  let c1_i32_195 : BitVec 32 := 1#32
  let v283 : BitVec 32 := Scalar.muli v282 c1_i32_195
  let v284 : BitVec 32 := Scalar.addi c0_i32_196 v283
  v284.toNat
def k0_off2 (d0 : Dev nD) (c1_i32_200 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v292 : BitVec 32 := Scalar.addi v19 c1_i32_200
  let c4_i32_201 : BitVec 32 := 4#32
  let c0_i32_202 : BitVec 32 := 0#32
  let v293 : BitVec 1 := Scalar.cmpi .eq c4_i32_201 c0_i32_202
  let c1_i32_203 : BitVec 32 := 1#32
  let v294 : BitVec 32 := Scalar.select v293 c1_i32_203 c4_i32_201
  let v295 : BitVec 32 := Scalar.remsi v292 v294
  let c0_i32_205 : BitVec 32 := 0#32
  let v297 : BitVec 1 := Scalar.cmpi .slt v295 c0_i32_205
  let c0_i32_206 : BitVec 32 := 0#32
  let v298 : BitVec 1 := Scalar.cmpi .slt v294 c0_i32_206
  let v299 : BitVec 1 := Scalar.xori v297 v298
  let c0_i32_204 : BitVec 32 := 0#32
  let v296 : BitVec 1 := Scalar.cmpi .ne v295 c0_i32_204
  let v300 : BitVec 1 := Scalar.andi v299 v296
  let v301 : BitVec 32 := Scalar.addi v295 v294
  let v302 : BitVec 32 := Scalar.select v300 v301 v295
  let c256_i32_207 : BitVec 32 := 256#32
  let v303 : BitVec 32 := Scalar.muli v302 c256_i32_207
  let c256_i32_226 : BitVec 32 := 256#32
  ![v303.toNat, 256]
def k0_dev14 (d0 : Dev nD) : Nat :=
  let c0_i32_223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_208 : BitVec 32 := 1#32
  let v304 : BitVec 32 := Scalar.addi v19 c1_i32_208
  let c4_i32_209 : BitVec 32 := 4#32
  let c0_i32_210 : BitVec 32 := 0#32
  let v305 : BitVec 1 := Scalar.cmpi .eq c4_i32_209 c0_i32_210
  let c1_i32_211 : BitVec 32 := 1#32
  let v306 : BitVec 32 := Scalar.select v305 c1_i32_211 c4_i32_209
  let v307 : BitVec 32 := Scalar.remsi v304 v306
  let c0_i32_213 : BitVec 32 := 0#32
  let v309 : BitVec 1 := Scalar.cmpi .slt v307 c0_i32_213
  let c0_i32_214 : BitVec 32 := 0#32
  let v310 : BitVec 1 := Scalar.cmpi .slt v306 c0_i32_214
  let v311 : BitVec 1 := Scalar.xori v309 v310
  let c0_i32_212 : BitVec 32 := 0#32
  let v308 : BitVec 1 := Scalar.cmpi .ne v307 c0_i32_212
  let v312 : BitVec 1 := Scalar.andi v311 v308
  let v313 : BitVec 32 := Scalar.addi v307 v306
  let v314 : BitVec 32 := Scalar.select v312 v313 v307
  let c8_i32_215 : BitVec 32 := 8#32
  let v315 : BitVec 32 := Scalar.muli v314 c8_i32_215
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v316 : BitVec 32 := Scalar.addi v315 v29
  let c1_i32_222 : BitVec 32 := 1#32
  let v317 : BitVec 32 := Scalar.muli v316 c1_i32_222
  let v318 : BitVec 32 := Scalar.addi c0_i32_223 v317
  v318.toNat
def k0_dev15 (d0 : Dev nD) : Nat :=
  let c0_i32_250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_235 : BitVec 32 := 2#32
  let v338 : BitVec 32 := Scalar.addi v19 c2_i32_235
  let c4_i32_236 : BitVec 32 := 4#32
  let c0_i32_237 : BitVec 32 := 0#32
  let v339 : BitVec 1 := Scalar.cmpi .eq c4_i32_236 c0_i32_237
  let c1_i32_238 : BitVec 32 := 1#32
  let v340 : BitVec 32 := Scalar.select v339 c1_i32_238 c4_i32_236
  let v341 : BitVec 32 := Scalar.remsi v338 v340
  let c0_i32_240 : BitVec 32 := 0#32
  let v343 : BitVec 1 := Scalar.cmpi .slt v341 c0_i32_240
  let c0_i32_241 : BitVec 32 := 0#32
  let v344 : BitVec 1 := Scalar.cmpi .slt v340 c0_i32_241
  let v345 : BitVec 1 := Scalar.xori v343 v344
  let c0_i32_239 : BitVec 32 := 0#32
  let v342 : BitVec 1 := Scalar.cmpi .ne v341 c0_i32_239
  let v346 : BitVec 1 := Scalar.andi v345 v342
  let v347 : BitVec 32 := Scalar.addi v341 v340
  let v348 : BitVec 32 := Scalar.select v346 v347 v341
  let c8_i32_242 : BitVec 32 := 8#32
  let v349 : BitVec 32 := Scalar.muli v348 c8_i32_242
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v350 : BitVec 32 := Scalar.addi v349 v29
  let c1_i32_249 : BitVec 32 := 1#32
  let v351 : BitVec 32 := Scalar.muli v350 c1_i32_249
  let v352 : BitVec 32 := Scalar.addi c0_i32_250 v351
  v352.toNat
def k0_dev16 (d0 : Dev nD) : Nat :=
  let c0_i32_277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_262 : BitVec 32 := 3#32
  let v372 : BitVec 32 := Scalar.addi v19 c3_i32_262
  let c4_i32_263 : BitVec 32 := 4#32
  let c0_i32_264 : BitVec 32 := 0#32
  let v373 : BitVec 1 := Scalar.cmpi .eq c4_i32_263 c0_i32_264
  let c1_i32_265 : BitVec 32 := 1#32
  let v374 : BitVec 32 := Scalar.select v373 c1_i32_265 c4_i32_263
  let v375 : BitVec 32 := Scalar.remsi v372 v374
  let c0_i32_267 : BitVec 32 := 0#32
  let v377 : BitVec 1 := Scalar.cmpi .slt v375 c0_i32_267
  let c0_i32_268 : BitVec 32 := 0#32
  let v378 : BitVec 1 := Scalar.cmpi .slt v374 c0_i32_268
  let v379 : BitVec 1 := Scalar.xori v377 v378
  let c0_i32_266 : BitVec 32 := 0#32
  let v376 : BitVec 1 := Scalar.cmpi .ne v375 c0_i32_266
  let v380 : BitVec 1 := Scalar.andi v379 v376
  let v381 : BitVec 32 := Scalar.addi v375 v374
  let v382 : BitVec 32 := Scalar.select v380 v381 v375
  let c8_i32_269 : BitVec 32 := 8#32
  let v383 : BitVec 32 := Scalar.muli v382 c8_i32_269
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v384 : BitVec 32 := Scalar.addi v383 v29
  let c1_i32_276 : BitVec 32 := 1#32
  let v385 : BitVec 32 := Scalar.muli v384 c1_i32_276
  let v386 : BitVec 32 := Scalar.addi c0_i32_277 v385
  v386.toNat
def k0_off3 (d0 : Dev nD) (c1_i32_285 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v401 : BitVec 32 := Scalar.addi v29 c1_i32_285
  let c8_i32_286 : BitVec 32 := 8#32
  let c0_i32_287 : BitVec 32 := 0#32
  let v402 : BitVec 1 := Scalar.cmpi .eq c8_i32_286 c0_i32_287
  let c1_i32_288 : BitVec 32 := 1#32
  let v403 : BitVec 32 := Scalar.select v402 c1_i32_288 c8_i32_286
  let v404 : BitVec 32 := Scalar.remsi v401 v403
  let c0_i32_290 : BitVec 32 := 0#32
  let v406 : BitVec 1 := Scalar.cmpi .slt v404 c0_i32_290
  let c0_i32_291 : BitVec 32 := 0#32
  let v407 : BitVec 1 := Scalar.cmpi .slt v403 c0_i32_291
  let v408 : BitVec 1 := Scalar.xori v406 v407
  let c0_i32_289 : BitVec 32 := 0#32
  let v405 : BitVec 1 := Scalar.cmpi .ne v404 c0_i32_289
  let v409 : BitVec 1 := Scalar.andi v408 v405
  let v410 : BitVec 32 := Scalar.addi v404 v403
  let v411 : BitVec 32 := Scalar.select v409 v410 v404
  let c128_i32 : BitVec 32 := 128#32
  let v412 : BitVec 32 := Scalar.muli v411 c128_i32
  let c512_i32 : BitVec 32 := 512#32
  ![v412.toNat, 512]
def k0_dev17 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_292 : BitVec 32 := 8#32
  let v413 : BitVec 32 := Scalar.muli v19 c8_i32_292
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_293 : BitVec 32 := 1#32
  let v414 : BitVec 32 := Scalar.addi v29 c1_i32_293
  let c8_i32_294 : BitVec 32 := 8#32
  let c0_i32_295 : BitVec 32 := 0#32
  let v415 : BitVec 1 := Scalar.cmpi .eq c8_i32_294 c0_i32_295
  let c1_i32_296 : BitVec 32 := 1#32
  let v416 : BitVec 32 := Scalar.select v415 c1_i32_296 c8_i32_294
  let v417 : BitVec 32 := Scalar.remsi v414 v416
  let c0_i32_298 : BitVec 32 := 0#32
  let v419 : BitVec 1 := Scalar.cmpi .slt v417 c0_i32_298
  let c0_i32_299 : BitVec 32 := 0#32
  let v420 : BitVec 1 := Scalar.cmpi .slt v416 c0_i32_299
  let v421 : BitVec 1 := Scalar.xori v419 v420
  let c0_i32_297 : BitVec 32 := 0#32
  let v418 : BitVec 1 := Scalar.cmpi .ne v417 c0_i32_297
  let v422 : BitVec 1 := Scalar.andi v421 v418
  let v423 : BitVec 32 := Scalar.addi v417 v416
  let v424 : BitVec 32 := Scalar.select v422 v423 v417
  let v425 : BitVec 32 := Scalar.addi v413 v424
  let c1_i32_306 : BitVec 32 := 1#32
  let v426 : BitVec 32 := Scalar.muli v425 c1_i32_306
  let v427 : BitVec 32 := Scalar.addi c0_i32_307 v426
  v427.toNat
def k0_dev18 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_318 : BitVec 32 := 8#32
  let v447 : BitVec 32 := Scalar.muli v19 c8_i32_318
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_319 : BitVec 32 := 2#32
  let v448 : BitVec 32 := Scalar.addi v29 c2_i32_319
  let c8_i32_320 : BitVec 32 := 8#32
  let c0_i32_321 : BitVec 32 := 0#32
  let v449 : BitVec 1 := Scalar.cmpi .eq c8_i32_320 c0_i32_321
  let c1_i32_322 : BitVec 32 := 1#32
  let v450 : BitVec 32 := Scalar.select v449 c1_i32_322 c8_i32_320
  let v451 : BitVec 32 := Scalar.remsi v448 v450
  let c0_i32_324 : BitVec 32 := 0#32
  let v453 : BitVec 1 := Scalar.cmpi .slt v451 c0_i32_324
  let c0_i32_325 : BitVec 32 := 0#32
  let v454 : BitVec 1 := Scalar.cmpi .slt v450 c0_i32_325
  let v455 : BitVec 1 := Scalar.xori v453 v454
  let c0_i32_323 : BitVec 32 := 0#32
  let v452 : BitVec 1 := Scalar.cmpi .ne v451 c0_i32_323
  let v456 : BitVec 1 := Scalar.andi v455 v452
  let v457 : BitVec 32 := Scalar.addi v451 v450
  let v458 : BitVec 32 := Scalar.select v456 v457 v451
  let v459 : BitVec 32 := Scalar.addi v447 v458
  let c1_i32_332 : BitVec 32 := 1#32
  let v460 : BitVec 32 := Scalar.muli v459 c1_i32_332
  let v461 : BitVec 32 := Scalar.addi c0_i32_333 v460
  v461.toNat
def k0_dev19 (d0 : Dev nD) : Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_345 : BitVec 32 := 8#32
  let v481 : BitVec 32 := Scalar.muli v19 c8_i32_345
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_346 : BitVec 32 := 3#32
  let v482 : BitVec 32 := Scalar.addi v29 c3_i32_346
  let c8_i32_347 : BitVec 32 := 8#32
  let c0_i32_348 : BitVec 32 := 0#32
  let v483 : BitVec 1 := Scalar.cmpi .eq c8_i32_347 c0_i32_348
  let c1_i32_349 : BitVec 32 := 1#32
  let v484 : BitVec 32 := Scalar.select v483 c1_i32_349 c8_i32_347
  let v485 : BitVec 32 := Scalar.remsi v482 v484
  let c0_i32_351 : BitVec 32 := 0#32
  let v487 : BitVec 1 := Scalar.cmpi .slt v485 c0_i32_351
  let c0_i32_352 : BitVec 32 := 0#32
  let v488 : BitVec 1 := Scalar.cmpi .slt v484 c0_i32_352
  let v489 : BitVec 1 := Scalar.xori v487 v488
  let c0_i32_350 : BitVec 32 := 0#32
  let v486 : BitVec 1 := Scalar.cmpi .ne v485 c0_i32_350
  let v490 : BitVec 1 := Scalar.andi v489 v486
  let v491 : BitVec 32 := Scalar.addi v485 v484
  let v492 : BitVec 32 := Scalar.select v490 v491 v485
  let v493 : BitVec 32 := Scalar.addi v481 v492
  let c1_i32_359 : BitVec 32 := 1#32
  let v494 : BitVec 32 := Scalar.muli v493 c1_i32_359
  let v495 : BitVec 32 := Scalar.addi c0_i32_360 v494
  v495.toNat
def k0_dev20 (d0 : Dev nD) : Nat :=
  let c0_i32_387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_372 : BitVec 32 := 8#32
  let v515 : BitVec 32 := Scalar.muli v19 c8_i32_372
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_373 : BitVec 32 := 4#32
  let v516 : BitVec 32 := Scalar.addi v29 c4_i32_373
  let c8_i32_374 : BitVec 32 := 8#32
  let c0_i32_375 : BitVec 32 := 0#32
  let v517 : BitVec 1 := Scalar.cmpi .eq c8_i32_374 c0_i32_375
  let c1_i32_376 : BitVec 32 := 1#32
  let v518 : BitVec 32 := Scalar.select v517 c1_i32_376 c8_i32_374
  let v519 : BitVec 32 := Scalar.remsi v516 v518
  let c0_i32_378 : BitVec 32 := 0#32
  let v521 : BitVec 1 := Scalar.cmpi .slt v519 c0_i32_378
  let c0_i32_379 : BitVec 32 := 0#32
  let v522 : BitVec 1 := Scalar.cmpi .slt v518 c0_i32_379
  let v523 : BitVec 1 := Scalar.xori v521 v522
  let c0_i32_377 : BitVec 32 := 0#32
  let v520 : BitVec 1 := Scalar.cmpi .ne v519 c0_i32_377
  let v524 : BitVec 1 := Scalar.andi v523 v520
  let v525 : BitVec 32 := Scalar.addi v519 v518
  let v526 : BitVec 32 := Scalar.select v524 v525 v519
  let v527 : BitVec 32 := Scalar.addi v515 v526
  let c1_i32_386 : BitVec 32 := 1#32
  let v528 : BitVec 32 := Scalar.muli v527 c1_i32_386
  let v529 : BitVec 32 := Scalar.addi c0_i32_387 v528
  v529.toNat
def k0_dev21 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_399 : BitVec 32 := 8#32
  let v549 : BitVec 32 := Scalar.muli v19 c8_i32_399
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32_400 : BitVec 32 := 5#32
  let v550 : BitVec 32 := Scalar.addi v29 c5_i32_400
  let c8_i32_401 : BitVec 32 := 8#32
  let c0_i32_402 : BitVec 32 := 0#32
  let v551 : BitVec 1 := Scalar.cmpi .eq c8_i32_401 c0_i32_402
  let c1_i32_403 : BitVec 32 := 1#32
  let v552 : BitVec 32 := Scalar.select v551 c1_i32_403 c8_i32_401
  let v553 : BitVec 32 := Scalar.remsi v550 v552
  let c0_i32_405 : BitVec 32 := 0#32
  let v555 : BitVec 1 := Scalar.cmpi .slt v553 c0_i32_405
  let c0_i32_406 : BitVec 32 := 0#32
  let v556 : BitVec 1 := Scalar.cmpi .slt v552 c0_i32_406
  let v557 : BitVec 1 := Scalar.xori v555 v556
  let c0_i32_404 : BitVec 32 := 0#32
  let v554 : BitVec 1 := Scalar.cmpi .ne v553 c0_i32_404
  let v558 : BitVec 1 := Scalar.andi v557 v554
  let v559 : BitVec 32 := Scalar.addi v553 v552
  let v560 : BitVec 32 := Scalar.select v558 v559 v553
  let v561 : BitVec 32 := Scalar.addi v549 v560
  let c1_i32_413 : BitVec 32 := 1#32
  let v562 : BitVec 32 := Scalar.muli v561 c1_i32_413
  let v563 : BitVec 32 := Scalar.addi c0_i32_414 v562
  v563.toNat
def k0_dev22 (d0 : Dev nD) : Nat :=
  let c0_i32_441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_426 : BitVec 32 := 8#32
  let v583 : BitVec 32 := Scalar.muli v19 c8_i32_426
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32_427 : BitVec 32 := 6#32
  let v584 : BitVec 32 := Scalar.addi v29 c6_i32_427
  let c8_i32_428 : BitVec 32 := 8#32
  let c0_i32_429 : BitVec 32 := 0#32
  let v585 : BitVec 1 := Scalar.cmpi .eq c8_i32_428 c0_i32_429
  let c1_i32_430 : BitVec 32 := 1#32
  let v586 : BitVec 32 := Scalar.select v585 c1_i32_430 c8_i32_428
  let v587 : BitVec 32 := Scalar.remsi v584 v586
  let c0_i32_432 : BitVec 32 := 0#32
  let v589 : BitVec 1 := Scalar.cmpi .slt v587 c0_i32_432
  let c0_i32_433 : BitVec 32 := 0#32
  let v590 : BitVec 1 := Scalar.cmpi .slt v586 c0_i32_433
  let v591 : BitVec 1 := Scalar.xori v589 v590
  let c0_i32_431 : BitVec 32 := 0#32
  let v588 : BitVec 1 := Scalar.cmpi .ne v587 c0_i32_431
  let v592 : BitVec 1 := Scalar.andi v591 v588
  let v593 : BitVec 32 := Scalar.addi v587 v586
  let v594 : BitVec 32 := Scalar.select v592 v593 v587
  let v595 : BitVec 32 := Scalar.addi v583 v594
  let c1_i32_440 : BitVec 32 := 1#32
  let v596 : BitVec 32 := Scalar.muli v595 c1_i32_440
  let v597 : BitVec 32 := Scalar.addi c0_i32_441 v596
  v597.toNat
def k0_dev23 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_453 : BitVec 32 := 8#32
  let v617 : BitVec 32 := Scalar.muli v19 c8_i32_453
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_454 : BitVec 32 := 7#32
  let v618 : BitVec 32 := Scalar.addi v29 c7_i32_454
  let c8_i32_455 : BitVec 32 := 8#32
  let c0_i32_456 : BitVec 32 := 0#32
  let v619 : BitVec 1 := Scalar.cmpi .eq c8_i32_455 c0_i32_456
  let c1_i32_457 : BitVec 32 := 1#32
  let v620 : BitVec 32 := Scalar.select v619 c1_i32_457 c8_i32_455
  let v621 : BitVec 32 := Scalar.remsi v618 v620
  let c0_i32_459 : BitVec 32 := 0#32
  let v623 : BitVec 1 := Scalar.cmpi .slt v621 c0_i32_459
  let c0_i32_460 : BitVec 32 := 0#32
  let v624 : BitVec 1 := Scalar.cmpi .slt v620 c0_i32_460
  let v625 : BitVec 1 := Scalar.xori v623 v624
  let c0_i32_458 : BitVec 32 := 0#32
  let v622 : BitVec 1 := Scalar.cmpi .ne v621 c0_i32_458
  let v626 : BitVec 1 := Scalar.andi v625 v622
  let v627 : BitVec 32 := Scalar.addi v621 v620
  let v628 : BitVec 32 := Scalar.select v626 v627 v621
  let v629 : BitVec 32 := Scalar.addi v617 v628
  let c1_i32_467 : BitVec 32 := 1#32
  let v630 : BitVec 32 := Scalar.muli v629 c1_i32_467
  let v631 : BitVec 32 := Scalar.addi c0_i32_468 v630
  v631.toNat
def k0_off4 (d0 : Dev nD) (c1_i32_472 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v639 : BitVec 32 := Scalar.addi v29 c1_i32_472
  let c8_i32_473 : BitVec 32 := 8#32
  let c0_i32_474 : BitVec 32 := 0#32
  let v640 : BitVec 1 := Scalar.cmpi .eq c8_i32_473 c0_i32_474
  let c1_i32_475 : BitVec 32 := 1#32
  let v641 : BitVec 32 := Scalar.select v640 c1_i32_475 c8_i32_473
  let v642 : BitVec 32 := Scalar.remsi v639 v641
  let c0_i32_477 : BitVec 32 := 0#32
  let v644 : BitVec 1 := Scalar.cmpi .slt v642 c0_i32_477
  let c0_i32_478 : BitVec 32 := 0#32
  let v645 : BitVec 1 := Scalar.cmpi .slt v641 c0_i32_478
  let v646 : BitVec 1 := Scalar.xori v644 v645
  let c0_i32_476 : BitVec 32 := 0#32
  let v643 : BitVec 1 := Scalar.cmpi .ne v642 c0_i32_476
  let v647 : BitVec 1 := Scalar.andi v646 v643
  let v648 : BitVec 32 := Scalar.addi v642 v641
  let v649 : BitVec 32 := Scalar.select v647 v648 v642
  let c128_i32_479 : BitVec 32 := 128#32
  let v650 : BitVec 32 := Scalar.muli v649 c128_i32_479
  let c768_i32 : BitVec 32 := 768#32
  ![v650.toNat, 768]
def k0_dev24 (d0 : Dev nD) : Nat :=
  let c0_i32_495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_480 : BitVec 32 := 8#32
  let v651 : BitVec 32 := Scalar.muli v19 c8_i32_480
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_481 : BitVec 32 := 1#32
  let v652 : BitVec 32 := Scalar.addi v29 c1_i32_481
  let c8_i32_482 : BitVec 32 := 8#32
  let c0_i32_483 : BitVec 32 := 0#32
  let v653 : BitVec 1 := Scalar.cmpi .eq c8_i32_482 c0_i32_483
  let c1_i32_484 : BitVec 32 := 1#32
  let v654 : BitVec 32 := Scalar.select v653 c1_i32_484 c8_i32_482
  let v655 : BitVec 32 := Scalar.remsi v652 v654
  let c0_i32_486 : BitVec 32 := 0#32
  let v657 : BitVec 1 := Scalar.cmpi .slt v655 c0_i32_486
  let c0_i32_487 : BitVec 32 := 0#32
  let v658 : BitVec 1 := Scalar.cmpi .slt v654 c0_i32_487
  let v659 : BitVec 1 := Scalar.xori v657 v658
  let c0_i32_485 : BitVec 32 := 0#32
  let v656 : BitVec 1 := Scalar.cmpi .ne v655 c0_i32_485
  let v660 : BitVec 1 := Scalar.andi v659 v656
  let v661 : BitVec 32 := Scalar.addi v655 v654
  let v662 : BitVec 32 := Scalar.select v660 v661 v655
  let v663 : BitVec 32 := Scalar.addi v651 v662
  let c1_i32_494 : BitVec 32 := 1#32
  let v664 : BitVec 32 := Scalar.muli v663 c1_i32_494
  let v665 : BitVec 32 := Scalar.addi c0_i32_495 v664
  v665.toNat
def k0_dev25 (d0 : Dev nD) : Nat :=
  let c0_i32_521 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_506 : BitVec 32 := 8#32
  let v685 : BitVec 32 := Scalar.muli v19 c8_i32_506
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_507 : BitVec 32 := 2#32
  let v686 : BitVec 32 := Scalar.addi v29 c2_i32_507
  let c8_i32_508 : BitVec 32 := 8#32
  let c0_i32_509 : BitVec 32 := 0#32
  let v687 : BitVec 1 := Scalar.cmpi .eq c8_i32_508 c0_i32_509
  let c1_i32_510 : BitVec 32 := 1#32
  let v688 : BitVec 32 := Scalar.select v687 c1_i32_510 c8_i32_508
  let v689 : BitVec 32 := Scalar.remsi v686 v688
  let c0_i32_512 : BitVec 32 := 0#32
  let v691 : BitVec 1 := Scalar.cmpi .slt v689 c0_i32_512
  let c0_i32_513 : BitVec 32 := 0#32
  let v692 : BitVec 1 := Scalar.cmpi .slt v688 c0_i32_513
  let v693 : BitVec 1 := Scalar.xori v691 v692
  let c0_i32_511 : BitVec 32 := 0#32
  let v690 : BitVec 1 := Scalar.cmpi .ne v689 c0_i32_511
  let v694 : BitVec 1 := Scalar.andi v693 v690
  let v695 : BitVec 32 := Scalar.addi v689 v688
  let v696 : BitVec 32 := Scalar.select v694 v695 v689
  let v697 : BitVec 32 := Scalar.addi v685 v696
  let c1_i32_520 : BitVec 32 := 1#32
  let v698 : BitVec 32 := Scalar.muli v697 c1_i32_520
  let v699 : BitVec 32 := Scalar.addi c0_i32_521 v698
  v699.toNat
def k0_dev26 (d0 : Dev nD) : Nat :=
  let c0_i32_548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_533 : BitVec 32 := 8#32
  let v719 : BitVec 32 := Scalar.muli v19 c8_i32_533
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_534 : BitVec 32 := 3#32
  let v720 : BitVec 32 := Scalar.addi v29 c3_i32_534
  let c8_i32_535 : BitVec 32 := 8#32
  let c0_i32_536 : BitVec 32 := 0#32
  let v721 : BitVec 1 := Scalar.cmpi .eq c8_i32_535 c0_i32_536
  let c1_i32_537 : BitVec 32 := 1#32
  let v722 : BitVec 32 := Scalar.select v721 c1_i32_537 c8_i32_535
  let v723 : BitVec 32 := Scalar.remsi v720 v722
  let c0_i32_539 : BitVec 32 := 0#32
  let v725 : BitVec 1 := Scalar.cmpi .slt v723 c0_i32_539
  let c0_i32_540 : BitVec 32 := 0#32
  let v726 : BitVec 1 := Scalar.cmpi .slt v722 c0_i32_540
  let v727 : BitVec 1 := Scalar.xori v725 v726
  let c0_i32_538 : BitVec 32 := 0#32
  let v724 : BitVec 1 := Scalar.cmpi .ne v723 c0_i32_538
  let v728 : BitVec 1 := Scalar.andi v727 v724
  let v729 : BitVec 32 := Scalar.addi v723 v722
  let v730 : BitVec 32 := Scalar.select v728 v729 v723
  let v731 : BitVec 32 := Scalar.addi v719 v730
  let c1_i32_547 : BitVec 32 := 1#32
  let v732 : BitVec 32 := Scalar.muli v731 c1_i32_547
  let v733 : BitVec 32 := Scalar.addi c0_i32_548 v732
  v733.toNat
def k0_dev27 (d0 : Dev nD) : Nat :=
  let c0_i32_575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_560 : BitVec 32 := 8#32
  let v753 : BitVec 32 := Scalar.muli v19 c8_i32_560
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_561 : BitVec 32 := 4#32
  let v754 : BitVec 32 := Scalar.addi v29 c4_i32_561
  let c8_i32_562 : BitVec 32 := 8#32
  let c0_i32_563 : BitVec 32 := 0#32
  let v755 : BitVec 1 := Scalar.cmpi .eq c8_i32_562 c0_i32_563
  let c1_i32_564 : BitVec 32 := 1#32
  let v756 : BitVec 32 := Scalar.select v755 c1_i32_564 c8_i32_562
  let v757 : BitVec 32 := Scalar.remsi v754 v756
  let c0_i32_566 : BitVec 32 := 0#32
  let v759 : BitVec 1 := Scalar.cmpi .slt v757 c0_i32_566
  let c0_i32_567 : BitVec 32 := 0#32
  let v760 : BitVec 1 := Scalar.cmpi .slt v756 c0_i32_567
  let v761 : BitVec 1 := Scalar.xori v759 v760
  let c0_i32_565 : BitVec 32 := 0#32
  let v758 : BitVec 1 := Scalar.cmpi .ne v757 c0_i32_565
  let v762 : BitVec 1 := Scalar.andi v761 v758
  let v763 : BitVec 32 := Scalar.addi v757 v756
  let v764 : BitVec 32 := Scalar.select v762 v763 v757
  let v765 : BitVec 32 := Scalar.addi v753 v764
  let c1_i32_574 : BitVec 32 := 1#32
  let v766 : BitVec 32 := Scalar.muli v765 c1_i32_574
  let v767 : BitVec 32 := Scalar.addi c0_i32_575 v766
  v767.toNat
def k0_dev28 (d0 : Dev nD) : Nat :=
  let c0_i32_602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_587 : BitVec 32 := 8#32
  let v787 : BitVec 32 := Scalar.muli v19 c8_i32_587
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32_588 : BitVec 32 := 5#32
  let v788 : BitVec 32 := Scalar.addi v29 c5_i32_588
  let c8_i32_589 : BitVec 32 := 8#32
  let c0_i32_590 : BitVec 32 := 0#32
  let v789 : BitVec 1 := Scalar.cmpi .eq c8_i32_589 c0_i32_590
  let c1_i32_591 : BitVec 32 := 1#32
  let v790 : BitVec 32 := Scalar.select v789 c1_i32_591 c8_i32_589
  let v791 : BitVec 32 := Scalar.remsi v788 v790
  let c0_i32_593 : BitVec 32 := 0#32
  let v793 : BitVec 1 := Scalar.cmpi .slt v791 c0_i32_593
  let c0_i32_594 : BitVec 32 := 0#32
  let v794 : BitVec 1 := Scalar.cmpi .slt v790 c0_i32_594
  let v795 : BitVec 1 := Scalar.xori v793 v794
  let c0_i32_592 : BitVec 32 := 0#32
  let v792 : BitVec 1 := Scalar.cmpi .ne v791 c0_i32_592
  let v796 : BitVec 1 := Scalar.andi v795 v792
  let v797 : BitVec 32 := Scalar.addi v791 v790
  let v798 : BitVec 32 := Scalar.select v796 v797 v791
  let v799 : BitVec 32 := Scalar.addi v787 v798
  let c1_i32_601 : BitVec 32 := 1#32
  let v800 : BitVec 32 := Scalar.muli v799 c1_i32_601
  let v801 : BitVec 32 := Scalar.addi c0_i32_602 v800
  v801.toNat
def k0_dev29 (d0 : Dev nD) : Nat :=
  let c0_i32_629 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_614 : BitVec 32 := 8#32
  let v821 : BitVec 32 := Scalar.muli v19 c8_i32_614
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32_615 : BitVec 32 := 6#32
  let v822 : BitVec 32 := Scalar.addi v29 c6_i32_615
  let c8_i32_616 : BitVec 32 := 8#32
  let c0_i32_617 : BitVec 32 := 0#32
  let v823 : BitVec 1 := Scalar.cmpi .eq c8_i32_616 c0_i32_617
  let c1_i32_618 : BitVec 32 := 1#32
  let v824 : BitVec 32 := Scalar.select v823 c1_i32_618 c8_i32_616
  let v825 : BitVec 32 := Scalar.remsi v822 v824
  let c0_i32_620 : BitVec 32 := 0#32
  let v827 : BitVec 1 := Scalar.cmpi .slt v825 c0_i32_620
  let c0_i32_621 : BitVec 32 := 0#32
  let v828 : BitVec 1 := Scalar.cmpi .slt v824 c0_i32_621
  let v829 : BitVec 1 := Scalar.xori v827 v828
  let c0_i32_619 : BitVec 32 := 0#32
  let v826 : BitVec 1 := Scalar.cmpi .ne v825 c0_i32_619
  let v830 : BitVec 1 := Scalar.andi v829 v826
  let v831 : BitVec 32 := Scalar.addi v825 v824
  let v832 : BitVec 32 := Scalar.select v830 v831 v825
  let v833 : BitVec 32 := Scalar.addi v821 v832
  let c1_i32_628 : BitVec 32 := 1#32
  let v834 : BitVec 32 := Scalar.muli v833 c1_i32_628
  let v835 : BitVec 32 := Scalar.addi c0_i32_629 v834
  v835.toNat
def k0_dev30 (d0 : Dev nD) : Nat :=
  let c0_i32_656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_641 : BitVec 32 := 8#32
  let v855 : BitVec 32 := Scalar.muli v19 c8_i32_641
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_642 : BitVec 32 := 7#32
  let v856 : BitVec 32 := Scalar.addi v29 c7_i32_642
  let c8_i32_643 : BitVec 32 := 8#32
  let c0_i32_644 : BitVec 32 := 0#32
  let v857 : BitVec 1 := Scalar.cmpi .eq c8_i32_643 c0_i32_644
  let c1_i32_645 : BitVec 32 := 1#32
  let v858 : BitVec 32 := Scalar.select v857 c1_i32_645 c8_i32_643
  let v859 : BitVec 32 := Scalar.remsi v856 v858
  let c0_i32_647 : BitVec 32 := 0#32
  let v861 : BitVec 1 := Scalar.cmpi .slt v859 c0_i32_647
  let c0_i32_648 : BitVec 32 := 0#32
  let v862 : BitVec 1 := Scalar.cmpi .slt v858 c0_i32_648
  let v863 : BitVec 1 := Scalar.xori v861 v862
  let c0_i32_646 : BitVec 32 := 0#32
  let v860 : BitVec 1 := Scalar.cmpi .ne v859 c0_i32_646
  let v864 : BitVec 1 := Scalar.andi v863 v860
  let v865 : BitVec 32 := Scalar.addi v859 v858
  let v866 : BitVec 32 := Scalar.select v864 v865 v859
  let v867 : BitVec 32 := Scalar.addi v855 v866
  let c1_i32_655 : BitVec 32 := 1#32
  let v868 : BitVec 32 := Scalar.muli v867 c1_i32_655
  let v869 : BitVec 32 := Scalar.addi c0_i32_656 v868
  v869.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_660 : BitVec 32 := 256#32
  let v877 : BitVec 32 := Scalar.muli v19 c256_i32_660
  let v878 : Index := Scalar.indexCast v877
  let c0_661 : Index := 0#32
  ![v878.toNat, 0]
def k0_off6 (d0 : Dev nD) (c1_i32_708 : BitVec 32) : Fin 3 → Nat :=
  let c0_i32_724 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v918 : BitVec 32 := Scalar.addi v29 c1_i32_708
  let c8_i32_709 : BitVec 32 := 8#32
  let c0_i32_710 : BitVec 32 := 0#32
  let v919 : BitVec 1 := Scalar.cmpi .eq c8_i32_709 c0_i32_710
  let c1_i32_711 : BitVec 32 := 1#32
  let v920 : BitVec 32 := Scalar.select v919 c1_i32_711 c8_i32_709
  let v921 : BitVec 32 := Scalar.remsi v918 v920
  let c0_i32_713 : BitVec 32 := 0#32
  let v923 : BitVec 1 := Scalar.cmpi .slt v921 c0_i32_713
  let c0_i32_714 : BitVec 32 := 0#32
  let v924 : BitVec 1 := Scalar.cmpi .slt v920 c0_i32_714
  let v925 : BitVec 1 := Scalar.xori v923 v924
  let c0_i32_712 : BitVec 32 := 0#32
  let v922 : BitVec 1 := Scalar.cmpi .ne v921 c0_i32_712
  let v926 : BitVec 1 := Scalar.andi v925 v922
  let v927 : BitVec 32 := Scalar.addi v921 v920
  let v928 : BitVec 32 := Scalar.select v926 v927 v921
  let c32_i32_715 : BitVec 32 := 32#32
  let v929 : BitVec 32 := Scalar.muli v928 c32_i32_715
  let c0_i32_735 : BitVec 32 := 0#32
  ![0, v929.toNat, 0]
def k0_dev31 (d0 : Dev nD) : Nat :=
  let c0_i32_732 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_716 : BitVec 32 := 8#32
  let v930 : BitVec 32 := Scalar.muli v19 c8_i32_716
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_717 : BitVec 32 := 1#32
  let v931 : BitVec 32 := Scalar.addi v29 c1_i32_717
  let c8_i32_718 : BitVec 32 := 8#32
  let c0_i32_719 : BitVec 32 := 0#32
  let v932 : BitVec 1 := Scalar.cmpi .eq c8_i32_718 c0_i32_719
  let c1_i32_720 : BitVec 32 := 1#32
  let v933 : BitVec 32 := Scalar.select v932 c1_i32_720 c8_i32_718
  let v934 : BitVec 32 := Scalar.remsi v931 v933
  let c0_i32_722 : BitVec 32 := 0#32
  let v936 : BitVec 1 := Scalar.cmpi .slt v934 c0_i32_722
  let c0_i32_723 : BitVec 32 := 0#32
  let v937 : BitVec 1 := Scalar.cmpi .slt v933 c0_i32_723
  let v938 : BitVec 1 := Scalar.xori v936 v937
  let c0_i32_721 : BitVec 32 := 0#32
  let v935 : BitVec 1 := Scalar.cmpi .ne v934 c0_i32_721
  let v939 : BitVec 1 := Scalar.andi v938 v935
  let v940 : BitVec 32 := Scalar.addi v934 v933
  let v941 : BitVec 32 := Scalar.select v939 v940 v934
  let v942 : BitVec 32 := Scalar.addi v930 v941
  let c1_i32_731 : BitVec 32 := 1#32
  let v943 : BitVec 32 := Scalar.muli v942 c1_i32_731
  let v944 : BitVec 32 := Scalar.addi c0_i32_732 v943
  v944.toNat
def k0_dev32 (d0 : Dev nD) : Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_744 : BitVec 32 := 8#32
  let v965 : BitVec 32 := Scalar.muli v19 c8_i32_744
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_745 : BitVec 32 := 2#32
  let v966 : BitVec 32 := Scalar.addi v29 c2_i32_745
  let c8_i32_746 : BitVec 32 := 8#32
  let c0_i32_747 : BitVec 32 := 0#32
  let v967 : BitVec 1 := Scalar.cmpi .eq c8_i32_746 c0_i32_747
  let c1_i32_748 : BitVec 32 := 1#32
  let v968 : BitVec 32 := Scalar.select v967 c1_i32_748 c8_i32_746
  let v969 : BitVec 32 := Scalar.remsi v966 v968
  let c0_i32_750 : BitVec 32 := 0#32
  let v971 : BitVec 1 := Scalar.cmpi .slt v969 c0_i32_750
  let c0_i32_751 : BitVec 32 := 0#32
  let v972 : BitVec 1 := Scalar.cmpi .slt v968 c0_i32_751
  let v973 : BitVec 1 := Scalar.xori v971 v972
  let c0_i32_749 : BitVec 32 := 0#32
  let v970 : BitVec 1 := Scalar.cmpi .ne v969 c0_i32_749
  let v974 : BitVec 1 := Scalar.andi v973 v970
  let v975 : BitVec 32 := Scalar.addi v969 v968
  let v976 : BitVec 32 := Scalar.select v974 v975 v969
  let v977 : BitVec 32 := Scalar.addi v965 v976
  let c1_i32_759 : BitVec 32 := 1#32
  let v978 : BitVec 32 := Scalar.muli v977 c1_i32_759
  let v979 : BitVec 32 := Scalar.addi c0_i32_760 v978
  v979.toNat
def k0_dev33 (d0 : Dev nD) : Nat :=
  let c0_i32_788 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_772 : BitVec 32 := 8#32
  let v1000 : BitVec 32 := Scalar.muli v19 c8_i32_772
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_773 : BitVec 32 := 3#32
  let v1001 : BitVec 32 := Scalar.addi v29 c3_i32_773
  let c8_i32_774 : BitVec 32 := 8#32
  let c0_i32_775 : BitVec 32 := 0#32
  let v1002 : BitVec 1 := Scalar.cmpi .eq c8_i32_774 c0_i32_775
  let c1_i32_776 : BitVec 32 := 1#32
  let v1003 : BitVec 32 := Scalar.select v1002 c1_i32_776 c8_i32_774
  let v1004 : BitVec 32 := Scalar.remsi v1001 v1003
  let c0_i32_778 : BitVec 32 := 0#32
  let v1006 : BitVec 1 := Scalar.cmpi .slt v1004 c0_i32_778
  let c0_i32_779 : BitVec 32 := 0#32
  let v1007 : BitVec 1 := Scalar.cmpi .slt v1003 c0_i32_779
  let v1008 : BitVec 1 := Scalar.xori v1006 v1007
  let c0_i32_777 : BitVec 32 := 0#32
  let v1005 : BitVec 1 := Scalar.cmpi .ne v1004 c0_i32_777
  let v1009 : BitVec 1 := Scalar.andi v1008 v1005
  let v1010 : BitVec 32 := Scalar.addi v1004 v1003
  let v1011 : BitVec 32 := Scalar.select v1009 v1010 v1004
  let v1012 : BitVec 32 := Scalar.addi v1000 v1011
  let c1_i32_787 : BitVec 32 := 1#32
  let v1013 : BitVec 32 := Scalar.muli v1012 c1_i32_787
  let v1014 : BitVec 32 := Scalar.addi c0_i32_788 v1013
  v1014.toNat
def k0_dev34 (d0 : Dev nD) : Nat :=
  let c0_i32_816 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_800 : BitVec 32 := 8#32
  let v1035 : BitVec 32 := Scalar.muli v19 c8_i32_800
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_801 : BitVec 32 := 4#32
  let v1036 : BitVec 32 := Scalar.addi v29 c4_i32_801
  let c8_i32_802 : BitVec 32 := 8#32
  let c0_i32_803 : BitVec 32 := 0#32
  let v1037 : BitVec 1 := Scalar.cmpi .eq c8_i32_802 c0_i32_803
  let c1_i32_804 : BitVec 32 := 1#32
  let v1038 : BitVec 32 := Scalar.select v1037 c1_i32_804 c8_i32_802
  let v1039 : BitVec 32 := Scalar.remsi v1036 v1038
  let c0_i32_806 : BitVec 32 := 0#32
  let v1041 : BitVec 1 := Scalar.cmpi .slt v1039 c0_i32_806
  let c0_i32_807 : BitVec 32 := 0#32
  let v1042 : BitVec 1 := Scalar.cmpi .slt v1038 c0_i32_807
  let v1043 : BitVec 1 := Scalar.xori v1041 v1042
  let c0_i32_805 : BitVec 32 := 0#32
  let v1040 : BitVec 1 := Scalar.cmpi .ne v1039 c0_i32_805
  let v1044 : BitVec 1 := Scalar.andi v1043 v1040
  let v1045 : BitVec 32 := Scalar.addi v1039 v1038
  let v1046 : BitVec 32 := Scalar.select v1044 v1045 v1039
  let v1047 : BitVec 32 := Scalar.addi v1035 v1046
  let c1_i32_815 : BitVec 32 := 1#32
  let v1048 : BitVec 32 := Scalar.muli v1047 c1_i32_815
  let v1049 : BitVec 32 := Scalar.addi c0_i32_816 v1048
  v1049.toNat
def k0_dev35 (d0 : Dev nD) : Nat :=
  let c0_i32_844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_828 : BitVec 32 := 8#32
  let v1070 : BitVec 32 := Scalar.muli v19 c8_i32_828
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32_829 : BitVec 32 := 5#32
  let v1071 : BitVec 32 := Scalar.addi v29 c5_i32_829
  let c8_i32_830 : BitVec 32 := 8#32
  let c0_i32_831 : BitVec 32 := 0#32
  let v1072 : BitVec 1 := Scalar.cmpi .eq c8_i32_830 c0_i32_831
  let c1_i32_832 : BitVec 32 := 1#32
  let v1073 : BitVec 32 := Scalar.select v1072 c1_i32_832 c8_i32_830
  let v1074 : BitVec 32 := Scalar.remsi v1071 v1073
  let c0_i32_834 : BitVec 32 := 0#32
  let v1076 : BitVec 1 := Scalar.cmpi .slt v1074 c0_i32_834
  let c0_i32_835 : BitVec 32 := 0#32
  let v1077 : BitVec 1 := Scalar.cmpi .slt v1073 c0_i32_835
  let v1078 : BitVec 1 := Scalar.xori v1076 v1077
  let c0_i32_833 : BitVec 32 := 0#32
  let v1075 : BitVec 1 := Scalar.cmpi .ne v1074 c0_i32_833
  let v1079 : BitVec 1 := Scalar.andi v1078 v1075
  let v1080 : BitVec 32 := Scalar.addi v1074 v1073
  let v1081 : BitVec 32 := Scalar.select v1079 v1080 v1074
  let v1082 : BitVec 32 := Scalar.addi v1070 v1081
  let c1_i32_843 : BitVec 32 := 1#32
  let v1083 : BitVec 32 := Scalar.muli v1082 c1_i32_843
  let v1084 : BitVec 32 := Scalar.addi c0_i32_844 v1083
  v1084.toNat
def k0_dev36 (d0 : Dev nD) : Nat :=
  let c0_i32_872 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_856 : BitVec 32 := 8#32
  let v1105 : BitVec 32 := Scalar.muli v19 c8_i32_856
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32_857 : BitVec 32 := 6#32
  let v1106 : BitVec 32 := Scalar.addi v29 c6_i32_857
  let c8_i32_858 : BitVec 32 := 8#32
  let c0_i32_859 : BitVec 32 := 0#32
  let v1107 : BitVec 1 := Scalar.cmpi .eq c8_i32_858 c0_i32_859
  let c1_i32_860 : BitVec 32 := 1#32
  let v1108 : BitVec 32 := Scalar.select v1107 c1_i32_860 c8_i32_858
  let v1109 : BitVec 32 := Scalar.remsi v1106 v1108
  let c0_i32_862 : BitVec 32 := 0#32
  let v1111 : BitVec 1 := Scalar.cmpi .slt v1109 c0_i32_862
  let c0_i32_863 : BitVec 32 := 0#32
  let v1112 : BitVec 1 := Scalar.cmpi .slt v1108 c0_i32_863
  let v1113 : BitVec 1 := Scalar.xori v1111 v1112
  let c0_i32_861 : BitVec 32 := 0#32
  let v1110 : BitVec 1 := Scalar.cmpi .ne v1109 c0_i32_861
  let v1114 : BitVec 1 := Scalar.andi v1113 v1110
  let v1115 : BitVec 32 := Scalar.addi v1109 v1108
  let v1116 : BitVec 32 := Scalar.select v1114 v1115 v1109
  let v1117 : BitVec 32 := Scalar.addi v1105 v1116
  let c1_i32_871 : BitVec 32 := 1#32
  let v1118 : BitVec 32 := Scalar.muli v1117 c1_i32_871
  let v1119 : BitVec 32 := Scalar.addi c0_i32_872 v1118
  v1119.toNat
def k0_dev37 (d0 : Dev nD) : Nat :=
  let c0_i32_900 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_884 : BitVec 32 := 8#32
  let v1140 : BitVec 32 := Scalar.muli v19 c8_i32_884
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_885 : BitVec 32 := 7#32
  let v1141 : BitVec 32 := Scalar.addi v29 c7_i32_885
  let c8_i32_886 : BitVec 32 := 8#32
  let c0_i32_887 : BitVec 32 := 0#32
  let v1142 : BitVec 1 := Scalar.cmpi .eq c8_i32_886 c0_i32_887
  let c1_i32_888 : BitVec 32 := 1#32
  let v1143 : BitVec 32 := Scalar.select v1142 c1_i32_888 c8_i32_886
  let v1144 : BitVec 32 := Scalar.remsi v1141 v1143
  let c0_i32_890 : BitVec 32 := 0#32
  let v1146 : BitVec 1 := Scalar.cmpi .slt v1144 c0_i32_890
  let c0_i32_891 : BitVec 32 := 0#32
  let v1147 : BitVec 1 := Scalar.cmpi .slt v1143 c0_i32_891
  let v1148 : BitVec 1 := Scalar.xori v1146 v1147
  let c0_i32_889 : BitVec 32 := 0#32
  let v1145 : BitVec 1 := Scalar.cmpi .ne v1144 c0_i32_889
  let v1149 : BitVec 1 := Scalar.andi v1148 v1145
  let v1150 : BitVec 32 := Scalar.addi v1144 v1143
  let v1151 : BitVec 32 := Scalar.select v1149 v1150 v1144
  let v1152 : BitVec 32 := Scalar.addi v1140 v1151
  let c1_i32_899 : BitVec 32 := 1#32
  let v1153 : BitVec 32 := Scalar.muli v1152 c1_i32_899
  let v1154 : BitVec 32 := Scalar.addi c0_i32_900 v1153
  v1154.toNat
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32_904 : BitVec 32 := 128#32
  let v1163 : BitVec 32 := Scalar.muli v29 c128_i32_904
  let v1164 : Index := Scalar.indexCast v1163
  let c512_905 : Index := 512#32
  ![v1164.toNat, 512]
def k0_off8 (d0 : Dev nD) (c1_i32_1010 : BitVec 32) : Fin 3 → Nat :=
  let c0_i32_1026 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1248 : BitVec 32 := Scalar.addi v19 c1_i32_1010
  let c4_i32_1011 : BitVec 32 := 4#32
  let c0_i32_1012 : BitVec 32 := 0#32
  let v1249 : BitVec 1 := Scalar.cmpi .eq c4_i32_1011 c0_i32_1012
  let c1_i32_1013 : BitVec 32 := 1#32
  let v1250 : BitVec 32 := Scalar.select v1249 c1_i32_1013 c4_i32_1011
  let v1251 : BitVec 32 := Scalar.remsi v1248 v1250
  let c0_i32_1015 : BitVec 32 := 0#32
  let v1253 : BitVec 1 := Scalar.cmpi .slt v1251 c0_i32_1015
  let c0_i32_1016 : BitVec 32 := 0#32
  let v1254 : BitVec 1 := Scalar.cmpi .slt v1250 c0_i32_1016
  let v1255 : BitVec 1 := Scalar.xori v1253 v1254
  let c0_i32_1014 : BitVec 32 := 0#32
  let v1252 : BitVec 1 := Scalar.cmpi .ne v1251 c0_i32_1014
  let v1256 : BitVec 1 := Scalar.andi v1255 v1252
  let v1257 : BitVec 32 := Scalar.addi v1251 v1250
  let v1258 : BitVec 32 := Scalar.select v1256 v1257 v1251
  let c32_i32_1017 : BitVec 32 := 32#32
  let v1259 : BitVec 32 := Scalar.muli v1258 c32_i32_1017
  let c0_i32_1037 : BitVec 32 := 0#32
  ![0, v1259.toNat, 0]
def k0_dev38 (d0 : Dev nD) : Nat :=
  let c0_i32_1034 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1018 : BitVec 32 := 1#32
  let v1260 : BitVec 32 := Scalar.addi v19 c1_i32_1018
  let c4_i32_1019 : BitVec 32 := 4#32
  let c0_i32_1020 : BitVec 32 := 0#32
  let v1261 : BitVec 1 := Scalar.cmpi .eq c4_i32_1019 c0_i32_1020
  let c1_i32_1021 : BitVec 32 := 1#32
  let v1262 : BitVec 32 := Scalar.select v1261 c1_i32_1021 c4_i32_1019
  let v1263 : BitVec 32 := Scalar.remsi v1260 v1262
  let c0_i32_1023 : BitVec 32 := 0#32
  let v1265 : BitVec 1 := Scalar.cmpi .slt v1263 c0_i32_1023
  let c0_i32_1024 : BitVec 32 := 0#32
  let v1266 : BitVec 1 := Scalar.cmpi .slt v1262 c0_i32_1024
  let v1267 : BitVec 1 := Scalar.xori v1265 v1266
  let c0_i32_1022 : BitVec 32 := 0#32
  let v1264 : BitVec 1 := Scalar.cmpi .ne v1263 c0_i32_1022
  let v1268 : BitVec 1 := Scalar.andi v1267 v1264
  let v1269 : BitVec 32 := Scalar.addi v1263 v1262
  let v1270 : BitVec 32 := Scalar.select v1268 v1269 v1263
  let c8_i32_1025 : BitVec 32 := 8#32
  let v1271 : BitVec 32 := Scalar.muli v1270 c8_i32_1025
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1272 : BitVec 32 := Scalar.addi v1271 v29
  let c1_i32_1033 : BitVec 32 := 1#32
  let v1273 : BitVec 32 := Scalar.muli v1272 c1_i32_1033
  let v1274 : BitVec 32 := Scalar.addi c0_i32_1034 v1273
  v1274.toNat
def k0_dev39 (d0 : Dev nD) : Nat :=
  let c0_i32_1062 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1046 : BitVec 32 := 2#32
  let v1295 : BitVec 32 := Scalar.addi v19 c2_i32_1046
  let c4_i32_1047 : BitVec 32 := 4#32
  let c0_i32_1048 : BitVec 32 := 0#32
  let v1296 : BitVec 1 := Scalar.cmpi .eq c4_i32_1047 c0_i32_1048
  let c1_i32_1049 : BitVec 32 := 1#32
  let v1297 : BitVec 32 := Scalar.select v1296 c1_i32_1049 c4_i32_1047
  let v1298 : BitVec 32 := Scalar.remsi v1295 v1297
  let c0_i32_1051 : BitVec 32 := 0#32
  let v1300 : BitVec 1 := Scalar.cmpi .slt v1298 c0_i32_1051
  let c0_i32_1052 : BitVec 32 := 0#32
  let v1301 : BitVec 1 := Scalar.cmpi .slt v1297 c0_i32_1052
  let v1302 : BitVec 1 := Scalar.xori v1300 v1301
  let c0_i32_1050 : BitVec 32 := 0#32
  let v1299 : BitVec 1 := Scalar.cmpi .ne v1298 c0_i32_1050
  let v1303 : BitVec 1 := Scalar.andi v1302 v1299
  let v1304 : BitVec 32 := Scalar.addi v1298 v1297
  let v1305 : BitVec 32 := Scalar.select v1303 v1304 v1298
  let c8_i32_1053 : BitVec 32 := 8#32
  let v1306 : BitVec 32 := Scalar.muli v1305 c8_i32_1053
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1307 : BitVec 32 := Scalar.addi v1306 v29
  let c1_i32_1061 : BitVec 32 := 1#32
  let v1308 : BitVec 32 := Scalar.muli v1307 c1_i32_1061
  let v1309 : BitVec 32 := Scalar.addi c0_i32_1062 v1308
  v1309.toNat
def k0_dev40 (d0 : Dev nD) : Nat :=
  let c0_i32_1090 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1074 : BitVec 32 := 3#32
  let v1330 : BitVec 32 := Scalar.addi v19 c3_i32_1074
  let c4_i32_1075 : BitVec 32 := 4#32
  let c0_i32_1076 : BitVec 32 := 0#32
  let v1331 : BitVec 1 := Scalar.cmpi .eq c4_i32_1075 c0_i32_1076
  let c1_i32_1077 : BitVec 32 := 1#32
  let v1332 : BitVec 32 := Scalar.select v1331 c1_i32_1077 c4_i32_1075
  let v1333 : BitVec 32 := Scalar.remsi v1330 v1332
  let c0_i32_1079 : BitVec 32 := 0#32
  let v1335 : BitVec 1 := Scalar.cmpi .slt v1333 c0_i32_1079
  let c0_i32_1080 : BitVec 32 := 0#32
  let v1336 : BitVec 1 := Scalar.cmpi .slt v1332 c0_i32_1080
  let v1337 : BitVec 1 := Scalar.xori v1335 v1336
  let c0_i32_1078 : BitVec 32 := 0#32
  let v1334 : BitVec 1 := Scalar.cmpi .ne v1333 c0_i32_1078
  let v1338 : BitVec 1 := Scalar.andi v1337 v1334
  let v1339 : BitVec 32 := Scalar.addi v1333 v1332
  let v1340 : BitVec 32 := Scalar.select v1338 v1339 v1333
  let c8_i32_1081 : BitVec 32 := 8#32
  let v1341 : BitVec 32 := Scalar.muli v1340 c8_i32_1081
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1342 : BitVec 32 := Scalar.addi v1341 v29
  let c1_i32_1089 : BitVec 32 := 1#32
  let v1343 : BitVec 32 := Scalar.muli v1342 c1_i32_1089
  let v1344 : BitVec 32 := Scalar.addi c0_i32_1090 v1343
  v1344.toNat
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_1094 : BitVec 32 := 256#32
  let v1353 : BitVec 32 := Scalar.muli v19 c256_i32_1094
  let v1354 : Index := Scalar.indexCast v1353
  let c256 : Index := 256#32
  ![v1354.toNat, 256]
def k0_off10 (d0 : Dev nD) (c1_i32_1143 : BitVec 32) : Fin 3 → Nat :=
  let c1_i32_1159 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1394 : BitVec 32 := Scalar.addi v29 c1_i32_1143
  let c8_i32_1144 : BitVec 32 := 8#32
  let c0_i32_1145 : BitVec 32 := 0#32
  let v1395 : BitVec 1 := Scalar.cmpi .eq c8_i32_1144 c0_i32_1145
  let c1_i32_1146 : BitVec 32 := 1#32
  let v1396 : BitVec 32 := Scalar.select v1395 c1_i32_1146 c8_i32_1144
  let v1397 : BitVec 32 := Scalar.remsi v1394 v1396
  let c0_i32_1148 : BitVec 32 := 0#32
  let v1399 : BitVec 1 := Scalar.cmpi .slt v1397 c0_i32_1148
  let c0_i32_1149 : BitVec 32 := 0#32
  let v1400 : BitVec 1 := Scalar.cmpi .slt v1396 c0_i32_1149
  let v1401 : BitVec 1 := Scalar.xori v1399 v1400
  let c0_i32_1147 : BitVec 32 := 0#32
  let v1398 : BitVec 1 := Scalar.cmpi .ne v1397 c0_i32_1147
  let v1402 : BitVec 1 := Scalar.andi v1401 v1398
  let v1403 : BitVec 32 := Scalar.addi v1397 v1396
  let v1404 : BitVec 32 := Scalar.select v1402 v1403 v1397
  let c32_i32_1150 : BitVec 32 := 32#32
  let v1405 : BitVec 32 := Scalar.muli v1404 c32_i32_1150
  let c0_i32_1170 : BitVec 32 := 0#32
  ![1, v1405.toNat, 0]
def k0_dev41 (d0 : Dev nD) : Nat :=
  let c0_i32_1167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1151 : BitVec 32 := 8#32
  let v1406 : BitVec 32 := Scalar.muli v19 c8_i32_1151
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_1152 : BitVec 32 := 1#32
  let v1407 : BitVec 32 := Scalar.addi v29 c1_i32_1152
  let c8_i32_1153 : BitVec 32 := 8#32
  let c0_i32_1154 : BitVec 32 := 0#32
  let v1408 : BitVec 1 := Scalar.cmpi .eq c8_i32_1153 c0_i32_1154
  let c1_i32_1155 : BitVec 32 := 1#32
  let v1409 : BitVec 32 := Scalar.select v1408 c1_i32_1155 c8_i32_1153
  let v1410 : BitVec 32 := Scalar.remsi v1407 v1409
  let c0_i32_1157 : BitVec 32 := 0#32
  let v1412 : BitVec 1 := Scalar.cmpi .slt v1410 c0_i32_1157
  let c0_i32_1158 : BitVec 32 := 0#32
  let v1413 : BitVec 1 := Scalar.cmpi .slt v1409 c0_i32_1158
  let v1414 : BitVec 1 := Scalar.xori v1412 v1413
  let c0_i32_1156 : BitVec 32 := 0#32
  let v1411 : BitVec 1 := Scalar.cmpi .ne v1410 c0_i32_1156
  let v1415 : BitVec 1 := Scalar.andi v1414 v1411
  let v1416 : BitVec 32 := Scalar.addi v1410 v1409
  let v1417 : BitVec 32 := Scalar.select v1415 v1416 v1410
  let v1418 : BitVec 32 := Scalar.addi v1406 v1417
  let c1_i32_1166 : BitVec 32 := 1#32
  let v1419 : BitVec 32 := Scalar.muli v1418 c1_i32_1166
  let v1420 : BitVec 32 := Scalar.addi c0_i32_1167 v1419
  v1420.toNat
def k0_dev42 (d0 : Dev nD) : Nat :=
  let c0_i32_1195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1179 : BitVec 32 := 8#32
  let v1441 : BitVec 32 := Scalar.muli v19 c8_i32_1179
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_1180 : BitVec 32 := 2#32
  let v1442 : BitVec 32 := Scalar.addi v29 c2_i32_1180
  let c8_i32_1181 : BitVec 32 := 8#32
  let c0_i32_1182 : BitVec 32 := 0#32
  let v1443 : BitVec 1 := Scalar.cmpi .eq c8_i32_1181 c0_i32_1182
  let c1_i32_1183 : BitVec 32 := 1#32
  let v1444 : BitVec 32 := Scalar.select v1443 c1_i32_1183 c8_i32_1181
  let v1445 : BitVec 32 := Scalar.remsi v1442 v1444
  let c0_i32_1185 : BitVec 32 := 0#32
  let v1447 : BitVec 1 := Scalar.cmpi .slt v1445 c0_i32_1185
  let c0_i32_1186 : BitVec 32 := 0#32
  let v1448 : BitVec 1 := Scalar.cmpi .slt v1444 c0_i32_1186
  let v1449 : BitVec 1 := Scalar.xori v1447 v1448
  let c0_i32_1184 : BitVec 32 := 0#32
  let v1446 : BitVec 1 := Scalar.cmpi .ne v1445 c0_i32_1184
  let v1450 : BitVec 1 := Scalar.andi v1449 v1446
  let v1451 : BitVec 32 := Scalar.addi v1445 v1444
  let v1452 : BitVec 32 := Scalar.select v1450 v1451 v1445
  let v1453 : BitVec 32 := Scalar.addi v1441 v1452
  let c1_i32_1194 : BitVec 32 := 1#32
  let v1454 : BitVec 32 := Scalar.muli v1453 c1_i32_1194
  let v1455 : BitVec 32 := Scalar.addi c0_i32_1195 v1454
  v1455.toNat
def k0_dev43 (d0 : Dev nD) : Nat :=
  let c0_i32_1223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1207 : BitVec 32 := 8#32
  let v1476 : BitVec 32 := Scalar.muli v19 c8_i32_1207
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_1208 : BitVec 32 := 3#32
  let v1477 : BitVec 32 := Scalar.addi v29 c3_i32_1208
  let c8_i32_1209 : BitVec 32 := 8#32
  let c0_i32_1210 : BitVec 32 := 0#32
  let v1478 : BitVec 1 := Scalar.cmpi .eq c8_i32_1209 c0_i32_1210
  let c1_i32_1211 : BitVec 32 := 1#32
  let v1479 : BitVec 32 := Scalar.select v1478 c1_i32_1211 c8_i32_1209
  let v1480 : BitVec 32 := Scalar.remsi v1477 v1479
  let c0_i32_1213 : BitVec 32 := 0#32
  let v1482 : BitVec 1 := Scalar.cmpi .slt v1480 c0_i32_1213
  let c0_i32_1214 : BitVec 32 := 0#32
  let v1483 : BitVec 1 := Scalar.cmpi .slt v1479 c0_i32_1214
  let v1484 : BitVec 1 := Scalar.xori v1482 v1483
  let c0_i32_1212 : BitVec 32 := 0#32
  let v1481 : BitVec 1 := Scalar.cmpi .ne v1480 c0_i32_1212
  let v1485 : BitVec 1 := Scalar.andi v1484 v1481
  let v1486 : BitVec 32 := Scalar.addi v1480 v1479
  let v1487 : BitVec 32 := Scalar.select v1485 v1486 v1480
  let v1488 : BitVec 32 := Scalar.addi v1476 v1487
  let c1_i32_1222 : BitVec 32 := 1#32
  let v1489 : BitVec 32 := Scalar.muli v1488 c1_i32_1222
  let v1490 : BitVec 32 := Scalar.addi c0_i32_1223 v1489
  v1490.toNat
def k0_dev44 (d0 : Dev nD) : Nat :=
  let c0_i32_1251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1235 : BitVec 32 := 8#32
  let v1511 : BitVec 32 := Scalar.muli v19 c8_i32_1235
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_1236 : BitVec 32 := 4#32
  let v1512 : BitVec 32 := Scalar.addi v29 c4_i32_1236
  let c8_i32_1237 : BitVec 32 := 8#32
  let c0_i32_1238 : BitVec 32 := 0#32
  let v1513 : BitVec 1 := Scalar.cmpi .eq c8_i32_1237 c0_i32_1238
  let c1_i32_1239 : BitVec 32 := 1#32
  let v1514 : BitVec 32 := Scalar.select v1513 c1_i32_1239 c8_i32_1237
  let v1515 : BitVec 32 := Scalar.remsi v1512 v1514
  let c0_i32_1241 : BitVec 32 := 0#32
  let v1517 : BitVec 1 := Scalar.cmpi .slt v1515 c0_i32_1241
  let c0_i32_1242 : BitVec 32 := 0#32
  let v1518 : BitVec 1 := Scalar.cmpi .slt v1514 c0_i32_1242
  let v1519 : BitVec 1 := Scalar.xori v1517 v1518
  let c0_i32_1240 : BitVec 32 := 0#32
  let v1516 : BitVec 1 := Scalar.cmpi .ne v1515 c0_i32_1240
  let v1520 : BitVec 1 := Scalar.andi v1519 v1516
  let v1521 : BitVec 32 := Scalar.addi v1515 v1514
  let v1522 : BitVec 32 := Scalar.select v1520 v1521 v1515
  let v1523 : BitVec 32 := Scalar.addi v1511 v1522
  let c1_i32_1250 : BitVec 32 := 1#32
  let v1524 : BitVec 32 := Scalar.muli v1523 c1_i32_1250
  let v1525 : BitVec 32 := Scalar.addi c0_i32_1251 v1524
  v1525.toNat
def k0_dev45 (d0 : Dev nD) : Nat :=
  let c0_i32_1279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1263 : BitVec 32 := 8#32
  let v1546 : BitVec 32 := Scalar.muli v19 c8_i32_1263
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32_1264 : BitVec 32 := 5#32
  let v1547 : BitVec 32 := Scalar.addi v29 c5_i32_1264
  let c8_i32_1265 : BitVec 32 := 8#32
  let c0_i32_1266 : BitVec 32 := 0#32
  let v1548 : BitVec 1 := Scalar.cmpi .eq c8_i32_1265 c0_i32_1266
  let c1_i32_1267 : BitVec 32 := 1#32
  let v1549 : BitVec 32 := Scalar.select v1548 c1_i32_1267 c8_i32_1265
  let v1550 : BitVec 32 := Scalar.remsi v1547 v1549
  let c0_i32_1269 : BitVec 32 := 0#32
  let v1552 : BitVec 1 := Scalar.cmpi .slt v1550 c0_i32_1269
  let c0_i32_1270 : BitVec 32 := 0#32
  let v1553 : BitVec 1 := Scalar.cmpi .slt v1549 c0_i32_1270
  let v1554 : BitVec 1 := Scalar.xori v1552 v1553
  let c0_i32_1268 : BitVec 32 := 0#32
  let v1551 : BitVec 1 := Scalar.cmpi .ne v1550 c0_i32_1268
  let v1555 : BitVec 1 := Scalar.andi v1554 v1551
  let v1556 : BitVec 32 := Scalar.addi v1550 v1549
  let v1557 : BitVec 32 := Scalar.select v1555 v1556 v1550
  let v1558 : BitVec 32 := Scalar.addi v1546 v1557
  let c1_i32_1278 : BitVec 32 := 1#32
  let v1559 : BitVec 32 := Scalar.muli v1558 c1_i32_1278
  let v1560 : BitVec 32 := Scalar.addi c0_i32_1279 v1559
  v1560.toNat
def k0_dev46 (d0 : Dev nD) : Nat :=
  let c0_i32_1307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1291 : BitVec 32 := 8#32
  let v1581 : BitVec 32 := Scalar.muli v19 c8_i32_1291
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32_1292 : BitVec 32 := 6#32
  let v1582 : BitVec 32 := Scalar.addi v29 c6_i32_1292
  let c8_i32_1293 : BitVec 32 := 8#32
  let c0_i32_1294 : BitVec 32 := 0#32
  let v1583 : BitVec 1 := Scalar.cmpi .eq c8_i32_1293 c0_i32_1294
  let c1_i32_1295 : BitVec 32 := 1#32
  let v1584 : BitVec 32 := Scalar.select v1583 c1_i32_1295 c8_i32_1293
  let v1585 : BitVec 32 := Scalar.remsi v1582 v1584
  let c0_i32_1297 : BitVec 32 := 0#32
  let v1587 : BitVec 1 := Scalar.cmpi .slt v1585 c0_i32_1297
  let c0_i32_1298 : BitVec 32 := 0#32
  let v1588 : BitVec 1 := Scalar.cmpi .slt v1584 c0_i32_1298
  let v1589 : BitVec 1 := Scalar.xori v1587 v1588
  let c0_i32_1296 : BitVec 32 := 0#32
  let v1586 : BitVec 1 := Scalar.cmpi .ne v1585 c0_i32_1296
  let v1590 : BitVec 1 := Scalar.andi v1589 v1586
  let v1591 : BitVec 32 := Scalar.addi v1585 v1584
  let v1592 : BitVec 32 := Scalar.select v1590 v1591 v1585
  let v1593 : BitVec 32 := Scalar.addi v1581 v1592
  let c1_i32_1306 : BitVec 32 := 1#32
  let v1594 : BitVec 32 := Scalar.muli v1593 c1_i32_1306
  let v1595 : BitVec 32 := Scalar.addi c0_i32_1307 v1594
  v1595.toNat
def k0_dev47 (d0 : Dev nD) : Nat :=
  let c0_i32_1335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1319 : BitVec 32 := 8#32
  let v1616 : BitVec 32 := Scalar.muli v19 c8_i32_1319
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_1320 : BitVec 32 := 7#32
  let v1617 : BitVec 32 := Scalar.addi v29 c7_i32_1320
  let c8_i32_1321 : BitVec 32 := 8#32
  let c0_i32_1322 : BitVec 32 := 0#32
  let v1618 : BitVec 1 := Scalar.cmpi .eq c8_i32_1321 c0_i32_1322
  let c1_i32_1323 : BitVec 32 := 1#32
  let v1619 : BitVec 32 := Scalar.select v1618 c1_i32_1323 c8_i32_1321
  let v1620 : BitVec 32 := Scalar.remsi v1617 v1619
  let c0_i32_1325 : BitVec 32 := 0#32
  let v1622 : BitVec 1 := Scalar.cmpi .slt v1620 c0_i32_1325
  let c0_i32_1326 : BitVec 32 := 0#32
  let v1623 : BitVec 1 := Scalar.cmpi .slt v1619 c0_i32_1326
  let v1624 : BitVec 1 := Scalar.xori v1622 v1623
  let c0_i32_1324 : BitVec 32 := 0#32
  let v1621 : BitVec 1 := Scalar.cmpi .ne v1620 c0_i32_1324
  let v1625 : BitVec 1 := Scalar.andi v1624 v1621
  let v1626 : BitVec 32 := Scalar.addi v1620 v1619
  let v1627 : BitVec 32 := Scalar.select v1625 v1626 v1620
  let v1628 : BitVec 32 := Scalar.addi v1616 v1627
  let c1_i32_1334 : BitVec 32 := 1#32
  let v1629 : BitVec 32 := Scalar.muli v1628 c1_i32_1334
  let v1630 : BitVec 32 := Scalar.addi c0_i32_1335 v1629
  v1630.toNat
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32_1339 : BitVec 32 := 128#32
  let v1639 : BitVec 32 := Scalar.muli v29 c128_i32_1339
  let v1640 : Index := Scalar.indexCast v1639
  let c768 : Index := 768#32
  ![v1640.toNat, 768]
def k0_off12 (d0 : Dev nD) (c1_i32_1448 : BitVec 32) : Fin 3 → Nat :=
  let c1_i32_1464 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1724 : BitVec 32 := Scalar.addi v19 c1_i32_1448
  let c4_i32_1449 : BitVec 32 := 4#32
  let c0_i32_1450 : BitVec 32 := 0#32
  let v1725 : BitVec 1 := Scalar.cmpi .eq c4_i32_1449 c0_i32_1450
  let c1_i32_1451 : BitVec 32 := 1#32
  let v1726 : BitVec 32 := Scalar.select v1725 c1_i32_1451 c4_i32_1449
  let v1727 : BitVec 32 := Scalar.remsi v1724 v1726
  let c0_i32_1453 : BitVec 32 := 0#32
  let v1729 : BitVec 1 := Scalar.cmpi .slt v1727 c0_i32_1453
  let c0_i32_1454 : BitVec 32 := 0#32
  let v1730 : BitVec 1 := Scalar.cmpi .slt v1726 c0_i32_1454
  let v1731 : BitVec 1 := Scalar.xori v1729 v1730
  let c0_i32_1452 : BitVec 32 := 0#32
  let v1728 : BitVec 1 := Scalar.cmpi .ne v1727 c0_i32_1452
  let v1732 : BitVec 1 := Scalar.andi v1731 v1728
  let v1733 : BitVec 32 := Scalar.addi v1727 v1726
  let v1734 : BitVec 32 := Scalar.select v1732 v1733 v1727
  let c32_i32_1455 : BitVec 32 := 32#32
  let v1735 : BitVec 32 := Scalar.muli v1734 c32_i32_1455
  let c0_i32_1475 : BitVec 32 := 0#32
  ![1, v1735.toNat, 0]
def k0_dev48 (d0 : Dev nD) : Nat :=
  let c0_i32_1472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1456 : BitVec 32 := 1#32
  let v1736 : BitVec 32 := Scalar.addi v19 c1_i32_1456
  let c4_i32_1457 : BitVec 32 := 4#32
  let c0_i32_1458 : BitVec 32 := 0#32
  let v1737 : BitVec 1 := Scalar.cmpi .eq c4_i32_1457 c0_i32_1458
  let c1_i32_1459 : BitVec 32 := 1#32
  let v1738 : BitVec 32 := Scalar.select v1737 c1_i32_1459 c4_i32_1457
  let v1739 : BitVec 32 := Scalar.remsi v1736 v1738
  let c0_i32_1461 : BitVec 32 := 0#32
  let v1741 : BitVec 1 := Scalar.cmpi .slt v1739 c0_i32_1461
  let c0_i32_1462 : BitVec 32 := 0#32
  let v1742 : BitVec 1 := Scalar.cmpi .slt v1738 c0_i32_1462
  let v1743 : BitVec 1 := Scalar.xori v1741 v1742
  let c0_i32_1460 : BitVec 32 := 0#32
  let v1740 : BitVec 1 := Scalar.cmpi .ne v1739 c0_i32_1460
  let v1744 : BitVec 1 := Scalar.andi v1743 v1740
  let v1745 : BitVec 32 := Scalar.addi v1739 v1738
  let v1746 : BitVec 32 := Scalar.select v1744 v1745 v1739
  let c8_i32_1463 : BitVec 32 := 8#32
  let v1747 : BitVec 32 := Scalar.muli v1746 c8_i32_1463
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1748 : BitVec 32 := Scalar.addi v1747 v29
  let c1_i32_1471 : BitVec 32 := 1#32
  let v1749 : BitVec 32 := Scalar.muli v1748 c1_i32_1471
  let v1750 : BitVec 32 := Scalar.addi c0_i32_1472 v1749
  v1750.toNat
def k0_dev49 (d0 : Dev nD) : Nat :=
  let c0_i32_1500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1484 : BitVec 32 := 2#32
  let v1771 : BitVec 32 := Scalar.addi v19 c2_i32_1484
  let c4_i32_1485 : BitVec 32 := 4#32
  let c0_i32_1486 : BitVec 32 := 0#32
  let v1772 : BitVec 1 := Scalar.cmpi .eq c4_i32_1485 c0_i32_1486
  let c1_i32_1487 : BitVec 32 := 1#32
  let v1773 : BitVec 32 := Scalar.select v1772 c1_i32_1487 c4_i32_1485
  let v1774 : BitVec 32 := Scalar.remsi v1771 v1773
  let c0_i32_1489 : BitVec 32 := 0#32
  let v1776 : BitVec 1 := Scalar.cmpi .slt v1774 c0_i32_1489
  let c0_i32_1490 : BitVec 32 := 0#32
  let v1777 : BitVec 1 := Scalar.cmpi .slt v1773 c0_i32_1490
  let v1778 : BitVec 1 := Scalar.xori v1776 v1777
  let c0_i32_1488 : BitVec 32 := 0#32
  let v1775 : BitVec 1 := Scalar.cmpi .ne v1774 c0_i32_1488
  let v1779 : BitVec 1 := Scalar.andi v1778 v1775
  let v1780 : BitVec 32 := Scalar.addi v1774 v1773
  let v1781 : BitVec 32 := Scalar.select v1779 v1780 v1774
  let c8_i32_1491 : BitVec 32 := 8#32
  let v1782 : BitVec 32 := Scalar.muli v1781 c8_i32_1491
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1783 : BitVec 32 := Scalar.addi v1782 v29
  let c1_i32_1499 : BitVec 32 := 1#32
  let v1784 : BitVec 32 := Scalar.muli v1783 c1_i32_1499
  let v1785 : BitVec 32 := Scalar.addi c0_i32_1500 v1784
  v1785.toNat
def k0_dev50 (d0 : Dev nD) : Nat :=
  let c0_i32_1528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1512 : BitVec 32 := 3#32
  let v1806 : BitVec 32 := Scalar.addi v19 c3_i32_1512
  let c4_i32_1513 : BitVec 32 := 4#32
  let c0_i32_1514 : BitVec 32 := 0#32
  let v1807 : BitVec 1 := Scalar.cmpi .eq c4_i32_1513 c0_i32_1514
  let c1_i32_1515 : BitVec 32 := 1#32
  let v1808 : BitVec 32 := Scalar.select v1807 c1_i32_1515 c4_i32_1513
  let v1809 : BitVec 32 := Scalar.remsi v1806 v1808
  let c0_i32_1517 : BitVec 32 := 0#32
  let v1811 : BitVec 1 := Scalar.cmpi .slt v1809 c0_i32_1517
  let c0_i32_1518 : BitVec 32 := 0#32
  let v1812 : BitVec 1 := Scalar.cmpi .slt v1808 c0_i32_1518
  let v1813 : BitVec 1 := Scalar.xori v1811 v1812
  let c0_i32_1516 : BitVec 32 := 0#32
  let v1810 : BitVec 1 := Scalar.cmpi .ne v1809 c0_i32_1516
  let v1814 : BitVec 1 := Scalar.andi v1813 v1810
  let v1815 : BitVec 32 := Scalar.addi v1809 v1808
  let v1816 : BitVec 32 := Scalar.select v1814 v1815 v1809
  let c8_i32_1519 : BitVec 32 := 8#32
  let v1817 : BitVec 32 := Scalar.muli v1816 c8_i32_1519
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1818 : BitVec 32 := Scalar.addi v1817 v29
  let c1_i32_1527 : BitVec 32 := 1#32
  let v1819 : BitVec 32 := Scalar.muli v1818 c1_i32_1527
  let v1820 : BitVec 32 := Scalar.addi c0_i32_1528 v1819
  v1820.toNat
def k0_off13 (d0 : Dev nD) : Fin 3 → Nat :=
  let c0_1533 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c32_i32_1532 : BitVec 32 := 32#32
  let v1829 : BitVec 32 := Scalar.muli v29 c32_i32_1532
  let v1830 : Index := Scalar.indexCast v1829
  let c0_1534 : Index := 0#32
  ![0, v1830.toNat, 0]
def k0_dev51 (d0 : Dev nD) : Nat :=
  let c0_i32_1666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1650 : BitVec 32 := 8#32
  let v1922 : BitVec 32 := Scalar.muli v19 c8_i32_1650
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_1651 : BitVec 32 := 1#32
  let v1923 : BitVec 32 := Scalar.addi v29 c1_i32_1651
  let c8_i32_1652 : BitVec 32 := 8#32
  let c0_i32_1653 : BitVec 32 := 0#32
  let v1924 : BitVec 1 := Scalar.cmpi .eq c8_i32_1652 c0_i32_1653
  let c1_i32_1654 : BitVec 32 := 1#32
  let v1925 : BitVec 32 := Scalar.select v1924 c1_i32_1654 c8_i32_1652
  let v1926 : BitVec 32 := Scalar.remsi v1923 v1925
  let c0_i32_1656 : BitVec 32 := 0#32
  let v1928 : BitVec 1 := Scalar.cmpi .slt v1926 c0_i32_1656
  let c0_i32_1657 : BitVec 32 := 0#32
  let v1929 : BitVec 1 := Scalar.cmpi .slt v1925 c0_i32_1657
  let v1930 : BitVec 1 := Scalar.xori v1928 v1929
  let c0_i32_1655 : BitVec 32 := 0#32
  let v1927 : BitVec 1 := Scalar.cmpi .ne v1926 c0_i32_1655
  let v1931 : BitVec 1 := Scalar.andi v1930 v1927
  let v1932 : BitVec 32 := Scalar.addi v1926 v1925
  let v1933 : BitVec 32 := Scalar.select v1931 v1932 v1926
  let v1934 : BitVec 32 := Scalar.addi v1922 v1933
  let c1_i32_1665 : BitVec 32 := 1#32
  let v1935 : BitVec 32 := Scalar.muli v1934 c1_i32_1665
  let v1936 : BitVec 32 := Scalar.addi c0_i32_1666 v1935
  v1936.toNat
def k0_dev52 (d0 : Dev nD) : Nat :=
  let c0_i32_1687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1671 : BitVec 32 := 8#32
  let v1945 : BitVec 32 := Scalar.muli v19 c8_i32_1671
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_1672 : BitVec 32 := 2#32
  let v1946 : BitVec 32 := Scalar.addi v29 c2_i32_1672
  let c8_i32_1673 : BitVec 32 := 8#32
  let c0_i32_1674 : BitVec 32 := 0#32
  let v1947 : BitVec 1 := Scalar.cmpi .eq c8_i32_1673 c0_i32_1674
  let c1_i32_1675 : BitVec 32 := 1#32
  let v1948 : BitVec 32 := Scalar.select v1947 c1_i32_1675 c8_i32_1673
  let v1949 : BitVec 32 := Scalar.remsi v1946 v1948
  let c0_i32_1677 : BitVec 32 := 0#32
  let v1951 : BitVec 1 := Scalar.cmpi .slt v1949 c0_i32_1677
  let c0_i32_1678 : BitVec 32 := 0#32
  let v1952 : BitVec 1 := Scalar.cmpi .slt v1948 c0_i32_1678
  let v1953 : BitVec 1 := Scalar.xori v1951 v1952
  let c0_i32_1676 : BitVec 32 := 0#32
  let v1950 : BitVec 1 := Scalar.cmpi .ne v1949 c0_i32_1676
  let v1954 : BitVec 1 := Scalar.andi v1953 v1950
  let v1955 : BitVec 32 := Scalar.addi v1949 v1948
  let v1956 : BitVec 32 := Scalar.select v1954 v1955 v1949
  let v1957 : BitVec 32 := Scalar.addi v1945 v1956
  let c1_i32_1686 : BitVec 32 := 1#32
  let v1958 : BitVec 32 := Scalar.muli v1957 c1_i32_1686
  let v1959 : BitVec 32 := Scalar.addi c0_i32_1687 v1958
  v1959.toNat
def k0_dev53 (d0 : Dev nD) : Nat :=
  let c0_i32_1708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1692 : BitVec 32 := 8#32
  let v1968 : BitVec 32 := Scalar.muli v19 c8_i32_1692
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_1693 : BitVec 32 := 3#32
  let v1969 : BitVec 32 := Scalar.addi v29 c3_i32_1693
  let c8_i32_1694 : BitVec 32 := 8#32
  let c0_i32_1695 : BitVec 32 := 0#32
  let v1970 : BitVec 1 := Scalar.cmpi .eq c8_i32_1694 c0_i32_1695
  let c1_i32_1696 : BitVec 32 := 1#32
  let v1971 : BitVec 32 := Scalar.select v1970 c1_i32_1696 c8_i32_1694
  let v1972 : BitVec 32 := Scalar.remsi v1969 v1971
  let c0_i32_1698 : BitVec 32 := 0#32
  let v1974 : BitVec 1 := Scalar.cmpi .slt v1972 c0_i32_1698
  let c0_i32_1699 : BitVec 32 := 0#32
  let v1975 : BitVec 1 := Scalar.cmpi .slt v1971 c0_i32_1699
  let v1976 : BitVec 1 := Scalar.xori v1974 v1975
  let c0_i32_1697 : BitVec 32 := 0#32
  let v1973 : BitVec 1 := Scalar.cmpi .ne v1972 c0_i32_1697
  let v1977 : BitVec 1 := Scalar.andi v1976 v1973
  let v1978 : BitVec 32 := Scalar.addi v1972 v1971
  let v1979 : BitVec 32 := Scalar.select v1977 v1978 v1972
  let v1980 : BitVec 32 := Scalar.addi v1968 v1979
  let c1_i32_1707 : BitVec 32 := 1#32
  let v1981 : BitVec 32 := Scalar.muli v1980 c1_i32_1707
  let v1982 : BitVec 32 := Scalar.addi c0_i32_1708 v1981
  v1982.toNat
def k0_dev54 (d0 : Dev nD) : Nat :=
  let c0_i32_1729 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1713 : BitVec 32 := 8#32
  let v1991 : BitVec 32 := Scalar.muli v19 c8_i32_1713
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_1714 : BitVec 32 := 4#32
  let v1992 : BitVec 32 := Scalar.addi v29 c4_i32_1714
  let c8_i32_1715 : BitVec 32 := 8#32
  let c0_i32_1716 : BitVec 32 := 0#32
  let v1993 : BitVec 1 := Scalar.cmpi .eq c8_i32_1715 c0_i32_1716
  let c1_i32_1717 : BitVec 32 := 1#32
  let v1994 : BitVec 32 := Scalar.select v1993 c1_i32_1717 c8_i32_1715
  let v1995 : BitVec 32 := Scalar.remsi v1992 v1994
  let c0_i32_1719 : BitVec 32 := 0#32
  let v1997 : BitVec 1 := Scalar.cmpi .slt v1995 c0_i32_1719
  let c0_i32_1720 : BitVec 32 := 0#32
  let v1998 : BitVec 1 := Scalar.cmpi .slt v1994 c0_i32_1720
  let v1999 : BitVec 1 := Scalar.xori v1997 v1998
  let c0_i32_1718 : BitVec 32 := 0#32
  let v1996 : BitVec 1 := Scalar.cmpi .ne v1995 c0_i32_1718
  let v2000 : BitVec 1 := Scalar.andi v1999 v1996
  let v2001 : BitVec 32 := Scalar.addi v1995 v1994
  let v2002 : BitVec 32 := Scalar.select v2000 v2001 v1995
  let v2003 : BitVec 32 := Scalar.addi v1991 v2002
  let c1_i32_1728 : BitVec 32 := 1#32
  let v2004 : BitVec 32 := Scalar.muli v2003 c1_i32_1728
  let v2005 : BitVec 32 := Scalar.addi c0_i32_1729 v2004
  v2005.toNat
def k0_dev55 (d0 : Dev nD) : Nat :=
  let c0_i32_1750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1734 : BitVec 32 := 8#32
  let v2014 : BitVec 32 := Scalar.muli v19 c8_i32_1734
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32_1735 : BitVec 32 := 5#32
  let v2015 : BitVec 32 := Scalar.addi v29 c5_i32_1735
  let c8_i32_1736 : BitVec 32 := 8#32
  let c0_i32_1737 : BitVec 32 := 0#32
  let v2016 : BitVec 1 := Scalar.cmpi .eq c8_i32_1736 c0_i32_1737
  let c1_i32_1738 : BitVec 32 := 1#32
  let v2017 : BitVec 32 := Scalar.select v2016 c1_i32_1738 c8_i32_1736
  let v2018 : BitVec 32 := Scalar.remsi v2015 v2017
  let c0_i32_1740 : BitVec 32 := 0#32
  let v2020 : BitVec 1 := Scalar.cmpi .slt v2018 c0_i32_1740
  let c0_i32_1741 : BitVec 32 := 0#32
  let v2021 : BitVec 1 := Scalar.cmpi .slt v2017 c0_i32_1741
  let v2022 : BitVec 1 := Scalar.xori v2020 v2021
  let c0_i32_1739 : BitVec 32 := 0#32
  let v2019 : BitVec 1 := Scalar.cmpi .ne v2018 c0_i32_1739
  let v2023 : BitVec 1 := Scalar.andi v2022 v2019
  let v2024 : BitVec 32 := Scalar.addi v2018 v2017
  let v2025 : BitVec 32 := Scalar.select v2023 v2024 v2018
  let v2026 : BitVec 32 := Scalar.addi v2014 v2025
  let c1_i32_1749 : BitVec 32 := 1#32
  let v2027 : BitVec 32 := Scalar.muli v2026 c1_i32_1749
  let v2028 : BitVec 32 := Scalar.addi c0_i32_1750 v2027
  v2028.toNat
def k0_dev56 (d0 : Dev nD) : Nat :=
  let c0_i32_1771 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1755 : BitVec 32 := 8#32
  let v2037 : BitVec 32 := Scalar.muli v19 c8_i32_1755
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32_1756 : BitVec 32 := 6#32
  let v2038 : BitVec 32 := Scalar.addi v29 c6_i32_1756
  let c8_i32_1757 : BitVec 32 := 8#32
  let c0_i32_1758 : BitVec 32 := 0#32
  let v2039 : BitVec 1 := Scalar.cmpi .eq c8_i32_1757 c0_i32_1758
  let c1_i32_1759 : BitVec 32 := 1#32
  let v2040 : BitVec 32 := Scalar.select v2039 c1_i32_1759 c8_i32_1757
  let v2041 : BitVec 32 := Scalar.remsi v2038 v2040
  let c0_i32_1761 : BitVec 32 := 0#32
  let v2043 : BitVec 1 := Scalar.cmpi .slt v2041 c0_i32_1761
  let c0_i32_1762 : BitVec 32 := 0#32
  let v2044 : BitVec 1 := Scalar.cmpi .slt v2040 c0_i32_1762
  let v2045 : BitVec 1 := Scalar.xori v2043 v2044
  let c0_i32_1760 : BitVec 32 := 0#32
  let v2042 : BitVec 1 := Scalar.cmpi .ne v2041 c0_i32_1760
  let v2046 : BitVec 1 := Scalar.andi v2045 v2042
  let v2047 : BitVec 32 := Scalar.addi v2041 v2040
  let v2048 : BitVec 32 := Scalar.select v2046 v2047 v2041
  let v2049 : BitVec 32 := Scalar.addi v2037 v2048
  let c1_i32_1770 : BitVec 32 := 1#32
  let v2050 : BitVec 32 := Scalar.muli v2049 c1_i32_1770
  let v2051 : BitVec 32 := Scalar.addi c0_i32_1771 v2050
  v2051.toNat
def k0_dev57 (d0 : Dev nD) : Nat :=
  let c0_i32_1792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1776 : BitVec 32 := 8#32
  let v2060 : BitVec 32 := Scalar.muli v19 c8_i32_1776
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_1777 : BitVec 32 := 7#32
  let v2061 : BitVec 32 := Scalar.addi v29 c7_i32_1777
  let c8_i32_1778 : BitVec 32 := 8#32
  let c0_i32_1779 : BitVec 32 := 0#32
  let v2062 : BitVec 1 := Scalar.cmpi .eq c8_i32_1778 c0_i32_1779
  let c1_i32_1780 : BitVec 32 := 1#32
  let v2063 : BitVec 32 := Scalar.select v2062 c1_i32_1780 c8_i32_1778
  let v2064 : BitVec 32 := Scalar.remsi v2061 v2063
  let c0_i32_1782 : BitVec 32 := 0#32
  let v2066 : BitVec 1 := Scalar.cmpi .slt v2064 c0_i32_1782
  let c0_i32_1783 : BitVec 32 := 0#32
  let v2067 : BitVec 1 := Scalar.cmpi .slt v2063 c0_i32_1783
  let v2068 : BitVec 1 := Scalar.xori v2066 v2067
  let c0_i32_1781 : BitVec 32 := 0#32
  let v2065 : BitVec 1 := Scalar.cmpi .ne v2064 c0_i32_1781
  let v2069 : BitVec 1 := Scalar.andi v2068 v2065
  let v2070 : BitVec 32 := Scalar.addi v2064 v2063
  let v2071 : BitVec 32 := Scalar.select v2069 v2070 v2064
  let v2072 : BitVec 32 := Scalar.addi v2060 v2071
  let c1_i32_1791 : BitVec 32 := 1#32
  let v2073 : BitVec 32 := Scalar.muli v2072 c1_i32_1791
  let v2074 : BitVec 32 := Scalar.addi c0_i32_1792 v2073
  v2074.toNat
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_1798 : BitVec 32 := 256#32
  let v2085 : BitVec 32 := Scalar.muli v19 c256_i32_1798
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c32_i32_1799 : BitVec 32 := 32#32
  let v2086 : BitVec 32 := Scalar.muli v29 c32_i32_1799
  let v2087 : BitVec 32 := Scalar.addi v2085 v2086
  let v2088 : Index := Scalar.indexCast v2087
  let c0_1800 : Index := 0#32
  ![v2088.toNat, 0]
def k0_off15 (d0 : Dev nD) : Fin 3 → Nat :=
  let c0_1808 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c32_i32_1807 : BitVec 32 := 32#32
  let v2097 : BitVec 32 := Scalar.muli v19 c32_i32_1807
  let v2098 : Index := Scalar.indexCast v2097
  let c0_1809 : Index := 0#32
  ![0, v2098.toNat, 0]
def k0_dev58 (d0 : Dev nD) : Nat :=
  let c0_i32_1877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1861 : BitVec 32 := 1#32
  let v2142 : BitVec 32 := Scalar.addi v19 c1_i32_1861
  let c4_i32_1862 : BitVec 32 := 4#32
  let c0_i32_1863 : BitVec 32 := 0#32
  let v2143 : BitVec 1 := Scalar.cmpi .eq c4_i32_1862 c0_i32_1863
  let c1_i32_1864 : BitVec 32 := 1#32
  let v2144 : BitVec 32 := Scalar.select v2143 c1_i32_1864 c4_i32_1862
  let v2145 : BitVec 32 := Scalar.remsi v2142 v2144
  let c0_i32_1866 : BitVec 32 := 0#32
  let v2147 : BitVec 1 := Scalar.cmpi .slt v2145 c0_i32_1866
  let c0_i32_1867 : BitVec 32 := 0#32
  let v2148 : BitVec 1 := Scalar.cmpi .slt v2144 c0_i32_1867
  let v2149 : BitVec 1 := Scalar.xori v2147 v2148
  let c0_i32_1865 : BitVec 32 := 0#32
  let v2146 : BitVec 1 := Scalar.cmpi .ne v2145 c0_i32_1865
  let v2150 : BitVec 1 := Scalar.andi v2149 v2146
  let v2151 : BitVec 32 := Scalar.addi v2145 v2144
  let v2152 : BitVec 32 := Scalar.select v2150 v2151 v2145
  let c8_i32_1868 : BitVec 32 := 8#32
  let v2153 : BitVec 32 := Scalar.muli v2152 c8_i32_1868
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2154 : BitVec 32 := Scalar.addi v2153 v29
  let c1_i32_1876 : BitVec 32 := 1#32
  let v2155 : BitVec 32 := Scalar.muli v2154 c1_i32_1876
  let v2156 : BitVec 32 := Scalar.addi c0_i32_1877 v2155
  v2156.toNat
def k0_dev59 (d0 : Dev nD) : Nat :=
  let c0_i32_1898 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1882 : BitVec 32 := 2#32
  let v2165 : BitVec 32 := Scalar.addi v19 c2_i32_1882
  let c4_i32_1883 : BitVec 32 := 4#32
  let c0_i32_1884 : BitVec 32 := 0#32
  let v2166 : BitVec 1 := Scalar.cmpi .eq c4_i32_1883 c0_i32_1884
  let c1_i32_1885 : BitVec 32 := 1#32
  let v2167 : BitVec 32 := Scalar.select v2166 c1_i32_1885 c4_i32_1883
  let v2168 : BitVec 32 := Scalar.remsi v2165 v2167
  let c0_i32_1887 : BitVec 32 := 0#32
  let v2170 : BitVec 1 := Scalar.cmpi .slt v2168 c0_i32_1887
  let c0_i32_1888 : BitVec 32 := 0#32
  let v2171 : BitVec 1 := Scalar.cmpi .slt v2167 c0_i32_1888
  let v2172 : BitVec 1 := Scalar.xori v2170 v2171
  let c0_i32_1886 : BitVec 32 := 0#32
  let v2169 : BitVec 1 := Scalar.cmpi .ne v2168 c0_i32_1886
  let v2173 : BitVec 1 := Scalar.andi v2172 v2169
  let v2174 : BitVec 32 := Scalar.addi v2168 v2167
  let v2175 : BitVec 32 := Scalar.select v2173 v2174 v2168
  let c8_i32_1889 : BitVec 32 := 8#32
  let v2176 : BitVec 32 := Scalar.muli v2175 c8_i32_1889
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2177 : BitVec 32 := Scalar.addi v2176 v29
  let c1_i32_1897 : BitVec 32 := 1#32
  let v2178 : BitVec 32 := Scalar.muli v2177 c1_i32_1897
  let v2179 : BitVec 32 := Scalar.addi c0_i32_1898 v2178
  v2179.toNat
def k0_dev60 (d0 : Dev nD) : Nat :=
  let c0_i32_1919 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1903 : BitVec 32 := 3#32
  let v2188 : BitVec 32 := Scalar.addi v19 c3_i32_1903
  let c4_i32_1904 : BitVec 32 := 4#32
  let c0_i32_1905 : BitVec 32 := 0#32
  let v2189 : BitVec 1 := Scalar.cmpi .eq c4_i32_1904 c0_i32_1905
  let c1_i32_1906 : BitVec 32 := 1#32
  let v2190 : BitVec 32 := Scalar.select v2189 c1_i32_1906 c4_i32_1904
  let v2191 : BitVec 32 := Scalar.remsi v2188 v2190
  let c0_i32_1908 : BitVec 32 := 0#32
  let v2193 : BitVec 1 := Scalar.cmpi .slt v2191 c0_i32_1908
  let c0_i32_1909 : BitVec 32 := 0#32
  let v2194 : BitVec 1 := Scalar.cmpi .slt v2190 c0_i32_1909
  let v2195 : BitVec 1 := Scalar.xori v2193 v2194
  let c0_i32_1907 : BitVec 32 := 0#32
  let v2192 : BitVec 1 := Scalar.cmpi .ne v2191 c0_i32_1907
  let v2196 : BitVec 1 := Scalar.andi v2195 v2192
  let v2197 : BitVec 32 := Scalar.addi v2191 v2190
  let v2198 : BitVec 32 := Scalar.select v2196 v2197 v2191
  let c8_i32_1910 : BitVec 32 := 8#32
  let v2199 : BitVec 32 := Scalar.muli v2198 c8_i32_1910
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2200 : BitVec 32 := Scalar.addi v2199 v29
  let c1_i32_1918 : BitVec 32 := 1#32
  let v2201 : BitVec 32 := Scalar.muli v2200 c1_i32_1918
  let v2202 : BitVec 32 := Scalar.addi c0_i32_1919 v2201
  v2202.toNat
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32_1925 : BitVec 32 := 128#32
  let v2213 : BitVec 32 := Scalar.muli v29 c128_i32_1925
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c32_i32_1926 : BitVec 32 := 32#32
  let v2214 : BitVec 32 := Scalar.muli v19 c32_i32_1926
  let v2215 : BitVec 32 := Scalar.addi v2213 v2214
  let v2216 : Index := Scalar.indexCast v2215
  let c512_1927 : Index := 512#32
  ![v2216.toNat, 512]
def k0_off17 (d0 : Dev nD) : Fin 3 → Nat :=
  let c1_1935 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c32_i32_1934 : BitVec 32 := 32#32
  let v2225 : BitVec 32 := Scalar.muli v29 c32_i32_1934
  let v2226 : Index := Scalar.indexCast v2225
  let c0_1936 : Index := 0#32
  ![1, v2226.toNat, 0]
def k0_dev61 (d0 : Dev nD) : Nat :=
  let c0_i32_2068 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_2052 : BitVec 32 := 8#32
  let v2318 : BitVec 32 := Scalar.muli v19 c8_i32_2052
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_2053 : BitVec 32 := 1#32
  let v2319 : BitVec 32 := Scalar.addi v29 c1_i32_2053
  let c8_i32_2054 : BitVec 32 := 8#32
  let c0_i32_2055 : BitVec 32 := 0#32
  let v2320 : BitVec 1 := Scalar.cmpi .eq c8_i32_2054 c0_i32_2055
  let c1_i32_2056 : BitVec 32 := 1#32
  let v2321 : BitVec 32 := Scalar.select v2320 c1_i32_2056 c8_i32_2054
  let v2322 : BitVec 32 := Scalar.remsi v2319 v2321
  let c0_i32_2058 : BitVec 32 := 0#32
  let v2324 : BitVec 1 := Scalar.cmpi .slt v2322 c0_i32_2058
  let c0_i32_2059 : BitVec 32 := 0#32
  let v2325 : BitVec 1 := Scalar.cmpi .slt v2321 c0_i32_2059
  let v2326 : BitVec 1 := Scalar.xori v2324 v2325
  let c0_i32_2057 : BitVec 32 := 0#32
  let v2323 : BitVec 1 := Scalar.cmpi .ne v2322 c0_i32_2057
  let v2327 : BitVec 1 := Scalar.andi v2326 v2323
  let v2328 : BitVec 32 := Scalar.addi v2322 v2321
  let v2329 : BitVec 32 := Scalar.select v2327 v2328 v2322
  let v2330 : BitVec 32 := Scalar.addi v2318 v2329
  let c1_i32_2067 : BitVec 32 := 1#32
  let v2331 : BitVec 32 := Scalar.muli v2330 c1_i32_2067
  let v2332 : BitVec 32 := Scalar.addi c0_i32_2068 v2331
  v2332.toNat
def k0_dev62 (d0 : Dev nD) : Nat :=
  let c0_i32_2089 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_2073 : BitVec 32 := 8#32
  let v2341 : BitVec 32 := Scalar.muli v19 c8_i32_2073
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_2074 : BitVec 32 := 2#32
  let v2342 : BitVec 32 := Scalar.addi v29 c2_i32_2074
  let c8_i32_2075 : BitVec 32 := 8#32
  let c0_i32_2076 : BitVec 32 := 0#32
  let v2343 : BitVec 1 := Scalar.cmpi .eq c8_i32_2075 c0_i32_2076
  let c1_i32_2077 : BitVec 32 := 1#32
  let v2344 : BitVec 32 := Scalar.select v2343 c1_i32_2077 c8_i32_2075
  let v2345 : BitVec 32 := Scalar.remsi v2342 v2344
  let c0_i32_2079 : BitVec 32 := 0#32
  let v2347 : BitVec 1 := Scalar.cmpi .slt v2345 c0_i32_2079
  let c0_i32_2080 : BitVec 32 := 0#32
  let v2348 : BitVec 1 := Scalar.cmpi .slt v2344 c0_i32_2080
  let v2349 : BitVec 1 := Scalar.xori v2347 v2348
  let c0_i32_2078 : BitVec 32 := 0#32
  let v2346 : BitVec 1 := Scalar.cmpi .ne v2345 c0_i32_2078
  let v2350 : BitVec 1 := Scalar.andi v2349 v2346
  let v2351 : BitVec 32 := Scalar.addi v2345 v2344
  let v2352 : BitVec 32 := Scalar.select v2350 v2351 v2345
  let v2353 : BitVec 32 := Scalar.addi v2341 v2352
  let c1_i32_2088 : BitVec 32 := 1#32
  let v2354 : BitVec 32 := Scalar.muli v2353 c1_i32_2088
  let v2355 : BitVec 32 := Scalar.addi c0_i32_2089 v2354
  v2355.toNat
def k0_dev63 (d0 : Dev nD) : Nat :=
  let c0_i32_2110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_2094 : BitVec 32 := 8#32
  let v2364 : BitVec 32 := Scalar.muli v19 c8_i32_2094
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_2095 : BitVec 32 := 3#32
  let v2365 : BitVec 32 := Scalar.addi v29 c3_i32_2095
  let c8_i32_2096 : BitVec 32 := 8#32
  let c0_i32_2097 : BitVec 32 := 0#32
  let v2366 : BitVec 1 := Scalar.cmpi .eq c8_i32_2096 c0_i32_2097
  let c1_i32_2098 : BitVec 32 := 1#32
  let v2367 : BitVec 32 := Scalar.select v2366 c1_i32_2098 c8_i32_2096
  let v2368 : BitVec 32 := Scalar.remsi v2365 v2367
  let c0_i32_2100 : BitVec 32 := 0#32
  let v2370 : BitVec 1 := Scalar.cmpi .slt v2368 c0_i32_2100
  let c0_i32_2101 : BitVec 32 := 0#32
  let v2371 : BitVec 1 := Scalar.cmpi .slt v2367 c0_i32_2101
  let v2372 : BitVec 1 := Scalar.xori v2370 v2371
  let c0_i32_2099 : BitVec 32 := 0#32
  let v2369 : BitVec 1 := Scalar.cmpi .ne v2368 c0_i32_2099
  let v2373 : BitVec 1 := Scalar.andi v2372 v2369
  let v2374 : BitVec 32 := Scalar.addi v2368 v2367
  let v2375 : BitVec 32 := Scalar.select v2373 v2374 v2368
  let v2376 : BitVec 32 := Scalar.addi v2364 v2375
  let c1_i32_2109 : BitVec 32 := 1#32
  let v2377 : BitVec 32 := Scalar.muli v2376 c1_i32_2109
  let v2378 : BitVec 32 := Scalar.addi c0_i32_2110 v2377
  v2378.toNat
def k0_dev64 (d0 : Dev nD) : Nat :=
  let c0_i32_2131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_2115 : BitVec 32 := 8#32
  let v2387 : BitVec 32 := Scalar.muli v19 c8_i32_2115
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_2116 : BitVec 32 := 4#32
  let v2388 : BitVec 32 := Scalar.addi v29 c4_i32_2116
  let c8_i32_2117 : BitVec 32 := 8#32
  let c0_i32_2118 : BitVec 32 := 0#32
  let v2389 : BitVec 1 := Scalar.cmpi .eq c8_i32_2117 c0_i32_2118
  let c1_i32_2119 : BitVec 32 := 1#32
  let v2390 : BitVec 32 := Scalar.select v2389 c1_i32_2119 c8_i32_2117
  let v2391 : BitVec 32 := Scalar.remsi v2388 v2390
  let c0_i32_2121 : BitVec 32 := 0#32
  let v2393 : BitVec 1 := Scalar.cmpi .slt v2391 c0_i32_2121
  let c0_i32_2122 : BitVec 32 := 0#32
  let v2394 : BitVec 1 := Scalar.cmpi .slt v2390 c0_i32_2122
  let v2395 : BitVec 1 := Scalar.xori v2393 v2394
  let c0_i32_2120 : BitVec 32 := 0#32
  let v2392 : BitVec 1 := Scalar.cmpi .ne v2391 c0_i32_2120
  let v2396 : BitVec 1 := Scalar.andi v2395 v2392
  let v2397 : BitVec 32 := Scalar.addi v2391 v2390
  let v2398 : BitVec 32 := Scalar.select v2396 v2397 v2391
  let v2399 : BitVec 32 := Scalar.addi v2387 v2398
  let c1_i32_2130 : BitVec 32 := 1#32
  let v2400 : BitVec 32 := Scalar.muli v2399 c1_i32_2130
  let v2401 : BitVec 32 := Scalar.addi c0_i32_2131 v2400
  v2401.toNat
def k0_dev65 (d0 : Dev nD) : Nat :=
  let c0_i32_2152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_2136 : BitVec 32 := 8#32
  let v2410 : BitVec 32 := Scalar.muli v19 c8_i32_2136
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32_2137 : BitVec 32 := 5#32
  let v2411 : BitVec 32 := Scalar.addi v29 c5_i32_2137
  let c8_i32_2138 : BitVec 32 := 8#32
  let c0_i32_2139 : BitVec 32 := 0#32
  let v2412 : BitVec 1 := Scalar.cmpi .eq c8_i32_2138 c0_i32_2139
  let c1_i32_2140 : BitVec 32 := 1#32
  let v2413 : BitVec 32 := Scalar.select v2412 c1_i32_2140 c8_i32_2138
  let v2414 : BitVec 32 := Scalar.remsi v2411 v2413
  let c0_i32_2142 : BitVec 32 := 0#32
  let v2416 : BitVec 1 := Scalar.cmpi .slt v2414 c0_i32_2142
  let c0_i32_2143 : BitVec 32 := 0#32
  let v2417 : BitVec 1 := Scalar.cmpi .slt v2413 c0_i32_2143
  let v2418 : BitVec 1 := Scalar.xori v2416 v2417
  let c0_i32_2141 : BitVec 32 := 0#32
  let v2415 : BitVec 1 := Scalar.cmpi .ne v2414 c0_i32_2141
  let v2419 : BitVec 1 := Scalar.andi v2418 v2415
  let v2420 : BitVec 32 := Scalar.addi v2414 v2413
  let v2421 : BitVec 32 := Scalar.select v2419 v2420 v2414
  let v2422 : BitVec 32 := Scalar.addi v2410 v2421
  let c1_i32_2151 : BitVec 32 := 1#32
  let v2423 : BitVec 32 := Scalar.muli v2422 c1_i32_2151
  let v2424 : BitVec 32 := Scalar.addi c0_i32_2152 v2423
  v2424.toNat
def k0_dev66 (d0 : Dev nD) : Nat :=
  let c0_i32_2173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_2157 : BitVec 32 := 8#32
  let v2433 : BitVec 32 := Scalar.muli v19 c8_i32_2157
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32_2158 : BitVec 32 := 6#32
  let v2434 : BitVec 32 := Scalar.addi v29 c6_i32_2158
  let c8_i32_2159 : BitVec 32 := 8#32
  let c0_i32_2160 : BitVec 32 := 0#32
  let v2435 : BitVec 1 := Scalar.cmpi .eq c8_i32_2159 c0_i32_2160
  let c1_i32_2161 : BitVec 32 := 1#32
  let v2436 : BitVec 32 := Scalar.select v2435 c1_i32_2161 c8_i32_2159
  let v2437 : BitVec 32 := Scalar.remsi v2434 v2436
  let c0_i32_2163 : BitVec 32 := 0#32
  let v2439 : BitVec 1 := Scalar.cmpi .slt v2437 c0_i32_2163
  let c0_i32_2164 : BitVec 32 := 0#32
  let v2440 : BitVec 1 := Scalar.cmpi .slt v2436 c0_i32_2164
  let v2441 : BitVec 1 := Scalar.xori v2439 v2440
  let c0_i32_2162 : BitVec 32 := 0#32
  let v2438 : BitVec 1 := Scalar.cmpi .ne v2437 c0_i32_2162
  let v2442 : BitVec 1 := Scalar.andi v2441 v2438
  let v2443 : BitVec 32 := Scalar.addi v2437 v2436
  let v2444 : BitVec 32 := Scalar.select v2442 v2443 v2437
  let v2445 : BitVec 32 := Scalar.addi v2433 v2444
  let c1_i32_2172 : BitVec 32 := 1#32
  let v2446 : BitVec 32 := Scalar.muli v2445 c1_i32_2172
  let v2447 : BitVec 32 := Scalar.addi c0_i32_2173 v2446
  v2447.toNat
def k0_dev67 (d0 : Dev nD) : Nat :=
  let c0_i32_2194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_2178 : BitVec 32 := 8#32
  let v2456 : BitVec 32 := Scalar.muli v19 c8_i32_2178
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_2179 : BitVec 32 := 7#32
  let v2457 : BitVec 32 := Scalar.addi v29 c7_i32_2179
  let c8_i32_2180 : BitVec 32 := 8#32
  let c0_i32_2181 : BitVec 32 := 0#32
  let v2458 : BitVec 1 := Scalar.cmpi .eq c8_i32_2180 c0_i32_2181
  let c1_i32_2182 : BitVec 32 := 1#32
  let v2459 : BitVec 32 := Scalar.select v2458 c1_i32_2182 c8_i32_2180
  let v2460 : BitVec 32 := Scalar.remsi v2457 v2459
  let c0_i32_2184 : BitVec 32 := 0#32
  let v2462 : BitVec 1 := Scalar.cmpi .slt v2460 c0_i32_2184
  let c0_i32_2185 : BitVec 32 := 0#32
  let v2463 : BitVec 1 := Scalar.cmpi .slt v2459 c0_i32_2185
  let v2464 : BitVec 1 := Scalar.xori v2462 v2463
  let c0_i32_2183 : BitVec 32 := 0#32
  let v2461 : BitVec 1 := Scalar.cmpi .ne v2460 c0_i32_2183
  let v2465 : BitVec 1 := Scalar.andi v2464 v2461
  let v2466 : BitVec 32 := Scalar.addi v2460 v2459
  let v2467 : BitVec 32 := Scalar.select v2465 v2466 v2460
  let v2468 : BitVec 32 := Scalar.addi v2456 v2467
  let c1_i32_2193 : BitVec 32 := 1#32
  let v2469 : BitVec 32 := Scalar.muli v2468 c1_i32_2193
  let v2470 : BitVec 32 := Scalar.addi c0_i32_2194 v2469
  v2470.toNat
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_2200 : BitVec 32 := 256#32
  let v2481 : BitVec 32 := Scalar.muli v19 c256_i32_2200
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c32_i32_2201 : BitVec 32 := 32#32
  let v2482 : BitVec 32 := Scalar.muli v29 c32_i32_2201
  let v2483 : BitVec 32 := Scalar.addi v2481 v2482
  let v2484 : Index := Scalar.indexCast v2483
  let c256_2202 : Index := 256#32
  ![v2484.toNat, 256]
def k0_off19 (d0 : Dev nD) : Fin 3 → Nat :=
  let c1_2210 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c32_i32_2209 : BitVec 32 := 32#32
  let v2493 : BitVec 32 := Scalar.muli v19 c32_i32_2209
  let v2494 : Index := Scalar.indexCast v2493
  let c0_2211 : Index := 0#32
  ![1, v2494.toNat, 0]
def k0_dev68 (d0 : Dev nD) : Nat :=
  let c0_i32_2279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_2263 : BitVec 32 := 1#32
  let v2538 : BitVec 32 := Scalar.addi v19 c1_i32_2263
  let c4_i32_2264 : BitVec 32 := 4#32
  let c0_i32_2265 : BitVec 32 := 0#32
  let v2539 : BitVec 1 := Scalar.cmpi .eq c4_i32_2264 c0_i32_2265
  let c1_i32_2266 : BitVec 32 := 1#32
  let v2540 : BitVec 32 := Scalar.select v2539 c1_i32_2266 c4_i32_2264
  let v2541 : BitVec 32 := Scalar.remsi v2538 v2540
  let c0_i32_2268 : BitVec 32 := 0#32
  let v2543 : BitVec 1 := Scalar.cmpi .slt v2541 c0_i32_2268
  let c0_i32_2269 : BitVec 32 := 0#32
  let v2544 : BitVec 1 := Scalar.cmpi .slt v2540 c0_i32_2269
  let v2545 : BitVec 1 := Scalar.xori v2543 v2544
  let c0_i32_2267 : BitVec 32 := 0#32
  let v2542 : BitVec 1 := Scalar.cmpi .ne v2541 c0_i32_2267
  let v2546 : BitVec 1 := Scalar.andi v2545 v2542
  let v2547 : BitVec 32 := Scalar.addi v2541 v2540
  let v2548 : BitVec 32 := Scalar.select v2546 v2547 v2541
  let c8_i32_2270 : BitVec 32 := 8#32
  let v2549 : BitVec 32 := Scalar.muli v2548 c8_i32_2270
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2550 : BitVec 32 := Scalar.addi v2549 v29
  let c1_i32_2278 : BitVec 32 := 1#32
  let v2551 : BitVec 32 := Scalar.muli v2550 c1_i32_2278
  let v2552 : BitVec 32 := Scalar.addi c0_i32_2279 v2551
  v2552.toNat
def k0_dev69 (d0 : Dev nD) : Nat :=
  let c0_i32_2300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_2284 : BitVec 32 := 2#32
  let v2561 : BitVec 32 := Scalar.addi v19 c2_i32_2284
  let c4_i32_2285 : BitVec 32 := 4#32
  let c0_i32_2286 : BitVec 32 := 0#32
  let v2562 : BitVec 1 := Scalar.cmpi .eq c4_i32_2285 c0_i32_2286
  let c1_i32_2287 : BitVec 32 := 1#32
  let v2563 : BitVec 32 := Scalar.select v2562 c1_i32_2287 c4_i32_2285
  let v2564 : BitVec 32 := Scalar.remsi v2561 v2563
  let c0_i32_2289 : BitVec 32 := 0#32
  let v2566 : BitVec 1 := Scalar.cmpi .slt v2564 c0_i32_2289
  let c0_i32_2290 : BitVec 32 := 0#32
  let v2567 : BitVec 1 := Scalar.cmpi .slt v2563 c0_i32_2290
  let v2568 : BitVec 1 := Scalar.xori v2566 v2567
  let c0_i32_2288 : BitVec 32 := 0#32
  let v2565 : BitVec 1 := Scalar.cmpi .ne v2564 c0_i32_2288
  let v2569 : BitVec 1 := Scalar.andi v2568 v2565
  let v2570 : BitVec 32 := Scalar.addi v2564 v2563
  let v2571 : BitVec 32 := Scalar.select v2569 v2570 v2564
  let c8_i32_2291 : BitVec 32 := 8#32
  let v2572 : BitVec 32 := Scalar.muli v2571 c8_i32_2291
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2573 : BitVec 32 := Scalar.addi v2572 v29
  let c1_i32_2299 : BitVec 32 := 1#32
  let v2574 : BitVec 32 := Scalar.muli v2573 c1_i32_2299
  let v2575 : BitVec 32 := Scalar.addi c0_i32_2300 v2574
  v2575.toNat
def k0_dev70 (d0 : Dev nD) : Nat :=
  let c0_i32_2321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2305 : BitVec 32 := 3#32
  let v2584 : BitVec 32 := Scalar.addi v19 c3_i32_2305
  let c4_i32_2306 : BitVec 32 := 4#32
  let c0_i32_2307 : BitVec 32 := 0#32
  let v2585 : BitVec 1 := Scalar.cmpi .eq c4_i32_2306 c0_i32_2307
  let c1_i32_2308 : BitVec 32 := 1#32
  let v2586 : BitVec 32 := Scalar.select v2585 c1_i32_2308 c4_i32_2306
  let v2587 : BitVec 32 := Scalar.remsi v2584 v2586
  let c0_i32_2310 : BitVec 32 := 0#32
  let v2589 : BitVec 1 := Scalar.cmpi .slt v2587 c0_i32_2310
  let c0_i32_2311 : BitVec 32 := 0#32
  let v2590 : BitVec 1 := Scalar.cmpi .slt v2586 c0_i32_2311
  let v2591 : BitVec 1 := Scalar.xori v2589 v2590
  let c0_i32_2309 : BitVec 32 := 0#32
  let v2588 : BitVec 1 := Scalar.cmpi .ne v2587 c0_i32_2309
  let v2592 : BitVec 1 := Scalar.andi v2591 v2588
  let v2593 : BitVec 32 := Scalar.addi v2587 v2586
  let v2594 : BitVec 32 := Scalar.select v2592 v2593 v2587
  let c8_i32_2312 : BitVec 32 := 8#32
  let v2595 : BitVec 32 := Scalar.muli v2594 c8_i32_2312
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2596 : BitVec 32 := Scalar.addi v2595 v29
  let c1_i32_2320 : BitVec 32 := 1#32
  let v2597 : BitVec 32 := Scalar.muli v2596 c1_i32_2320
  let v2598 : BitVec 32 := Scalar.addi c0_i32_2321 v2597
  v2598.toNat
def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32_2327 : BitVec 32 := 128#32
  let v2609 : BitVec 32 := Scalar.muli v29 c128_i32_2327
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c32_i32_2328 : BitVec 32 := 32#32
  let v2610 : BitVec 32 := Scalar.muli v19 c32_i32_2328
  let v2611 : BitVec 32 := Scalar.addi v2609 v2610
  let v2612 : Index := Scalar.indexCast v2611
  let c768_2329 : Index := 768#32
  ![v2612.toNat, 768]
def k0_off21 (d0 : Dev nD) (c1_i32_2349 : BitVec 32) : Fin 3 → Nat :=
  let c0_2361 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2629 : BitVec 32 := Scalar.subi v29 c1_i32_2349
  let c8_i32_2350 : BitVec 32 := 8#32
  let c0_i32_2351 : BitVec 32 := 0#32
  let v2630 : BitVec 1 := Scalar.cmpi .eq c8_i32_2350 c0_i32_2351
  let c1_i32_2352 : BitVec 32 := 1#32
  let v2631 : BitVec 32 := Scalar.select v2630 c1_i32_2352 c8_i32_2350
  let v2632 : BitVec 32 := Scalar.remsi v2629 v2631
  let c0_i32_2354 : BitVec 32 := 0#32
  let v2634 : BitVec 1 := Scalar.cmpi .slt v2632 c0_i32_2354
  let c0_i32_2355 : BitVec 32 := 0#32
  let v2635 : BitVec 1 := Scalar.cmpi .slt v2631 c0_i32_2355
  let v2636 : BitVec 1 := Scalar.xori v2634 v2635
  let c0_i32_2353 : BitVec 32 := 0#32
  let v2633 : BitVec 1 := Scalar.cmpi .ne v2632 c0_i32_2353
  let v2637 : BitVec 1 := Scalar.andi v2636 v2633
  let v2638 : BitVec 32 := Scalar.addi v2632 v2631
  let v2639 : BitVec 32 := Scalar.select v2637 v2638 v2632
  let c32_i32_2360 : BitVec 32 := 32#32
  let v2642 : BitVec 32 := Scalar.muli v2639 c32_i32_2360
  let v2643 : Index := Scalar.indexCast v2642
  let c0_2362 : Index := 0#32
  ![0, v2643.toNat, 0]
def k0_off22 (d0 : Dev nD) (c1_i32_2349 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_2368 : BitVec 32 := 256#32
  let v2652 : BitVec 32 := Scalar.muli v19 c256_i32_2368
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2629 : BitVec 32 := Scalar.subi v29 c1_i32_2349
  let c8_i32_2350 : BitVec 32 := 8#32
  let c0_i32_2351 : BitVec 32 := 0#32
  let v2630 : BitVec 1 := Scalar.cmpi .eq c8_i32_2350 c0_i32_2351
  let c1_i32_2352 : BitVec 32 := 1#32
  let v2631 : BitVec 32 := Scalar.select v2630 c1_i32_2352 c8_i32_2350
  let v2632 : BitVec 32 := Scalar.remsi v2629 v2631
  let c0_i32_2354 : BitVec 32 := 0#32
  let v2634 : BitVec 1 := Scalar.cmpi .slt v2632 c0_i32_2354
  let c0_i32_2355 : BitVec 32 := 0#32
  let v2635 : BitVec 1 := Scalar.cmpi .slt v2631 c0_i32_2355
  let v2636 : BitVec 1 := Scalar.xori v2634 v2635
  let c0_i32_2353 : BitVec 32 := 0#32
  let v2633 : BitVec 1 := Scalar.cmpi .ne v2632 c0_i32_2353
  let v2637 : BitVec 1 := Scalar.andi v2636 v2633
  let v2638 : BitVec 32 := Scalar.addi v2632 v2631
  let v2639 : BitVec 32 := Scalar.select v2637 v2638 v2632
  let c32_i32_2369 : BitVec 32 := 32#32
  let v2653 : BitVec 32 := Scalar.muli v2639 c32_i32_2369
  let v2654 : BitVec 32 := Scalar.addi v2652 v2653
  let v2655 : Index := Scalar.indexCast v2654
  let c0_2370 : Index := 0#32
  ![v2655.toNat, 0]
def k0_dev71 (d0 : Dev nD) : Nat :=
  let c0_i32_2597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_2581 : BitVec 32 := 1#32
  let v2873 : BitVec 32 := Scalar.addi v19 c1_i32_2581
  let c4_i32_2582 : BitVec 32 := 4#32
  let c0_i32_2583 : BitVec 32 := 0#32
  let v2874 : BitVec 1 := Scalar.cmpi .eq c4_i32_2582 c0_i32_2583
  let c1_i32_2584 : BitVec 32 := 1#32
  let v2875 : BitVec 32 := Scalar.select v2874 c1_i32_2584 c4_i32_2582
  let v2876 : BitVec 32 := Scalar.remsi v2873 v2875
  let c0_i32_2586 : BitVec 32 := 0#32
  let v2878 : BitVec 1 := Scalar.cmpi .slt v2876 c0_i32_2586
  let c0_i32_2587 : BitVec 32 := 0#32
  let v2879 : BitVec 1 := Scalar.cmpi .slt v2875 c0_i32_2587
  let v2880 : BitVec 1 := Scalar.xori v2878 v2879
  let c0_i32_2585 : BitVec 32 := 0#32
  let v2877 : BitVec 1 := Scalar.cmpi .ne v2876 c0_i32_2585
  let v2881 : BitVec 1 := Scalar.andi v2880 v2877
  let v2882 : BitVec 32 := Scalar.addi v2876 v2875
  let v2883 : BitVec 32 := Scalar.select v2881 v2882 v2876
  let c8_i32_2588 : BitVec 32 := 8#32
  let v2884 : BitVec 32 := Scalar.muli v2883 c8_i32_2588
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2885 : BitVec 32 := Scalar.addi v2884 v29
  let c1_i32_2596 : BitVec 32 := 1#32
  let v2886 : BitVec 32 := Scalar.muli v2885 c1_i32_2596
  let v2887 : BitVec 32 := Scalar.addi c0_i32_2597 v2886
  v2887.toNat
def k0_dev72 (d0 : Dev nD) : Nat :=
  let c0_i32_2618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_2602 : BitVec 32 := 2#32
  let v2896 : BitVec 32 := Scalar.addi v19 c2_i32_2602
  let c4_i32_2603 : BitVec 32 := 4#32
  let c0_i32_2604 : BitVec 32 := 0#32
  let v2897 : BitVec 1 := Scalar.cmpi .eq c4_i32_2603 c0_i32_2604
  let c1_i32_2605 : BitVec 32 := 1#32
  let v2898 : BitVec 32 := Scalar.select v2897 c1_i32_2605 c4_i32_2603
  let v2899 : BitVec 32 := Scalar.remsi v2896 v2898
  let c0_i32_2607 : BitVec 32 := 0#32
  let v2901 : BitVec 1 := Scalar.cmpi .slt v2899 c0_i32_2607
  let c0_i32_2608 : BitVec 32 := 0#32
  let v2902 : BitVec 1 := Scalar.cmpi .slt v2898 c0_i32_2608
  let v2903 : BitVec 1 := Scalar.xori v2901 v2902
  let c0_i32_2606 : BitVec 32 := 0#32
  let v2900 : BitVec 1 := Scalar.cmpi .ne v2899 c0_i32_2606
  let v2904 : BitVec 1 := Scalar.andi v2903 v2900
  let v2905 : BitVec 32 := Scalar.addi v2899 v2898
  let v2906 : BitVec 32 := Scalar.select v2904 v2905 v2899
  let c8_i32_2609 : BitVec 32 := 8#32
  let v2907 : BitVec 32 := Scalar.muli v2906 c8_i32_2609
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2908 : BitVec 32 := Scalar.addi v2907 v29
  let c1_i32_2617 : BitVec 32 := 1#32
  let v2909 : BitVec 32 := Scalar.muli v2908 c1_i32_2617
  let v2910 : BitVec 32 := Scalar.addi c0_i32_2618 v2909
  v2910.toNat
def k0_dev73 (d0 : Dev nD) : Nat :=
  let c0_i32_2639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2623 : BitVec 32 := 3#32
  let v2919 : BitVec 32 := Scalar.addi v19 c3_i32_2623
  let c4_i32_2624 : BitVec 32 := 4#32
  let c0_i32_2625 : BitVec 32 := 0#32
  let v2920 : BitVec 1 := Scalar.cmpi .eq c4_i32_2624 c0_i32_2625
  let c1_i32_2626 : BitVec 32 := 1#32
  let v2921 : BitVec 32 := Scalar.select v2920 c1_i32_2626 c4_i32_2624
  let v2922 : BitVec 32 := Scalar.remsi v2919 v2921
  let c0_i32_2628 : BitVec 32 := 0#32
  let v2924 : BitVec 1 := Scalar.cmpi .slt v2922 c0_i32_2628
  let c0_i32_2629 : BitVec 32 := 0#32
  let v2925 : BitVec 1 := Scalar.cmpi .slt v2921 c0_i32_2629
  let v2926 : BitVec 1 := Scalar.xori v2924 v2925
  let c0_i32_2627 : BitVec 32 := 0#32
  let v2923 : BitVec 1 := Scalar.cmpi .ne v2922 c0_i32_2627
  let v2927 : BitVec 1 := Scalar.andi v2926 v2923
  let v2928 : BitVec 32 := Scalar.addi v2922 v2921
  let v2929 : BitVec 32 := Scalar.select v2927 v2928 v2922
  let c8_i32_2630 : BitVec 32 := 8#32
  let v2930 : BitVec 32 := Scalar.muli v2929 c8_i32_2630
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2931 : BitVec 32 := Scalar.addi v2930 v29
  let c1_i32_2638 : BitVec 32 := 1#32
  let v2932 : BitVec 32 := Scalar.muli v2931 c1_i32_2638
  let v2933 : BitVec 32 := Scalar.addi c0_i32_2639 v2932
  v2933.toNat
def k0_off23 (d0 : Dev nD) (c1_i32_2657 : BitVec 32) : Fin 3 → Nat :=
  let c0_2669 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2950 : BitVec 32 := Scalar.subi v19 c1_i32_2657
  let c4_i32_2658 : BitVec 32 := 4#32
  let c0_i32_2659 : BitVec 32 := 0#32
  let v2951 : BitVec 1 := Scalar.cmpi .eq c4_i32_2658 c0_i32_2659
  let c1_i32_2660 : BitVec 32 := 1#32
  let v2952 : BitVec 32 := Scalar.select v2951 c1_i32_2660 c4_i32_2658
  let v2953 : BitVec 32 := Scalar.remsi v2950 v2952
  let c0_i32_2662 : BitVec 32 := 0#32
  let v2955 : BitVec 1 := Scalar.cmpi .slt v2953 c0_i32_2662
  let c0_i32_2663 : BitVec 32 := 0#32
  let v2956 : BitVec 1 := Scalar.cmpi .slt v2952 c0_i32_2663
  let v2957 : BitVec 1 := Scalar.xori v2955 v2956
  let c0_i32_2661 : BitVec 32 := 0#32
  let v2954 : BitVec 1 := Scalar.cmpi .ne v2953 c0_i32_2661
  let v2958 : BitVec 1 := Scalar.andi v2957 v2954
  let v2959 : BitVec 32 := Scalar.addi v2953 v2952
  let v2960 : BitVec 32 := Scalar.select v2958 v2959 v2953
  let c32_i32_2668 : BitVec 32 := 32#32
  let v2963 : BitVec 32 := Scalar.muli v2960 c32_i32_2668
  let v2964 : Index := Scalar.indexCast v2963
  let c0_2670 : Index := 0#32
  ![0, v2964.toNat, 0]
def k0_off24 (d0 : Dev nD) (c1_i32_2657 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32_2676 : BitVec 32 := 128#32
  let v2973 : BitVec 32 := Scalar.muli v29 c128_i32_2676
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2950 : BitVec 32 := Scalar.subi v19 c1_i32_2657
  let c4_i32_2658 : BitVec 32 := 4#32
  let c0_i32_2659 : BitVec 32 := 0#32
  let v2951 : BitVec 1 := Scalar.cmpi .eq c4_i32_2658 c0_i32_2659
  let c1_i32_2660 : BitVec 32 := 1#32
  let v2952 : BitVec 32 := Scalar.select v2951 c1_i32_2660 c4_i32_2658
  let v2953 : BitVec 32 := Scalar.remsi v2950 v2952
  let c0_i32_2662 : BitVec 32 := 0#32
  let v2955 : BitVec 1 := Scalar.cmpi .slt v2953 c0_i32_2662
  let c0_i32_2663 : BitVec 32 := 0#32
  let v2956 : BitVec 1 := Scalar.cmpi .slt v2952 c0_i32_2663
  let v2957 : BitVec 1 := Scalar.xori v2955 v2956
  let c0_i32_2661 : BitVec 32 := 0#32
  let v2954 : BitVec 1 := Scalar.cmpi .ne v2953 c0_i32_2661
  let v2958 : BitVec 1 := Scalar.andi v2957 v2954
  let v2959 : BitVec 32 := Scalar.addi v2953 v2952
  let v2960 : BitVec 32 := Scalar.select v2958 v2959 v2953
  let c32_i32_2677 : BitVec 32 := 32#32
  let v2974 : BitVec 32 := Scalar.muli v2960 c32_i32_2677
  let v2975 : BitVec 32 := Scalar.addi v2973 v2974
  let v2976 : Index := Scalar.indexCast v2975
  let c512_2678 : Index := 512#32
  ![v2976.toNat, 512]
def k0_dev74 (d0 : Dev nD) : Nat :=
  let c0_i32_2765 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_2749 : BitVec 32 := 8#32
  let v3050 : BitVec 32 := Scalar.muli v19 c8_i32_2749
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_2750 : BitVec 32 := 1#32
  let v3051 : BitVec 32 := Scalar.addi v29 c1_i32_2750
  let c8_i32_2751 : BitVec 32 := 8#32
  let c0_i32_2752 : BitVec 32 := 0#32
  let v3052 : BitVec 1 := Scalar.cmpi .eq c8_i32_2751 c0_i32_2752
  let c1_i32_2753 : BitVec 32 := 1#32
  let v3053 : BitVec 32 := Scalar.select v3052 c1_i32_2753 c8_i32_2751
  let v3054 : BitVec 32 := Scalar.remsi v3051 v3053
  let c0_i32_2755 : BitVec 32 := 0#32
  let v3056 : BitVec 1 := Scalar.cmpi .slt v3054 c0_i32_2755
  let c0_i32_2756 : BitVec 32 := 0#32
  let v3057 : BitVec 1 := Scalar.cmpi .slt v3053 c0_i32_2756
  let v3058 : BitVec 1 := Scalar.xori v3056 v3057
  let c0_i32_2754 : BitVec 32 := 0#32
  let v3055 : BitVec 1 := Scalar.cmpi .ne v3054 c0_i32_2754
  let v3059 : BitVec 1 := Scalar.andi v3058 v3055
  let v3060 : BitVec 32 := Scalar.addi v3054 v3053
  let v3061 : BitVec 32 := Scalar.select v3059 v3060 v3054
  let v3062 : BitVec 32 := Scalar.addi v3050 v3061
  let c1_i32_2764 : BitVec 32 := 1#32
  let v3063 : BitVec 32 := Scalar.muli v3062 c1_i32_2764
  let v3064 : BitVec 32 := Scalar.addi c0_i32_2765 v3063
  v3064.toNat
def k0_dev75 (d0 : Dev nD) : Nat :=
  let c0_i32_2786 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_2770 : BitVec 32 := 8#32
  let v3073 : BitVec 32 := Scalar.muli v19 c8_i32_2770
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_2771 : BitVec 32 := 2#32
  let v3074 : BitVec 32 := Scalar.addi v29 c2_i32_2771
  let c8_i32_2772 : BitVec 32 := 8#32
  let c0_i32_2773 : BitVec 32 := 0#32
  let v3075 : BitVec 1 := Scalar.cmpi .eq c8_i32_2772 c0_i32_2773
  let c1_i32_2774 : BitVec 32 := 1#32
  let v3076 : BitVec 32 := Scalar.select v3075 c1_i32_2774 c8_i32_2772
  let v3077 : BitVec 32 := Scalar.remsi v3074 v3076
  let c0_i32_2776 : BitVec 32 := 0#32
  let v3079 : BitVec 1 := Scalar.cmpi .slt v3077 c0_i32_2776
  let c0_i32_2777 : BitVec 32 := 0#32
  let v3080 : BitVec 1 := Scalar.cmpi .slt v3076 c0_i32_2777
  let v3081 : BitVec 1 := Scalar.xori v3079 v3080
  let c0_i32_2775 : BitVec 32 := 0#32
  let v3078 : BitVec 1 := Scalar.cmpi .ne v3077 c0_i32_2775
  let v3082 : BitVec 1 := Scalar.andi v3081 v3078
  let v3083 : BitVec 32 := Scalar.addi v3077 v3076
  let v3084 : BitVec 32 := Scalar.select v3082 v3083 v3077
  let v3085 : BitVec 32 := Scalar.addi v3073 v3084
  let c1_i32_2785 : BitVec 32 := 1#32
  let v3086 : BitVec 32 := Scalar.muli v3085 c1_i32_2785
  let v3087 : BitVec 32 := Scalar.addi c0_i32_2786 v3086
  v3087.toNat
def k0_dev76 (d0 : Dev nD) : Nat :=
  let c0_i32_2807 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_2791 : BitVec 32 := 8#32
  let v3096 : BitVec 32 := Scalar.muli v19 c8_i32_2791
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_2792 : BitVec 32 := 3#32
  let v3097 : BitVec 32 := Scalar.addi v29 c3_i32_2792
  let c8_i32_2793 : BitVec 32 := 8#32
  let c0_i32_2794 : BitVec 32 := 0#32
  let v3098 : BitVec 1 := Scalar.cmpi .eq c8_i32_2793 c0_i32_2794
  let c1_i32_2795 : BitVec 32 := 1#32
  let v3099 : BitVec 32 := Scalar.select v3098 c1_i32_2795 c8_i32_2793
  let v3100 : BitVec 32 := Scalar.remsi v3097 v3099
  let c0_i32_2797 : BitVec 32 := 0#32
  let v3102 : BitVec 1 := Scalar.cmpi .slt v3100 c0_i32_2797
  let c0_i32_2798 : BitVec 32 := 0#32
  let v3103 : BitVec 1 := Scalar.cmpi .slt v3099 c0_i32_2798
  let v3104 : BitVec 1 := Scalar.xori v3102 v3103
  let c0_i32_2796 : BitVec 32 := 0#32
  let v3101 : BitVec 1 := Scalar.cmpi .ne v3100 c0_i32_2796
  let v3105 : BitVec 1 := Scalar.andi v3104 v3101
  let v3106 : BitVec 32 := Scalar.addi v3100 v3099
  let v3107 : BitVec 32 := Scalar.select v3105 v3106 v3100
  let v3108 : BitVec 32 := Scalar.addi v3096 v3107
  let c1_i32_2806 : BitVec 32 := 1#32
  let v3109 : BitVec 32 := Scalar.muli v3108 c1_i32_2806
  let v3110 : BitVec 32 := Scalar.addi c0_i32_2807 v3109
  v3110.toNat
def k0_dev77 (d0 : Dev nD) : Nat :=
  let c0_i32_2828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_2812 : BitVec 32 := 8#32
  let v3119 : BitVec 32 := Scalar.muli v19 c8_i32_2812
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_2813 : BitVec 32 := 4#32
  let v3120 : BitVec 32 := Scalar.addi v29 c4_i32_2813
  let c8_i32_2814 : BitVec 32 := 8#32
  let c0_i32_2815 : BitVec 32 := 0#32
  let v3121 : BitVec 1 := Scalar.cmpi .eq c8_i32_2814 c0_i32_2815
  let c1_i32_2816 : BitVec 32 := 1#32
  let v3122 : BitVec 32 := Scalar.select v3121 c1_i32_2816 c8_i32_2814
  let v3123 : BitVec 32 := Scalar.remsi v3120 v3122
  let c0_i32_2818 : BitVec 32 := 0#32
  let v3125 : BitVec 1 := Scalar.cmpi .slt v3123 c0_i32_2818
  let c0_i32_2819 : BitVec 32 := 0#32
  let v3126 : BitVec 1 := Scalar.cmpi .slt v3122 c0_i32_2819
  let v3127 : BitVec 1 := Scalar.xori v3125 v3126
  let c0_i32_2817 : BitVec 32 := 0#32
  let v3124 : BitVec 1 := Scalar.cmpi .ne v3123 c0_i32_2817
  let v3128 : BitVec 1 := Scalar.andi v3127 v3124
  let v3129 : BitVec 32 := Scalar.addi v3123 v3122
  let v3130 : BitVec 32 := Scalar.select v3128 v3129 v3123
  let v3131 : BitVec 32 := Scalar.addi v3119 v3130
  let c1_i32_2827 : BitVec 32 := 1#32
  let v3132 : BitVec 32 := Scalar.muli v3131 c1_i32_2827
  let v3133 : BitVec 32 := Scalar.addi c0_i32_2828 v3132
  v3133.toNat
def k0_dev78 (d0 : Dev nD) : Nat :=
  let c0_i32_2849 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_2833 : BitVec 32 := 8#32
  let v3142 : BitVec 32 := Scalar.muli v19 c8_i32_2833
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32_2834 : BitVec 32 := 5#32
  let v3143 : BitVec 32 := Scalar.addi v29 c5_i32_2834
  let c8_i32_2835 : BitVec 32 := 8#32
  let c0_i32_2836 : BitVec 32 := 0#32
  let v3144 : BitVec 1 := Scalar.cmpi .eq c8_i32_2835 c0_i32_2836
  let c1_i32_2837 : BitVec 32 := 1#32
  let v3145 : BitVec 32 := Scalar.select v3144 c1_i32_2837 c8_i32_2835
  let v3146 : BitVec 32 := Scalar.remsi v3143 v3145
  let c0_i32_2839 : BitVec 32 := 0#32
  let v3148 : BitVec 1 := Scalar.cmpi .slt v3146 c0_i32_2839
  let c0_i32_2840 : BitVec 32 := 0#32
  let v3149 : BitVec 1 := Scalar.cmpi .slt v3145 c0_i32_2840
  let v3150 : BitVec 1 := Scalar.xori v3148 v3149
  let c0_i32_2838 : BitVec 32 := 0#32
  let v3147 : BitVec 1 := Scalar.cmpi .ne v3146 c0_i32_2838
  let v3151 : BitVec 1 := Scalar.andi v3150 v3147
  let v3152 : BitVec 32 := Scalar.addi v3146 v3145
  let v3153 : BitVec 32 := Scalar.select v3151 v3152 v3146
  let v3154 : BitVec 32 := Scalar.addi v3142 v3153
  let c1_i32_2848 : BitVec 32 := 1#32
  let v3155 : BitVec 32 := Scalar.muli v3154 c1_i32_2848
  let v3156 : BitVec 32 := Scalar.addi c0_i32_2849 v3155
  v3156.toNat
def k0_dev79 (d0 : Dev nD) : Nat :=
  let c0_i32_2870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_2854 : BitVec 32 := 8#32
  let v3165 : BitVec 32 := Scalar.muli v19 c8_i32_2854
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32_2855 : BitVec 32 := 6#32
  let v3166 : BitVec 32 := Scalar.addi v29 c6_i32_2855
  let c8_i32_2856 : BitVec 32 := 8#32
  let c0_i32_2857 : BitVec 32 := 0#32
  let v3167 : BitVec 1 := Scalar.cmpi .eq c8_i32_2856 c0_i32_2857
  let c1_i32_2858 : BitVec 32 := 1#32
  let v3168 : BitVec 32 := Scalar.select v3167 c1_i32_2858 c8_i32_2856
  let v3169 : BitVec 32 := Scalar.remsi v3166 v3168
  let c0_i32_2860 : BitVec 32 := 0#32
  let v3171 : BitVec 1 := Scalar.cmpi .slt v3169 c0_i32_2860
  let c0_i32_2861 : BitVec 32 := 0#32
  let v3172 : BitVec 1 := Scalar.cmpi .slt v3168 c0_i32_2861
  let v3173 : BitVec 1 := Scalar.xori v3171 v3172
  let c0_i32_2859 : BitVec 32 := 0#32
  let v3170 : BitVec 1 := Scalar.cmpi .ne v3169 c0_i32_2859
  let v3174 : BitVec 1 := Scalar.andi v3173 v3170
  let v3175 : BitVec 32 := Scalar.addi v3169 v3168
  let v3176 : BitVec 32 := Scalar.select v3174 v3175 v3169
  let v3177 : BitVec 32 := Scalar.addi v3165 v3176
  let c1_i32_2869 : BitVec 32 := 1#32
  let v3178 : BitVec 32 := Scalar.muli v3177 c1_i32_2869
  let v3179 : BitVec 32 := Scalar.addi c0_i32_2870 v3178
  v3179.toNat
def k0_dev80 (d0 : Dev nD) : Nat :=
  let c0_i32_2891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_2875 : BitVec 32 := 8#32
  let v3188 : BitVec 32 := Scalar.muli v19 c8_i32_2875
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_2876 : BitVec 32 := 7#32
  let v3189 : BitVec 32 := Scalar.addi v29 c7_i32_2876
  let c8_i32_2877 : BitVec 32 := 8#32
  let c0_i32_2878 : BitVec 32 := 0#32
  let v3190 : BitVec 1 := Scalar.cmpi .eq c8_i32_2877 c0_i32_2878
  let c1_i32_2879 : BitVec 32 := 1#32
  let v3191 : BitVec 32 := Scalar.select v3190 c1_i32_2879 c8_i32_2877
  let v3192 : BitVec 32 := Scalar.remsi v3189 v3191
  let c0_i32_2881 : BitVec 32 := 0#32
  let v3194 : BitVec 1 := Scalar.cmpi .slt v3192 c0_i32_2881
  let c0_i32_2882 : BitVec 32 := 0#32
  let v3195 : BitVec 1 := Scalar.cmpi .slt v3191 c0_i32_2882
  let v3196 : BitVec 1 := Scalar.xori v3194 v3195
  let c0_i32_2880 : BitVec 32 := 0#32
  let v3193 : BitVec 1 := Scalar.cmpi .ne v3192 c0_i32_2880
  let v3197 : BitVec 1 := Scalar.andi v3196 v3193
  let v3198 : BitVec 32 := Scalar.addi v3192 v3191
  let v3199 : BitVec 32 := Scalar.select v3197 v3198 v3192
  let v3200 : BitVec 32 := Scalar.addi v3188 v3199
  let c1_i32_2890 : BitVec 32 := 1#32
  let v3201 : BitVec 32 := Scalar.muli v3200 c1_i32_2890
  let v3202 : BitVec 32 := Scalar.addi c0_i32_2891 v3201
  v3202.toNat
def k0_off25 (d0 : Dev nD) (c1_i32_2909 : BitVec 32) : Fin 3 → Nat :=
  let c1_2921 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v3219 : BitVec 32 := Scalar.subi v29 c1_i32_2909
  let c8_i32_2910 : BitVec 32 := 8#32
  let c0_i32_2911 : BitVec 32 := 0#32
  let v3220 : BitVec 1 := Scalar.cmpi .eq c8_i32_2910 c0_i32_2911
  let c1_i32_2912 : BitVec 32 := 1#32
  let v3221 : BitVec 32 := Scalar.select v3220 c1_i32_2912 c8_i32_2910
  let v3222 : BitVec 32 := Scalar.remsi v3219 v3221
  let c0_i32_2914 : BitVec 32 := 0#32
  let v3224 : BitVec 1 := Scalar.cmpi .slt v3222 c0_i32_2914
  let c0_i32_2915 : BitVec 32 := 0#32
  let v3225 : BitVec 1 := Scalar.cmpi .slt v3221 c0_i32_2915
  let v3226 : BitVec 1 := Scalar.xori v3224 v3225
  let c0_i32_2913 : BitVec 32 := 0#32
  let v3223 : BitVec 1 := Scalar.cmpi .ne v3222 c0_i32_2913
  let v3227 : BitVec 1 := Scalar.andi v3226 v3223
  let v3228 : BitVec 32 := Scalar.addi v3222 v3221
  let v3229 : BitVec 32 := Scalar.select v3227 v3228 v3222
  let c32_i32_2920 : BitVec 32 := 32#32
  let v3232 : BitVec 32 := Scalar.muli v3229 c32_i32_2920
  let v3233 : Index := Scalar.indexCast v3232
  let c0_2922 : Index := 0#32
  ![1, v3233.toNat, 0]
def k0_off26 (d0 : Dev nD) (c1_i32_2909 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_2928 : BitVec 32 := 256#32
  let v3242 : BitVec 32 := Scalar.muli v19 c256_i32_2928
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v3219 : BitVec 32 := Scalar.subi v29 c1_i32_2909
  let c8_i32_2910 : BitVec 32 := 8#32
  let c0_i32_2911 : BitVec 32 := 0#32
  let v3220 : BitVec 1 := Scalar.cmpi .eq c8_i32_2910 c0_i32_2911
  let c1_i32_2912 : BitVec 32 := 1#32
  let v3221 : BitVec 32 := Scalar.select v3220 c1_i32_2912 c8_i32_2910
  let v3222 : BitVec 32 := Scalar.remsi v3219 v3221
  let c0_i32_2914 : BitVec 32 := 0#32
  let v3224 : BitVec 1 := Scalar.cmpi .slt v3222 c0_i32_2914
  let c0_i32_2915 : BitVec 32 := 0#32
  let v3225 : BitVec 1 := Scalar.cmpi .slt v3221 c0_i32_2915
  let v3226 : BitVec 1 := Scalar.xori v3224 v3225
  let c0_i32_2913 : BitVec 32 := 0#32
  let v3223 : BitVec 1 := Scalar.cmpi .ne v3222 c0_i32_2913
  let v3227 : BitVec 1 := Scalar.andi v3226 v3223
  let v3228 : BitVec 32 := Scalar.addi v3222 v3221
  let v3229 : BitVec 32 := Scalar.select v3227 v3228 v3222
  let c32_i32_2929 : BitVec 32 := 32#32
  let v3243 : BitVec 32 := Scalar.muli v3229 c32_i32_2929
  let v3244 : BitVec 32 := Scalar.addi v3242 v3243
  let v3245 : Index := Scalar.indexCast v3244
  let c256_2930 : Index := 256#32
  ![v3245.toNat, 256]
def k0_dev81 (d0 : Dev nD) : Nat :=
  let c0_i32_3157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_3141 : BitVec 32 := 1#32
  let v3463 : BitVec 32 := Scalar.addi v19 c1_i32_3141
  let c4_i32_3142 : BitVec 32 := 4#32
  let c0_i32_3143 : BitVec 32 := 0#32
  let v3464 : BitVec 1 := Scalar.cmpi .eq c4_i32_3142 c0_i32_3143
  let c1_i32_3144 : BitVec 32 := 1#32
  let v3465 : BitVec 32 := Scalar.select v3464 c1_i32_3144 c4_i32_3142
  let v3466 : BitVec 32 := Scalar.remsi v3463 v3465
  let c0_i32_3146 : BitVec 32 := 0#32
  let v3468 : BitVec 1 := Scalar.cmpi .slt v3466 c0_i32_3146
  let c0_i32_3147 : BitVec 32 := 0#32
  let v3469 : BitVec 1 := Scalar.cmpi .slt v3465 c0_i32_3147
  let v3470 : BitVec 1 := Scalar.xori v3468 v3469
  let c0_i32_3145 : BitVec 32 := 0#32
  let v3467 : BitVec 1 := Scalar.cmpi .ne v3466 c0_i32_3145
  let v3471 : BitVec 1 := Scalar.andi v3470 v3467
  let v3472 : BitVec 32 := Scalar.addi v3466 v3465
  let v3473 : BitVec 32 := Scalar.select v3471 v3472 v3466
  let c8_i32_3148 : BitVec 32 := 8#32
  let v3474 : BitVec 32 := Scalar.muli v3473 c8_i32_3148
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v3475 : BitVec 32 := Scalar.addi v3474 v29
  let c1_i32_3156 : BitVec 32 := 1#32
  let v3476 : BitVec 32 := Scalar.muli v3475 c1_i32_3156
  let v3477 : BitVec 32 := Scalar.addi c0_i32_3157 v3476
  v3477.toNat
def k0_dev82 (d0 : Dev nD) : Nat :=
  let c0_i32_3178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_3162 : BitVec 32 := 2#32
  let v3486 : BitVec 32 := Scalar.addi v19 c2_i32_3162
  let c4_i32_3163 : BitVec 32 := 4#32
  let c0_i32_3164 : BitVec 32 := 0#32
  let v3487 : BitVec 1 := Scalar.cmpi .eq c4_i32_3163 c0_i32_3164
  let c1_i32_3165 : BitVec 32 := 1#32
  let v3488 : BitVec 32 := Scalar.select v3487 c1_i32_3165 c4_i32_3163
  let v3489 : BitVec 32 := Scalar.remsi v3486 v3488
  let c0_i32_3167 : BitVec 32 := 0#32
  let v3491 : BitVec 1 := Scalar.cmpi .slt v3489 c0_i32_3167
  let c0_i32_3168 : BitVec 32 := 0#32
  let v3492 : BitVec 1 := Scalar.cmpi .slt v3488 c0_i32_3168
  let v3493 : BitVec 1 := Scalar.xori v3491 v3492
  let c0_i32_3166 : BitVec 32 := 0#32
  let v3490 : BitVec 1 := Scalar.cmpi .ne v3489 c0_i32_3166
  let v3494 : BitVec 1 := Scalar.andi v3493 v3490
  let v3495 : BitVec 32 := Scalar.addi v3489 v3488
  let v3496 : BitVec 32 := Scalar.select v3494 v3495 v3489
  let c8_i32_3169 : BitVec 32 := 8#32
  let v3497 : BitVec 32 := Scalar.muli v3496 c8_i32_3169
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v3498 : BitVec 32 := Scalar.addi v3497 v29
  let c1_i32_3177 : BitVec 32 := 1#32
  let v3499 : BitVec 32 := Scalar.muli v3498 c1_i32_3177
  let v3500 : BitVec 32 := Scalar.addi c0_i32_3178 v3499
  v3500.toNat
def k0_dev83 (d0 : Dev nD) : Nat :=
  let c0_i32_3199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_3183 : BitVec 32 := 3#32
  let v3509 : BitVec 32 := Scalar.addi v19 c3_i32_3183
  let c4_i32_3184 : BitVec 32 := 4#32
  let c0_i32_3185 : BitVec 32 := 0#32
  let v3510 : BitVec 1 := Scalar.cmpi .eq c4_i32_3184 c0_i32_3185
  let c1_i32_3186 : BitVec 32 := 1#32
  let v3511 : BitVec 32 := Scalar.select v3510 c1_i32_3186 c4_i32_3184
  let v3512 : BitVec 32 := Scalar.remsi v3509 v3511
  let c0_i32_3188 : BitVec 32 := 0#32
  let v3514 : BitVec 1 := Scalar.cmpi .slt v3512 c0_i32_3188
  let c0_i32_3189 : BitVec 32 := 0#32
  let v3515 : BitVec 1 := Scalar.cmpi .slt v3511 c0_i32_3189
  let v3516 : BitVec 1 := Scalar.xori v3514 v3515
  let c0_i32_3187 : BitVec 32 := 0#32
  let v3513 : BitVec 1 := Scalar.cmpi .ne v3512 c0_i32_3187
  let v3517 : BitVec 1 := Scalar.andi v3516 v3513
  let v3518 : BitVec 32 := Scalar.addi v3512 v3511
  let v3519 : BitVec 32 := Scalar.select v3517 v3518 v3512
  let c8_i32_3190 : BitVec 32 := 8#32
  let v3520 : BitVec 32 := Scalar.muli v3519 c8_i32_3190
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v3521 : BitVec 32 := Scalar.addi v3520 v29
  let c1_i32_3198 : BitVec 32 := 1#32
  let v3522 : BitVec 32 := Scalar.muli v3521 c1_i32_3198
  let v3523 : BitVec 32 := Scalar.addi c0_i32_3199 v3522
  v3523.toNat
def k0_off27 (d0 : Dev nD) (c1_i32_3217 : BitVec 32) : Fin 3 → Nat :=
  let c1_3229 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3540 : BitVec 32 := Scalar.subi v19 c1_i32_3217
  let c4_i32_3218 : BitVec 32 := 4#32
  let c0_i32_3219 : BitVec 32 := 0#32
  let v3541 : BitVec 1 := Scalar.cmpi .eq c4_i32_3218 c0_i32_3219
  let c1_i32_3220 : BitVec 32 := 1#32
  let v3542 : BitVec 32 := Scalar.select v3541 c1_i32_3220 c4_i32_3218
  let v3543 : BitVec 32 := Scalar.remsi v3540 v3542
  let c0_i32_3222 : BitVec 32 := 0#32
  let v3545 : BitVec 1 := Scalar.cmpi .slt v3543 c0_i32_3222
  let c0_i32_3223 : BitVec 32 := 0#32
  let v3546 : BitVec 1 := Scalar.cmpi .slt v3542 c0_i32_3223
  let v3547 : BitVec 1 := Scalar.xori v3545 v3546
  let c0_i32_3221 : BitVec 32 := 0#32
  let v3544 : BitVec 1 := Scalar.cmpi .ne v3543 c0_i32_3221
  let v3548 : BitVec 1 := Scalar.andi v3547 v3544
  let v3549 : BitVec 32 := Scalar.addi v3543 v3542
  let v3550 : BitVec 32 := Scalar.select v3548 v3549 v3543
  let c32_i32_3228 : BitVec 32 := 32#32
  let v3553 : BitVec 32 := Scalar.muli v3550 c32_i32_3228
  let v3554 : Index := Scalar.indexCast v3553
  let c0_3230 : Index := 0#32
  ![1, v3554.toNat, 0]
def k0_off28 (d0 : Dev nD) (c1_i32_3217 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32_3236 : BitVec 32 := 128#32
  let v3563 : BitVec 32 := Scalar.muli v29 c128_i32_3236
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3540 : BitVec 32 := Scalar.subi v19 c1_i32_3217
  let c4_i32_3218 : BitVec 32 := 4#32
  let c0_i32_3219 : BitVec 32 := 0#32
  let v3541 : BitVec 1 := Scalar.cmpi .eq c4_i32_3218 c0_i32_3219
  let c1_i32_3220 : BitVec 32 := 1#32
  let v3542 : BitVec 32 := Scalar.select v3541 c1_i32_3220 c4_i32_3218
  let v3543 : BitVec 32 := Scalar.remsi v3540 v3542
  let c0_i32_3222 : BitVec 32 := 0#32
  let v3545 : BitVec 1 := Scalar.cmpi .slt v3543 c0_i32_3222
  let c0_i32_3223 : BitVec 32 := 0#32
  let v3546 : BitVec 1 := Scalar.cmpi .slt v3542 c0_i32_3223
  let v3547 : BitVec 1 := Scalar.xori v3545 v3546
  let c0_i32_3221 : BitVec 32 := 0#32
  let v3544 : BitVec 1 := Scalar.cmpi .ne v3543 c0_i32_3221
  let v3548 : BitVec 1 := Scalar.andi v3547 v3544
  let v3549 : BitVec 32 := Scalar.addi v3543 v3542
  let v3550 : BitVec 32 := Scalar.select v3548 v3549 v3543
  let c32_i32_3237 : BitVec 32 := 32#32
  let v3564 : BitVec 32 := Scalar.muli v3550 c32_i32_3237
  let v3565 : BitVec 32 := Scalar.addi v3563 v3564
  let v3566 : Index := Scalar.indexCast v3565
  let c768_3238 : Index := 768#32
  ![v3566.toNat, 768]
def k0_dev84 (d0 : Dev nD) : Nat :=
  let c0_i32_3325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_3309 : BitVec 32 := 8#32
  let v3640 : BitVec 32 := Scalar.muli v19 c8_i32_3309
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_3310 : BitVec 32 := 1#32
  let v3641 : BitVec 32 := Scalar.addi v29 c1_i32_3310
  let c8_i32_3311 : BitVec 32 := 8#32
  let c0_i32_3312 : BitVec 32 := 0#32
  let v3642 : BitVec 1 := Scalar.cmpi .eq c8_i32_3311 c0_i32_3312
  let c1_i32_3313 : BitVec 32 := 1#32
  let v3643 : BitVec 32 := Scalar.select v3642 c1_i32_3313 c8_i32_3311
  let v3644 : BitVec 32 := Scalar.remsi v3641 v3643
  let c0_i32_3315 : BitVec 32 := 0#32
  let v3646 : BitVec 1 := Scalar.cmpi .slt v3644 c0_i32_3315
  let c0_i32_3316 : BitVec 32 := 0#32
  let v3647 : BitVec 1 := Scalar.cmpi .slt v3643 c0_i32_3316
  let v3648 : BitVec 1 := Scalar.xori v3646 v3647
  let c0_i32_3314 : BitVec 32 := 0#32
  let v3645 : BitVec 1 := Scalar.cmpi .ne v3644 c0_i32_3314
  let v3649 : BitVec 1 := Scalar.andi v3648 v3645
  let v3650 : BitVec 32 := Scalar.addi v3644 v3643
  let v3651 : BitVec 32 := Scalar.select v3649 v3650 v3644
  let v3652 : BitVec 32 := Scalar.addi v3640 v3651
  let c1_i32_3324 : BitVec 32 := 1#32
  let v3653 : BitVec 32 := Scalar.muli v3652 c1_i32_3324
  let v3654 : BitVec 32 := Scalar.addi c0_i32_3325 v3653
  v3654.toNat
def k0_dev85 (d0 : Dev nD) : Nat :=
  let c0_i32_3346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_3330 : BitVec 32 := 8#32
  let v3663 : BitVec 32 := Scalar.muli v19 c8_i32_3330
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_3331 : BitVec 32 := 2#32
  let v3664 : BitVec 32 := Scalar.addi v29 c2_i32_3331
  let c8_i32_3332 : BitVec 32 := 8#32
  let c0_i32_3333 : BitVec 32 := 0#32
  let v3665 : BitVec 1 := Scalar.cmpi .eq c8_i32_3332 c0_i32_3333
  let c1_i32_3334 : BitVec 32 := 1#32
  let v3666 : BitVec 32 := Scalar.select v3665 c1_i32_3334 c8_i32_3332
  let v3667 : BitVec 32 := Scalar.remsi v3664 v3666
  let c0_i32_3336 : BitVec 32 := 0#32
  let v3669 : BitVec 1 := Scalar.cmpi .slt v3667 c0_i32_3336
  let c0_i32_3337 : BitVec 32 := 0#32
  let v3670 : BitVec 1 := Scalar.cmpi .slt v3666 c0_i32_3337
  let v3671 : BitVec 1 := Scalar.xori v3669 v3670
  let c0_i32_3335 : BitVec 32 := 0#32
  let v3668 : BitVec 1 := Scalar.cmpi .ne v3667 c0_i32_3335
  let v3672 : BitVec 1 := Scalar.andi v3671 v3668
  let v3673 : BitVec 32 := Scalar.addi v3667 v3666
  let v3674 : BitVec 32 := Scalar.select v3672 v3673 v3667
  let v3675 : BitVec 32 := Scalar.addi v3663 v3674
  let c1_i32_3345 : BitVec 32 := 1#32
  let v3676 : BitVec 32 := Scalar.muli v3675 c1_i32_3345
  let v3677 : BitVec 32 := Scalar.addi c0_i32_3346 v3676
  v3677.toNat
def k0_dev86 (d0 : Dev nD) : Nat :=
  let c0_i32_3367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_3351 : BitVec 32 := 8#32
  let v3686 : BitVec 32 := Scalar.muli v19 c8_i32_3351
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_3352 : BitVec 32 := 3#32
  let v3687 : BitVec 32 := Scalar.addi v29 c3_i32_3352
  let c8_i32_3353 : BitVec 32 := 8#32
  let c0_i32_3354 : BitVec 32 := 0#32
  let v3688 : BitVec 1 := Scalar.cmpi .eq c8_i32_3353 c0_i32_3354
  let c1_i32_3355 : BitVec 32 := 1#32
  let v3689 : BitVec 32 := Scalar.select v3688 c1_i32_3355 c8_i32_3353
  let v3690 : BitVec 32 := Scalar.remsi v3687 v3689
  let c0_i32_3357 : BitVec 32 := 0#32
  let v3692 : BitVec 1 := Scalar.cmpi .slt v3690 c0_i32_3357
  let c0_i32_3358 : BitVec 32 := 0#32
  let v3693 : BitVec 1 := Scalar.cmpi .slt v3689 c0_i32_3358
  let v3694 : BitVec 1 := Scalar.xori v3692 v3693
  let c0_i32_3356 : BitVec 32 := 0#32
  let v3691 : BitVec 1 := Scalar.cmpi .ne v3690 c0_i32_3356
  let v3695 : BitVec 1 := Scalar.andi v3694 v3691
  let v3696 : BitVec 32 := Scalar.addi v3690 v3689
  let v3697 : BitVec 32 := Scalar.select v3695 v3696 v3690
  let v3698 : BitVec 32 := Scalar.addi v3686 v3697
  let c1_i32_3366 : BitVec 32 := 1#32
  let v3699 : BitVec 32 := Scalar.muli v3698 c1_i32_3366
  let v3700 : BitVec 32 := Scalar.addi c0_i32_3367 v3699
  v3700.toNat
def k0_dev87 (d0 : Dev nD) : Nat :=
  let c0_i32_3388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_3372 : BitVec 32 := 8#32
  let v3709 : BitVec 32 := Scalar.muli v19 c8_i32_3372
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_3373 : BitVec 32 := 4#32
  let v3710 : BitVec 32 := Scalar.addi v29 c4_i32_3373
  let c8_i32_3374 : BitVec 32 := 8#32
  let c0_i32_3375 : BitVec 32 := 0#32
  let v3711 : BitVec 1 := Scalar.cmpi .eq c8_i32_3374 c0_i32_3375
  let c1_i32_3376 : BitVec 32 := 1#32
  let v3712 : BitVec 32 := Scalar.select v3711 c1_i32_3376 c8_i32_3374
  let v3713 : BitVec 32 := Scalar.remsi v3710 v3712
  let c0_i32_3378 : BitVec 32 := 0#32
  let v3715 : BitVec 1 := Scalar.cmpi .slt v3713 c0_i32_3378
  let c0_i32_3379 : BitVec 32 := 0#32
  let v3716 : BitVec 1 := Scalar.cmpi .slt v3712 c0_i32_3379
  let v3717 : BitVec 1 := Scalar.xori v3715 v3716
  let c0_i32_3377 : BitVec 32 := 0#32
  let v3714 : BitVec 1 := Scalar.cmpi .ne v3713 c0_i32_3377
  let v3718 : BitVec 1 := Scalar.andi v3717 v3714
  let v3719 : BitVec 32 := Scalar.addi v3713 v3712
  let v3720 : BitVec 32 := Scalar.select v3718 v3719 v3713
  let v3721 : BitVec 32 := Scalar.addi v3709 v3720
  let c1_i32_3387 : BitVec 32 := 1#32
  let v3722 : BitVec 32 := Scalar.muli v3721 c1_i32_3387
  let v3723 : BitVec 32 := Scalar.addi c0_i32_3388 v3722
  v3723.toNat
def k0_dev88 (d0 : Dev nD) : Nat :=
  let c0_i32_3409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_3393 : BitVec 32 := 8#32
  let v3732 : BitVec 32 := Scalar.muli v19 c8_i32_3393
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32_3394 : BitVec 32 := 5#32
  let v3733 : BitVec 32 := Scalar.addi v29 c5_i32_3394
  let c8_i32_3395 : BitVec 32 := 8#32
  let c0_i32_3396 : BitVec 32 := 0#32
  let v3734 : BitVec 1 := Scalar.cmpi .eq c8_i32_3395 c0_i32_3396
  let c1_i32_3397 : BitVec 32 := 1#32
  let v3735 : BitVec 32 := Scalar.select v3734 c1_i32_3397 c8_i32_3395
  let v3736 : BitVec 32 := Scalar.remsi v3733 v3735
  let c0_i32_3399 : BitVec 32 := 0#32
  let v3738 : BitVec 1 := Scalar.cmpi .slt v3736 c0_i32_3399
  let c0_i32_3400 : BitVec 32 := 0#32
  let v3739 : BitVec 1 := Scalar.cmpi .slt v3735 c0_i32_3400
  let v3740 : BitVec 1 := Scalar.xori v3738 v3739
  let c0_i32_3398 : BitVec 32 := 0#32
  let v3737 : BitVec 1 := Scalar.cmpi .ne v3736 c0_i32_3398
  let v3741 : BitVec 1 := Scalar.andi v3740 v3737
  let v3742 : BitVec 32 := Scalar.addi v3736 v3735
  let v3743 : BitVec 32 := Scalar.select v3741 v3742 v3736
  let v3744 : BitVec 32 := Scalar.addi v3732 v3743
  let c1_i32_3408 : BitVec 32 := 1#32
  let v3745 : BitVec 32 := Scalar.muli v3744 c1_i32_3408
  let v3746 : BitVec 32 := Scalar.addi c0_i32_3409 v3745
  v3746.toNat
def k0_dev89 (d0 : Dev nD) : Nat :=
  let c0_i32_3430 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_3414 : BitVec 32 := 8#32
  let v3755 : BitVec 32 := Scalar.muli v19 c8_i32_3414
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32_3415 : BitVec 32 := 6#32
  let v3756 : BitVec 32 := Scalar.addi v29 c6_i32_3415
  let c8_i32_3416 : BitVec 32 := 8#32
  let c0_i32_3417 : BitVec 32 := 0#32
  let v3757 : BitVec 1 := Scalar.cmpi .eq c8_i32_3416 c0_i32_3417
  let c1_i32_3418 : BitVec 32 := 1#32
  let v3758 : BitVec 32 := Scalar.select v3757 c1_i32_3418 c8_i32_3416
  let v3759 : BitVec 32 := Scalar.remsi v3756 v3758
  let c0_i32_3420 : BitVec 32 := 0#32
  let v3761 : BitVec 1 := Scalar.cmpi .slt v3759 c0_i32_3420
  let c0_i32_3421 : BitVec 32 := 0#32
  let v3762 : BitVec 1 := Scalar.cmpi .slt v3758 c0_i32_3421
  let v3763 : BitVec 1 := Scalar.xori v3761 v3762
  let c0_i32_3419 : BitVec 32 := 0#32
  let v3760 : BitVec 1 := Scalar.cmpi .ne v3759 c0_i32_3419
  let v3764 : BitVec 1 := Scalar.andi v3763 v3760
  let v3765 : BitVec 32 := Scalar.addi v3759 v3758
  let v3766 : BitVec 32 := Scalar.select v3764 v3765 v3759
  let v3767 : BitVec 32 := Scalar.addi v3755 v3766
  let c1_i32_3429 : BitVec 32 := 1#32
  let v3768 : BitVec 32 := Scalar.muli v3767 c1_i32_3429
  let v3769 : BitVec 32 := Scalar.addi c0_i32_3430 v3768
  v3769.toNat
def k0_dev90 (d0 : Dev nD) : Nat :=
  let c0_i32_3451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_3435 : BitVec 32 := 8#32
  let v3778 : BitVec 32 := Scalar.muli v19 c8_i32_3435
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_3436 : BitVec 32 := 7#32
  let v3779 : BitVec 32 := Scalar.addi v29 c7_i32_3436
  let c8_i32_3437 : BitVec 32 := 8#32
  let c0_i32_3438 : BitVec 32 := 0#32
  let v3780 : BitVec 1 := Scalar.cmpi .eq c8_i32_3437 c0_i32_3438
  let c1_i32_3439 : BitVec 32 := 1#32
  let v3781 : BitVec 32 := Scalar.select v3780 c1_i32_3439 c8_i32_3437
  let v3782 : BitVec 32 := Scalar.remsi v3779 v3781
  let c0_i32_3441 : BitVec 32 := 0#32
  let v3784 : BitVec 1 := Scalar.cmpi .slt v3782 c0_i32_3441
  let c0_i32_3442 : BitVec 32 := 0#32
  let v3785 : BitVec 1 := Scalar.cmpi .slt v3781 c0_i32_3442
  let v3786 : BitVec 1 := Scalar.xori v3784 v3785
  let c0_i32_3440 : BitVec 32 := 0#32
  let v3783 : BitVec 1 := Scalar.cmpi .ne v3782 c0_i32_3440
  let v3787 : BitVec 1 := Scalar.andi v3786 v3783
  let v3788 : BitVec 32 := Scalar.addi v3782 v3781
  let v3789 : BitVec 32 := Scalar.select v3787 v3788 v3782
  let v3790 : BitVec 32 := Scalar.addi v3778 v3789
  let c1_i32_3450 : BitVec 32 := 1#32
  let v3791 : BitVec 32 := Scalar.muli v3790 c1_i32_3450
  let v3792 : BitVec 32 := Scalar.addi c0_i32_3451 v3791
  v3792.toNat
def k0_off29 (d0 : Dev nD) (c1_i32_3469 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3809 : BitVec 32 := Scalar.subi v19 c1_i32_3469
  let c4_i32_3470 : BitVec 32 := 4#32
  let c0_i32_3471 : BitVec 32 := 0#32
  let v3810 : BitVec 1 := Scalar.cmpi .eq c4_i32_3470 c0_i32_3471
  let c1_i32_3472 : BitVec 32 := 1#32
  let v3811 : BitVec 32 := Scalar.select v3810 c1_i32_3472 c4_i32_3470
  let v3812 : BitVec 32 := Scalar.remsi v3809 v3811
  let c0_i32_3474 : BitVec 32 := 0#32
  let v3814 : BitVec 1 := Scalar.cmpi .slt v3812 c0_i32_3474
  let c0_i32_3475 : BitVec 32 := 0#32
  let v3815 : BitVec 1 := Scalar.cmpi .slt v3811 c0_i32_3475
  let v3816 : BitVec 1 := Scalar.xori v3814 v3815
  let c0_i32_3473 : BitVec 32 := 0#32
  let v3813 : BitVec 1 := Scalar.cmpi .ne v3812 c0_i32_3473
  let v3817 : BitVec 1 := Scalar.andi v3816 v3813
  let v3818 : BitVec 32 := Scalar.addi v3812 v3811
  let v3819 : BitVec 32 := Scalar.select v3817 v3818 v3812
  let c256_i32_3481 : BitVec 32 := 256#32
  let v3825 : BitVec 32 := Scalar.muli v3819 c256_i32_3481
  let v3826 : Index := Scalar.indexCast v3825
  let c0_3482 : Index := 0#32
  ![v3826.toNat, 0]
def k0_off30 (d0 : Dev nD) (c1_i32_3550 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v3890 : BitVec 32 := Scalar.subi v29 c1_i32_3550
  let c8_i32_3551 : BitVec 32 := 8#32
  let c0_i32_3552 : BitVec 32 := 0#32
  let v3891 : BitVec 1 := Scalar.cmpi .eq c8_i32_3551 c0_i32_3552
  let c1_i32_3553 : BitVec 32 := 1#32
  let v3892 : BitVec 32 := Scalar.select v3891 c1_i32_3553 c8_i32_3551
  let v3893 : BitVec 32 := Scalar.remsi v3890 v3892
  let c0_i32_3555 : BitVec 32 := 0#32
  let v3895 : BitVec 1 := Scalar.cmpi .slt v3893 c0_i32_3555
  let c0_i32_3556 : BitVec 32 := 0#32
  let v3896 : BitVec 1 := Scalar.cmpi .slt v3892 c0_i32_3556
  let v3897 : BitVec 1 := Scalar.xori v3895 v3896
  let c0_i32_3554 : BitVec 32 := 0#32
  let v3894 : BitVec 1 := Scalar.cmpi .ne v3893 c0_i32_3554
  let v3898 : BitVec 1 := Scalar.andi v3897 v3894
  let v3899 : BitVec 32 := Scalar.addi v3893 v3892
  let v3900 : BitVec 32 := Scalar.select v3898 v3899 v3893
  let c128_i32_3562 : BitVec 32 := 128#32
  let v3906 : BitVec 32 := Scalar.muli v3900 c128_i32_3562
  let v3907 : Index := Scalar.indexCast v3906
  let c512_3563 : Index := 512#32
  ![v3907.toNat, 512]
def k0_off31 (d0 : Dev nD) (c1_i32_3739 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v4079 : BitVec 32 := Scalar.subi v19 c1_i32_3739
  let c4_i32_3740 : BitVec 32 := 4#32
  let c0_i32_3741 : BitVec 32 := 0#32
  let v4080 : BitVec 1 := Scalar.cmpi .eq c4_i32_3740 c0_i32_3741
  let c1_i32_3742 : BitVec 32 := 1#32
  let v4081 : BitVec 32 := Scalar.select v4080 c1_i32_3742 c4_i32_3740
  let v4082 : BitVec 32 := Scalar.remsi v4079 v4081
  let c0_i32_3744 : BitVec 32 := 0#32
  let v4084 : BitVec 1 := Scalar.cmpi .slt v4082 c0_i32_3744
  let c0_i32_3745 : BitVec 32 := 0#32
  let v4085 : BitVec 1 := Scalar.cmpi .slt v4081 c0_i32_3745
  let v4086 : BitVec 1 := Scalar.xori v4084 v4085
  let c0_i32_3743 : BitVec 32 := 0#32
  let v4083 : BitVec 1 := Scalar.cmpi .ne v4082 c0_i32_3743
  let v4087 : BitVec 1 := Scalar.andi v4086 v4083
  let v4088 : BitVec 32 := Scalar.addi v4082 v4081
  let v4089 : BitVec 32 := Scalar.select v4087 v4088 v4082
  let c256_i32_3751 : BitVec 32 := 256#32
  let v4095 : BitVec 32 := Scalar.muli v4089 c256_i32_3751
  let v4096 : Index := Scalar.indexCast v4095
  let c256_3752 : Index := 256#32
  ![v4096.toNat, 256]
def k0_off32 (d0 : Dev nD) (c1_i32_3820 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v4160 : BitVec 32 := Scalar.subi v29 c1_i32_3820
  let c8_i32_3821 : BitVec 32 := 8#32
  let c0_i32_3822 : BitVec 32 := 0#32
  let v4161 : BitVec 1 := Scalar.cmpi .eq c8_i32_3821 c0_i32_3822
  let c1_i32_3823 : BitVec 32 := 1#32
  let v4162 : BitVec 32 := Scalar.select v4161 c1_i32_3823 c8_i32_3821
  let v4163 : BitVec 32 := Scalar.remsi v4160 v4162
  let c0_i32_3825 : BitVec 32 := 0#32
  let v4165 : BitVec 1 := Scalar.cmpi .slt v4163 c0_i32_3825
  let c0_i32_3826 : BitVec 32 := 0#32
  let v4166 : BitVec 1 := Scalar.cmpi .slt v4162 c0_i32_3826
  let v4167 : BitVec 1 := Scalar.xori v4165 v4166
  let c0_i32_3824 : BitVec 32 := 0#32
  let v4164 : BitVec 1 := Scalar.cmpi .ne v4163 c0_i32_3824
  let v4168 : BitVec 1 := Scalar.andi v4167 v4164
  let v4169 : BitVec 32 := Scalar.addi v4163 v4162
  let v4170 : BitVec 32 := Scalar.select v4168 v4169 v4163
  let c128_i32_3832 : BitVec 32 := 128#32
  let v4176 : BitVec 32 := Scalar.muli v4170 c128_i32_3832
  let v4177 : Index := Scalar.indexCast v4176
  let c768_3833 : Index := 768#32
  ![v4177.toNat, 768]
abbrev stage0_0 : Fin 1 → Memref sig .tc .vmem S1024x32 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Tables.lean ====
/- The kernel's indices and tables. Its two column halves (`Side`), the two pieces of a half, the four exchange
   stages, and per transfer of a stage: the source view, the landing view, the two semaphores and the device
   addressed, each stated once for all 80 transfers in the program's own terms. -/
module

public import proofs.«01_k».proof.Proof.Gen.KernelIdeal.Skeleton

@[expose] public section

noncomputable section

namespace Cert.KernelIdeal.AllReduce

open Idealize.ShloMosaic Idealize.ShloMosaic.TcCoe Idealize.SL.Sem
open Cert.KernelIdeal Cert.KernelIdeal.Gen

/-- The two column halves: `A` reduces over the planes first, `B` over the devices of a plane first. -/
inductive Side | A | B
  deriving DecidableEq
instance : Fintype Side := ⟨⟨([.A, .B] : List Side), by decide⟩, fun x => by cases x <;> decide⟩

/-- The four exchange stages of a half: two reductions, two gathers. -/
inductive Stage | one | two | three | four
  deriving DecidableEq
instance : Fintype Stage := ⟨⟨([.one, .two, .three, .four] : List Stage), by decide⟩, fun x => by cases x <;> decide⟩

/-- How many peers the outer exchanges (stages one and four) of a half have. -/
abbrev n1 : Side → ℕ | .A => 3 | .B => 7
/-- How many peers the inner exchanges (stages two and three) of a half have. -/
abbrev n2 : Side → ℕ | .A => 7 | .B => 3
/-- The number of rows a device of a half's outer group owns. -/
abbrev R : Side → ℕ | .A => 256 | .B => 128
/-- The number of peers at a stage. -/
abbrev nn (σ : Side) : Stage → ℕ | .one => n1 σ | .two => n2 σ | .three => n2 σ | .four => n1 σ
/-- The number of rows a transfer of a stage moves. -/
abbrev rr (σ : Side) : Stage → ℕ | .one => R σ | .two => 32 | .three => 32 | .four => R σ

abbrev Sh2 (a b : ℕ) : Shape := ⟨2, ![a, b]⟩
abbrev Sh3 (a b c : ℕ) : Shape := ⟨3, ![a, b, c]⟩
abbrev Sh4 (a b c d : ℕ) : Shape := ⟨4, ![a, b, c, d]⟩

/-- A transfer: half, piece, stage and the peer's number less one. -/
abbrev Slot := (σ : Side) × (t : Stage) × (_ : Fin 2) × Fin (nn σ t)

/-! ## Buffers -/

/-- The partial product. -/
abbrev partM : Memref sig .tc .vmem S1024x1024 .bf16 := Memref.whole cc0_scratch0
theorem partM_whole : partM.IsWhole := Memref.isWhole_whole _

/-- The landing buffers. -/
def rcv : (σ : Side) → (t : Stage) → Memref sig .tc .vmem (Sh4 2 (nn σ t) (rr σ t) 256) .bf16
  | .A, .one => Memref.whole cc0_scratch1
  | .A, .two => Memref.whole cc0_scratch3
  | .A, .three => Memref.whole cc0_scratch5
  | .A, .four => Memref.whole cc0_scratch7
  | .B, .one => Memref.whole cc0_scratch8
  | .B, .two => Memref.whole cc0_scratch10
  | .B, .three => Memref.whole cc0_scratch12
  | .B, .four => Memref.whole cc0_scratch14
theorem rcv_whole : ∀ σ t, (rcv σ t).IsWhole
  | .A, .one => Memref.isWhole_whole _ | .A, .two => Memref.isWhole_whole _
  | .A, .three => Memref.isWhole_whole _ | .A, .four => Memref.isWhole_whole _
  | .B, .one => Memref.isWhole_whole _ | .B, .two => Memref.isWhole_whole _
  | .B, .three => Memref.isWhole_whole _ | .B, .four => Memref.isWhole_whole _

/-- The sums of the outer group. -/
def pool : (σ : Side) → Memref sig .tc .vmem (Sh3 2 (R σ) 256) .bf16
  | .A => Memref.whole cc0_scratch2
  | .B => Memref.whole cc0_scratch9
theorem pool_whole : ∀ σ, (pool σ).IsWhole
  | .A => Memref.isWhole_whole _ | .B => Memref.isWhole_whole _

/-- The finished sums, as the inner gather sends them. -/
def src3 : (σ : Side) → Memref sig .tc .vmem (Sh3 2 32 256) .bf16
  | .A => Memref.whole cc0_scratch4
  | .B => Memref.whole cc0_scratch11
theorem src3_whole : ∀ σ, (src3 σ).IsWhole
  | .A => Memref.isWhole_whole _ | .B => Memref.isWhole_whole _

/-- The inner group's finished sums, as the outer gather sends them. -/
def src4 : (σ : Side) → Memref sig .tc .vmem (Sh3 2 (R σ) 256) .bf16
  | .A => Memref.whole cc0_scratch6
  | .B => Memref.whole cc0_scratch13
theorem src4_whole : ∀ σ, (src4 σ).IsWhole
  | .A => Memref.isWhole_whole _ | .B => Memref.isWhole_whole _

/-- The semaphores a stage's sources complete on. -/
def ssA : (σ : Side) → (t : Stage) → DmaSems sig (Sh2 2 (nn σ t))
  | .A, .one => cc0_scratch15 | .A, .two => cc0_scratch17 | .A, .three => cc0_scratch19 | .A, .four => cc0_scratch21
  | .B, .one => cc0_scratch23 | .B, .two => cc0_scratch25 | .B, .three => cc0_scratch27 | .B, .four => cc0_scratch29
/-- The semaphores a stage's landings complete on. -/
def rsA : (σ : Side) → (t : Stage) → DmaSems sig (Sh2 2 (nn σ t))
  | .A, .one => cc0_scratch16 | .A, .two => cc0_scratch18 | .A, .three => cc0_scratch20 | .A, .four => cc0_scratch22
  | .B, .one => cc0_scratch24 | .B, .two => cc0_scratch26 | .B, .three => cc0_scratch28 | .B, .four => cc0_scratch30

/-! ## Rectangles -/

/-- Slab `[p, k]` of a landing buffer. -/
theorem slab4_inb {n m : ℕ} (p : Fin 2) (k : Fin n) :
    ∀ a, (![p.val, k.val, 0, 0] : Fin 4 → ℕ) a + (![1, 1, m, 256] : Fin 4 → ℕ) a ≤ (Sh4 2 n m 256).size a := by
  intro a
  fin_cases a
  · show p.val + 1 ≤ 2; omega
  · show k.val + 1 ≤ n; omega
  · show 0 + m ≤ m; omega
  · show 0 + 256 ≤ 256; omega
abbrev slab4 {n m : ℕ} (p : Fin 2) (k : Fin n) : Rect (Sh4 2 n m 256) :=
  Rect.unit (s := Sh4 2 n m 256) ![p.val, k.val, 0, 0] ![1, 1, m, 256] (slab4_inb p k)

/-- Slab `[p]` of a buffer of two pieces. -/
theorem slab3_inb {m : ℕ} (p : Fin 2) :
    ∀ a, (![p.val, 0, 0] : Fin 3 → ℕ) a + (![1, m, 256] : Fin 3 → ℕ) a ≤ (Sh3 2 m 256).size a := by
  intro a
  fin_cases a
  · show p.val + 1 ≤ 2; omega
  · show 0 + m ≤ m; omega
  · show 0 + 256 ≤ 256; omega
abbrev slab3 {m : ℕ} (p : Fin 2) : Rect (Sh3 2 m 256) :=
  Rect.unit (s := Sh3 2 m 256) ![p.val, 0, 0] ![1, m, 256] (slab3_inb p)

/-- Semaphore `[p, k]` of an array. -/
theorem semInb {n : ℕ} (p : Fin 2) (k : Fin n) :
    ∀ a, (![p.val, k.val] : Fin 2 → ℕ) a + (![1, 1] : Fin 2 → ℕ) a ≤ (Sh2 2 n).size a := by
  intro a
  fin_cases a
  · show p.val + 1 ≤ 2; omega
  · show k.val + 1 ≤ n; omega
theorem sq11 : (Sh2 1 1).Squeezes ⟨0, ![]⟩ := squeezes_S1x1_S_
abbrev semAt {n : ℕ} (a : DmaSems sig (Sh2 2 n)) (p : Fin 2) (k : Fin n) : DmaSem sig :=
  ((a.slice (Rect.unit (s := Sh2 2 n) ![p.val, k.val] ![1, 1] (semInb p k))).squeeze ⟨0, ![]⟩ sq11).sem

theorem sq4 : ∀ σ t, (Sh4 1 1 (rr σ t) 256).Squeezes (Sh2 (rr σ t) 256)
  | .A, .one => squeezes_S1x1x256x256_S256x256 | .A, .two => squeezes_S1x1x32x256_S32x256
  | .A, .three => squeezes_S1x1x32x256_S32x256 | .A, .four => squeezes_S1x1x256x256_S256x256
  | .B, .one => squeezes_S1x1x128x256_S128x256 | .B, .two => squeezes_S1x1x32x256_S32x256
  | .B, .three => squeezes_S1x1x32x256_S32x256 | .B, .four => squeezes_S1x1x128x256_S128x256
theorem sq3 : ∀ σ, (Sh3 1 (R σ) 256).Squeezes (Sh2 (R σ) 256)
  | .A => squeezes_S1x256x256_S256x256 | .B => squeezes_S1x128x256_S128x256
theorem sq32 : (Sh3 1 32 256).Squeezes (Sh2 32 256) := squeezes_S1x32x256_S32x256

theorem sc4 : ∀ σ t, (Sh4 1 1 (rr σ t) 256).ShapeCasts (Sh2 (rr σ t) 256)
  | .A, .one => by decide | .A, .two => by decide | .A, .three => by decide | .A, .four => by decide
  | .B, .one => by decide | .B, .two => by decide | .B, .three => by decide | .B, .four => by decide
theorem scR : ∀ σ, (Sh2 (R σ) 256).ShapeCasts (Sh3 1 (R σ) 256) | .A => by decide | .B => by decide
theorem sc32 : (Sh3 1 32 256).ShapeCasts (Sh2 32 256) := by decide
theorem sc32' : (Sh2 32 256).ShapeCasts (Sh3 1 32 256) := by decide

/-! ## Offsets -/

/-- Where the rows sent at stage one start. -/
def off1 : (σ : Side) → (p : Fin 2) → Dev nD → Fin (n1 σ) → Fin 2 → ℕ
  | .A, 0, d, k => k0_off1 d (BitVec.ofNat 32 (1 + k.val)) | .A, 1, d, k => k0_off2 d (BitVec.ofNat 32 (1 + k.val))
  | .B, 0, d, k => k0_off3 d (BitVec.ofNat 32 (1 + k.val)) | .B, 1, d, k => k0_off4 d (BitVec.ofNat 32 (1 + k.val))
theorem off1_inb : ∀ σ p d k a, off1 σ p d k a + (![R σ, 256] : Fin 2 → ℕ) a ≤ S1024x1024.size a
  | .A, 0, d, k => k0_off1_inb d k | .A, 1, d, k => k0_off2_inb d k
  | .B, 0, d, k => k0_off3_inb d k | .B, 1, d, k => k0_off4_inb d k
theorem off1_words : ∀ σ p d k, (Rect.unit (s := S1024x1024) (off1 σ p d k) ![R σ, 256] (off1_inb σ p d k)).WholeWords (EltTy.packing .bf16)
  | .A, 0, d, k => k0_off1_wordsbf16 d k | .A, 1, d, k => k0_off2_wordsbf16 d k
  | .B, 0, d, k => k0_off3_wordsbf16 d k | .B, 1, d, k => k0_off4_wordsbf16 d k

/-- Where the device's own rows of the partial product start. -/
def own1 : (σ : Side) → (p : Fin 2) → Dev nD → Fin 2 → ℕ
  | .A, 0, d => k0_off5 d | .A, 1, d => k0_off9 d | .B, 0, d => k0_off7 d | .B, 1, d => k0_off11 d
theorem own1_inb : ∀ σ p d a, own1 σ p d a + (![R σ, 256] : Fin 2 → ℕ) a ≤ S1024x1024.size a
  | .A, 0, d => k0_off5_inb d | .A, 1, d => k0_off9_inb d | .B, 0, d => k0_off7_inb d | .B, 1, d => k0_off11_inb d

/-- Where the rows sent at stage two start. -/
def off2 : (σ : Side) → (p : Fin 2) → Dev nD → Fin (n2 σ) → Fin 3 → ℕ
  | .A, 0, d, k => k0_off6 d (BitVec.ofNat 32 (1 + k.val)) | .A, 1, d, k => k0_off10 d (BitVec.ofNat 32 (1 + k.val))
  | .B, 0, d, k => k0_off8 d (BitVec.ofNat 32 (1 + k.val)) | .B, 1, d, k => k0_off12 d (BitVec.ofNat 32 (1 + k.val))
theorem off2_inb : ∀ σ p d k a, off2 σ p d k a + (![1, 32, 256] : Fin 3 → ℕ) a ≤ (Sh3 2 (R σ) 256).size a
  | .A, 0, d, k => k0_off6_inb d k | .A, 1, d, k => k0_off10_inb d k
  | .B, 0, d, k => k0_off8_inb d k | .B, 1, d, k => k0_off12_inb d k
theorem off2_words : ∀ σ p d k, (Rect.unit (s := Sh3 2 (R σ) 256) (off2 σ p d k) ![1, 32, 256] (off2_inb σ p d k)).WholeWords (EltTy.packing .bf16)
  | .A, 0, d, k => k0_off6_wordsbf16 d k | .A, 1, d, k => k0_off10_wordsbf16 d k
  | .B, 0, d, k => k0_off8_wordsbf16 d k | .B, 1, d, k => k0_off12_wordsbf16 d k

/-- Where the device's own 32 rows of a piece of the pool start. -/
def own2 : (σ : Side) → (p : Fin 2) → Dev nD → Fin 3 → ℕ
  | .A, 0, d => k0_off13 d | .A, 1, d => k0_off17 d | .B, 0, d => k0_off15 d | .B, 1, d => k0_off19 d
theorem own2_inb : ∀ σ p d a, own2 σ p d a + (![1, 32, 256] : Fin 3 → ℕ) a ≤ (Sh3 2 (R σ) 256).size a
  | .A, 0, d => k0_off13_inb d | .A, 1, d => k0_off17_inb d | .B, 0, d => k0_off15_inb d | .B, 1, d => k0_off19_inb d
theorem own2_packed : ∀ σ p d, (Rect.unit (s := Sh3 2 (R σ) 256) (own2 σ p d) ![1, 32, 256] (own2_inb σ p d)).PackedRows (EltTy.packing .bf16)
  | .A, 0, d => k0_off13_packedbf16 d | .A, 1, d => k0_off17_packedbf16 d
  | .B, 0, d => k0_off15_packedbf16 d | .B, 1, d => k0_off19_packedbf16 d

/-- Where the device's own 32 rows of the result start. -/
def out2 : (σ : Side) → (p : Fin 2) → Dev nD → Fin 2 → ℕ
  | .A, 0, d => k0_off14 d | .A, 1, d => k0_off18 d | .B, 0, d => k0_off16 d | .B, 1, d => k0_off20 d
theorem out2_inb : ∀ σ p d a, out2 σ p d a + (![32, 256] : Fin 2 → ℕ) a ≤ S1024x1024.size a
  | .A, 0, d => k0_off14_inb d | .A, 1, d => k0_off18_inb d | .B, 0, d => k0_off16_inb d | .B, 1, d => k0_off20_inb d

/-- Where the 32 rows received at stage three go in the next stage's source. -/
def off3 : (σ : Side) → (p : Fin 2) → Dev nD → Fin (n2 σ) → Fin 3 → ℕ
  | .A, 0, d, k => k0_off21 d (BitVec.ofNat 32 (1 + k.val)) | .A, 1, d, k => k0_off25 d (BitVec.ofNat 32 (1 + k.val))
  | .B, 0, d, k => k0_off23 d (BitVec.ofNat 32 (1 + k.val)) | .B, 1, d, k => k0_off27 d (BitVec.ofNat 32 (1 + k.val))
theorem off3_inb : ∀ σ p d k a, off3 σ p d k a + (![1, 32, 256] : Fin 3 → ℕ) a ≤ (Sh3 2 (R σ) 256).size a
  | .A, 0, d, k => k0_off21_inb d k | .A, 1, d, k => k0_off25_inb d k
  | .B, 0, d, k => k0_off23_inb d k | .B, 1, d, k => k0_off27_inb d k
theorem off3_packed : ∀ σ p d k, (Rect.unit (s := Sh3 2 (R σ) 256) (off3 σ p d k) ![1, 32, 256] (off3_inb σ p d k)).PackedRows (EltTy.packing .bf16)
  | .A, 0, d, k => k0_off21_packedbf16 d k | .A, 1, d, k => k0_off25_packedbf16 d k
  | .B, 0, d, k => k0_off23_packedbf16 d k | .B, 1, d, k => k0_off27_packedbf16 d k

/-- Where the 32 rows received at stage three go in the result. -/
def out3 : (σ : Side) → (p : Fin 2) → Dev nD → Fin (n2 σ) → Fin 2 → ℕ
  | .A, 0, d, k => k0_off22 d (BitVec.ofNat 32 (1 + k.val)) | .A, 1, d, k => k0_off26 d (BitVec.ofNat 32 (1 + k.val))
  | .B, 0, d, k => k0_off24 d (BitVec.ofNat 32 (1 + k.val)) | .B, 1, d, k => k0_off28 d (BitVec.ofNat 32 (1 + k.val))
theorem out3_inb : ∀ σ p d k a, out3 σ p d k a + (![32, 256] : Fin 2 → ℕ) a ≤ S1024x1024.size a
  | .A, 0, d, k => k0_off22_inb d k | .A, 1, d, k => k0_off26_inb d k
  | .B, 0, d, k => k0_off24_inb d k | .B, 1, d, k => k0_off28_inb d k

/-- Where the rows received at stage four go in the result. -/
def out4 : (σ : Side) → (p : Fin 2) → Dev nD → Fin (n1 σ) → Fin 2 → ℕ
  | .A, 0, d, k => k0_off29 d (BitVec.ofNat 32 (1 + k.val)) | .A, 1, d, k => k0_off31 d (BitVec.ofNat 32 (1 + k.val))
  | .B, 0, d, k => k0_off30 d (BitVec.ofNat 32 (1 + k.val)) | .B, 1, d, k => k0_off32 d (BitVec.ofNat 32 (1 + k.val))
theorem out4_inb : ∀ σ p d k a, out4 σ p d k a + (![R σ, 256] : Fin 2 → ℕ) a ≤ S1024x1024.size a
  | .A, 0, d, k => k0_off29_inb d k | .A, 1, d, k => k0_off31_inb d k
  | .B, 0, d, k => k0_off30_inb d k | .B, 1, d, k => k0_off32_inb d k

/-- The device a transfer addresses. -/
def peer : (σ : Side) → (t : Stage) → (p : Fin 2) → Dev nD → Fin (nn σ t) → Dev nD
  | .A, .one, 0, d, k => (![⟨k0_dev11 d, k0_dev11_lt d⟩, ⟨k0_dev12 d, k0_dev12_lt d⟩, ⟨k0_dev13 d, k0_dev13_lt d⟩] : Fin 3 → Dev nD) k
  | .A, .one, 1, d, k => (![⟨k0_dev14 d, k0_dev14_lt d⟩, ⟨k0_dev15 d, k0_dev15_lt d⟩, ⟨k0_dev16 d, k0_dev16_lt d⟩] : Fin 3 → Dev nD) k
  | .B, .one, 0, d, k => (![⟨k0_dev17 d, k0_dev17_lt d⟩, ⟨k0_dev18 d, k0_dev18_lt d⟩, ⟨k0_dev19 d, k0_dev19_lt d⟩, ⟨k0_dev20 d, k0_dev20_lt d⟩, ⟨k0_dev21 d, k0_dev21_lt d⟩, ⟨k0_dev22 d, k0_dev22_lt d⟩, ⟨k0_dev23 d, k0_dev23_lt d⟩] : Fin 7 → Dev nD) k
  | .B, .one, 1, d, k => (![⟨k0_dev24 d, k0_dev24_lt d⟩, ⟨k0_dev25 d, k0_dev25_lt d⟩, ⟨k0_dev26 d, k0_dev26_lt d⟩, ⟨k0_dev27 d, k0_dev27_lt d⟩, ⟨k0_dev28 d, k0_dev28_lt d⟩, ⟨k0_dev29 d, k0_dev29_lt d⟩, ⟨k0_dev30 d, k0_dev30_lt d⟩] : Fin 7 → Dev nD) k
  | .A, .two, 0, d, k => (![⟨k0_dev31 d, k0_dev31_lt d⟩, ⟨k0_dev32 d, k0_dev32_lt d⟩, ⟨k0_dev33 d, k0_dev33_lt d⟩, ⟨k0_dev34 d, k0_dev34_lt d⟩, ⟨k0_dev35 d, k0_dev35_lt d⟩, ⟨k0_dev36 d, k0_dev36_lt d⟩, ⟨k0_dev37 d, k0_dev37_lt d⟩] : Fin 7 → Dev nD) k
  | .B, .two, 0, d, k => (![⟨k0_dev38 d, k0_dev38_lt d⟩, ⟨k0_dev39 d, k0_dev39_lt d⟩, ⟨k0_dev40 d, k0_dev40_lt d⟩] : Fin 3 → Dev nD) k
  | .A, .two, 1, d, k => (![⟨k0_dev41 d, k0_dev41_lt d⟩, ⟨k0_dev42 d, k0_dev42_lt d⟩, ⟨k0_dev43 d, k0_dev43_lt d⟩, ⟨k0_dev44 d, k0_dev44_lt d⟩, ⟨k0_dev45 d, k0_dev45_lt d⟩, ⟨k0_dev46 d, k0_dev46_lt d⟩, ⟨k0_dev47 d, k0_dev47_lt d⟩] : Fin 7 → Dev nD) k
  | .B, .two, 1, d, k => (![⟨k0_dev48 d, k0_dev48_lt d⟩, ⟨k0_dev49 d, k0_dev49_lt d⟩, ⟨k0_dev50 d, k0_dev50_lt d⟩] : Fin 3 → Dev nD) k
  | .A, .three, 0, d, k => (![⟨k0_dev51 d, k0_dev51_lt d⟩, ⟨k0_dev52 d, k0_dev52_lt d⟩, ⟨k0_dev53 d, k0_dev53_lt d⟩, ⟨k0_dev54 d, k0_dev54_lt d⟩, ⟨k0_dev55 d, k0_dev55_lt d⟩, ⟨k0_dev56 d, k0_dev56_lt d⟩, ⟨k0_dev57 d, k0_dev57_lt d⟩] : Fin 7 → Dev nD) k
  | .B, .three, 0, d, k => (![⟨k0_dev58 d, k0_dev58_lt d⟩, ⟨k0_dev59 d, k0_dev59_lt d⟩, ⟨k0_dev60 d, k0_dev60_lt d⟩] : Fin 3 → Dev nD) k
  | .A, .three, 1, d, k => (![⟨k0_dev61 d, k0_dev61_lt d⟩, ⟨k0_dev62 d, k0_dev62_lt d⟩, ⟨k0_dev63 d, k0_dev63_lt d⟩, ⟨k0_dev64 d, k0_dev64_lt d⟩, ⟨k0_dev65 d, k0_dev65_lt d⟩, ⟨k0_dev66 d, k0_dev66_lt d⟩, ⟨k0_dev67 d, k0_dev67_lt d⟩] : Fin 7 → Dev nD) k
  | .B, .three, 1, d, k => (![⟨k0_dev68 d, k0_dev68_lt d⟩, ⟨k0_dev69 d, k0_dev69_lt d⟩, ⟨k0_dev70 d, k0_dev70_lt d⟩] : Fin 3 → Dev nD) k
  | .A, .four, 0, d, k => (![⟨k0_dev71 d, k0_dev71_lt d⟩, ⟨k0_dev72 d, k0_dev72_lt d⟩, ⟨k0_dev73 d, k0_dev73_lt d⟩] : Fin 3 → Dev nD) k
  | .B, .four, 0, d, k => (![⟨k0_dev74 d, k0_dev74_lt d⟩, ⟨k0_dev75 d, k0_dev75_lt d⟩, ⟨k0_dev76 d, k0_dev76_lt d⟩, ⟨k0_dev77 d, k0_dev77_lt d⟩, ⟨k0_dev78 d, k0_dev78_lt d⟩, ⟨k0_dev79 d, k0_dev79_lt d⟩, ⟨k0_dev80 d, k0_dev80_lt d⟩] : Fin 7 → Dev nD) k
  | .A, .four, 1, d, k => (![⟨k0_dev81 d, k0_dev81_lt d⟩, ⟨k0_dev82 d, k0_dev82_lt d⟩, ⟨k0_dev83 d, k0_dev83_lt d⟩] : Fin 3 → Dev nD) k
  | .B, .four, 1, d, k => (![⟨k0_dev84 d, k0_dev84_lt d⟩, ⟨k0_dev85 d, k0_dev85_lt d⟩, ⟨k0_dev86 d, k0_dev86_lt d⟩, ⟨k0_dev87 d, k0_dev87_lt d⟩, ⟨k0_dev88 d, k0_dev88_lt d⟩, ⟨k0_dev89 d, k0_dev89_lt d⟩, ⟨k0_dev90 d, k0_dev90_lt d⟩] : Fin 7 → Dev nD) k

/-- The device a barrier signal addresses. -/
def sigPeer (d : Dev nD) : Fin 10 → Dev nD :=
  ![⟨k0_dev1 d, k0_dev1_lt d⟩, ⟨k0_dev2 d, k0_dev2_lt d⟩, ⟨k0_dev3 d, k0_dev3_lt d⟩, ⟨k0_dev4 d, k0_dev4_lt d⟩, ⟨k0_dev5 d, k0_dev5_lt d⟩, ⟨k0_dev6 d, k0_dev6_lt d⟩, ⟨k0_dev7 d, k0_dev7_lt d⟩, ⟨k0_dev8 d, k0_dev8_lt d⟩, ⟨k0_dev9 d, k0_dev9_lt d⟩, ⟨k0_dev10 d, k0_dev10_lt d⟩]

/-! ## Transfers -/

/-- Where a transfer lands. -/
abbrev dstV (σ : Side) (t : Stage) (p : Fin 2) (k : Fin (nn σ t)) : Memref sig .tc .vmem (Sh2 (rr σ t) 256) .bf16 :=
  ((rcv σ t).slice (slab4 p k) (fun _ => rfl)).squeeze (Sh2 (rr σ t) 256) (sq4 σ t)

/-- What a transfer of stage `t` reads on device `d`. -/
def srcV (σ : Side) : (t : Stage) → (p : Fin 2) → (d : Dev nD) → Fin (nn σ t) → Memref sig .tc .vmem (Sh2 (rr σ t) 256) .bf16
  | .one, p, d, k => partM.slice (Rect.unit (s := S1024x1024) (off1 σ p d k) ![R σ, 256] (off1_inb σ p d k)) (fun _ => rfl)
  | .two, p, d, k => ((pool σ).slice (Rect.unit (s := Sh3 2 (R σ) 256) (off2 σ p d k) ![1, 32, 256] (off2_inb σ p d k)) (fun _ => rfl)).squeeze (Sh2 32 256) sq32
  | .three, p, _, _ => ((src3 σ).slice (slab3 p) (fun _ => rfl)).squeeze (Sh2 32 256) sq32
  | .four, p, _, _ => ((src4 σ).slice (slab3 p) (fun _ => rfl)).squeeze (Sh2 (R σ) 256) (sq3 σ)

theorem slab4_words {n m : ℕ} (p : Fin 2) (k : Fin n) : (slab4 (n := n) (m := m) p k).WholeWords (EltTy.packing .bf16) :=
  .inr ⟨show 2 ≤ 4 by decide, rfl, rfl, rfl⟩
theorem slab3_packed {m : ℕ} (p : Fin 2) : (slab3 (m := m) p).PackedRows (EltTy.packing .bf16) :=
  .inr ⟨show 2 ≤ 3 by decide, rfl, .inr ⟨rfl, rfl, rfl, rfl, rfl⟩⟩

theorem dstV_words (σ : Side) (t : Stage) (p : Fin 2) (k : Fin (nn σ t)) : (dstV σ t p k).view.WordExact :=
  ((rcv_whole σ t).wordExact_slice rfl _ (slab4_words p k)).reshape _ _
theorem srcV_words (σ : Side) : ∀ (t : Stage) (p : Fin 2) (d : Dev nD) (k : Fin (nn σ t)), (srcV σ t p d k).view.WordExact
  | .one, p, d, k => partM_whole.wordExact_slice rfl _ (off1_words σ p d k)
  | .two, p, d, k => ((pool_whole σ).wordExact_slice rfl _ (off2_words σ p d k)).reshape _ _
  | .three, p, _, _ => ((src3_whole σ).wordExact_slice rfl _ (slab3_packed p).wholeWords).reshape _ _
  | .four, p, _, _ => ((src4_whole σ).wordExact_slice rfl _ (slab3_packed p).wholeWords).reshape _ _

theorem dstV_local : ∀ σ t p k, (dstV σ t p k).view.ref.isScScratch = false
  | .A, .one, _, _ => rfl | .A, .two, _, _ => rfl | .A, .three, _, _ => rfl | .A, .four, _, _ => rfl
  | .B, .one, _, _ => rfl | .B, .two, _, _ => rfl | .B, .three, _, _ => rfl | .B, .four, _, _ => rfl

/-- The semaphore a transfer's source completes on, and its landing's. -/
abbrev sSem (σ : Side) (t : Stage) (p : Fin 2) (k : Fin (nn σ t)) : DmaSem sig := semAt (ssA σ t) p k
abbrev rSem (σ : Side) (t : Stage) (p : Fin 2) (k : Fin (nn σ t)) : DmaSem sig := semAt (rsA σ t) p k

end Cert.KernelIdeal.AllReduce

end
-- ==== Proof.Mesh.lean ====
/- The mesh of 4 planes of 8 devices: coordinates, shifts along an axis, and the transfers' peers and offsets in
   those terms. -/
module

public import proofs.«01_k».proof.Proof.Tables

@[expose] public section

noncomputable section

namespace Cert.KernelIdeal.AllReduce

open Idealize.ShloMosaic Idealize.ShloMosaic.TcCoe Idealize.SL.Sem
open Cert.KernelIdeal Cert.KernelIdeal.Gen

/-- The mesh's axes: across the planes, and within a plane. -/
inductive Axis | Z | Q
  deriving DecidableEq
instance : Fintype Axis := ⟨⟨([.Z, .Q] : List Axis), by decide⟩, fun x => by cases x <;> decide⟩

/-- An axis' length. -/
abbrev len : Axis → ℕ | .Z => 4 | .Q => 8
/-- A device's coordinate along an axis. -/
def pos : Axis → Dev nD → ℕ
  | .Z, c => c.val / 8
  | .Q, c => c.val % 8
/-- The device in line with `c` along an axis, at coordinate `b` (modulo the length). -/
def at' : Axis → Dev nD → ℕ → Dev nD
  | .Z, c, b => ⟨(b % 4) * 8 + c.val % 8, by have := Nat.mod_lt b (show 0 < 4 by decide); have := Nat.mod_lt c.val (show 0 < 8 by decide); show _ < 32; omega⟩
  | .Q, c, b => ⟨(c.val / 8) * 8 + b % 8, by have := Nat.mod_lt b (show 0 < 8 by decide); have : c.val < 32 := c.isLt; show _ < 32; omega⟩
/-- The device `i` further along an axis, and `i` back. -/
def fwd (a : Axis) (i : ℕ) (c : Dev nD) : Dev nD := at' a c (pos a c + i)
def bwd (a : Axis) (i : ℕ) (c : Dev nD) : Dev nD := at' a c (pos a c + (len a - i))

/-- The outer and the inner axis of a half, and a stage's axis. -/
abbrev ax1 : Side → Axis | .A => .Z | .B => .Q
abbrev ax2 : Side → Axis | .A => .Q | .B => .Z
abbrev ax (σ : Side) : Stage → Axis | .one => ax1 σ | .two => ax2 σ | .three => ax2 σ | .four => ax1 σ
/-- The first column of a piece. -/
abbrev col : Side → Fin 2 → ℕ
  | .A, p => 256 * p.val
  | .B, p => 512 + 256 * p.val

theorem bwd_fwd : ∀ (σ : Side) (t : Stage) (k : Fin (nn σ t)) (c : Dev nD), bwd (ax σ t) (k.val + 1) (fwd (ax σ t) (k.val + 1) c) = c := by decide +kernel
theorem fwd_bwd : ∀ (σ : Side) (t : Stage) (k : Fin (nn σ t)) (c : Dev nD), fwd (ax σ t) (k.val + 1) (bwd (ax σ t) (k.val + 1) c) = c := by decide +kernel
theorem pos_lt1 : ∀ (σ : Side) (c : Dev nD), pos (ax1 σ) c * R σ + R σ ≤ 1024 := by decide +kernel
theorem pos_lt2 : ∀ (σ : Side) (c : Dev nD), pos (ax2 σ) c * 32 + 32 ≤ R σ := by decide +kernel
theorem pos_lt (a : Axis) : ∀ (c : Dev nD), pos a c < len a := by cases a <;> decide +kernel

theorem peer_eq : ∀ σ t p d k, peer σ t p d k = fwd (ax σ t) (k.val + 1) d := by
  intro σ t p d k
  revert p d k
  cases σ <;> cases t <;> decide +kernel
theorem sigPeer_eq : ∀ (d : Dev nD) (i : Fin 10), sigPeer d i = if i.val < 3 then fwd .Z (i.val + 1) d else fwd .Q (i.val - 2) d := by
  decide +kernel

theorem off1_eq : ∀ σ p d k, off1 σ p d k = ![pos (ax1 σ) (fwd (ax1 σ) (k.val + 1) d) * R σ, col σ p] := by
  intro σ p d k; revert p d k; cases σ <;> decide +kernel
theorem own1_eq : ∀ σ p d, own1 σ p d = ![pos (ax1 σ) d * R σ, col σ p] := by
  intro σ p d; revert p d; cases σ <;> decide +kernel
theorem off2_eq : ∀ σ p d k, off2 σ p d k = ![p.val, pos (ax2 σ) (fwd (ax2 σ) (k.val + 1) d) * 32, 0] := by
  intro σ p d k; revert p d k; cases σ <;> decide +kernel
theorem own2_eq : ∀ σ p d, own2 σ p d = ![p.val, pos (ax2 σ) d * 32, 0] := by
  intro σ p d; revert p d; cases σ <;> decide +kernel
theorem out2_eq : ∀ σ p d, out2 σ p d = ![pos (ax1 σ) d * R σ + pos (ax2 σ) d * 32, col σ p] := by
  intro σ p d; revert p d; cases σ <;> decide +kernel
theorem off3_eq : ∀ σ p d k, off3 σ p d k = ![p.val, pos (ax2 σ) (bwd (ax2 σ) (k.val + 1) d) * 32, 0] := by
  intro σ p d k; revert p d k; cases σ <;> decide +kernel
theorem out3_eq : ∀ σ p d k, out3 σ p d k = ![pos (ax1 σ) d * R σ + pos (ax2 σ) (bwd (ax2 σ) (k.val + 1) d) * 32, col σ p] := by
  intro σ p d k; revert p d k; cases σ <;> decide +kernel
theorem out4_eq : ∀ σ p d k, out4 σ p d k = ![pos (ax1 σ) (bwd (ax1 σ) (k.val + 1) d) * R σ, col σ p] := by
  intro σ p d k; revert p d k; cases σ <;> decide +kernel

end Cert.KernelIdeal.AllReduce

end
-- ==== Proof.Program.lean ====
/- The kernel's body written by phases: what each phase does once, for either half and either piece; and that the
   printed body is their sequence. -/
module

public import proofs.«01_k».proof.Proof.Mesh
public import Idealize.ShloMosaic.Lib.Tactic

@[expose] public section

noncomputable section

namespace Cert.KernelIdeal.AllReduce

open Idealize.ShloMosaic Idealize.ShloMosaic.TcCoe Idealize.SL.Sem
open Cert.KernelIdeal Cert.KernelIdeal.Gen

variable {F : FTy → Type} [FloatOps F]

/-- Programs of one TensorCore. -/
abbrev Pr (F : FTy → Type) (α : Type) : Type 1 := Prog (TpuEff nD τ sig (Elt F) Λ₀ .tc) α

/-- The steps `f 0, f 1, …` in order. -/
def loop : (n : ℕ) → (Fin n → Pr F PUnit) → Pr F PUnit
  | 0, _ => pure ⟨⟩
  | n + 1, f => do f 0; loop n fun i => f i.succ

/-- The steps `f 0, f 1, …` in order, each over what the last one left. -/
def loopA {β : Type} : (n : ℕ) → (Fin n → β → Pr F β) → β → Pr F β
  | 0, _, b => pure b
  | n + 1, f, b => do let b' ← f 0 b; loopA n (fun i => f i.succ) b'

/-- Read a rectangle of a buffer. -/
abbrev ld {s : Shape} {e : EltTy} (m : Memref sig .tc .vmem s e) (r : Rect s) (h : 0 < r.shape.numel) : Pr F (Vec F r.shape e) :=
  Prog.lift (.load m r.toLoadRect (View.loadsAt_vmem h))

/-! ## Steps -/

/-- Start a transfer. -/
def send (σ : Side) (t : Stage) (p : Fin 2) (d : Dev nD) (k : Fin (nn σ t)) : Pr F PUnit :=
  Prog.lift (.enqueueDma (srcV σ t p d k) (.remote (Dev.tc (peer σ t p d k)) (dstV σ t p k) (.dma (sSem σ t p k)) (dstV_local σ t p k))
    (.dma (rSem σ t p k)) (srcV_words σ t p d k) (dstV_words σ t p k) ⟨⟨rfl, Or.inl rfl⟩, trivial⟩)

/-- Wait for a transfer to have landed here. -/
def waitRecv (σ : Side) (t : Stage) (p : Fin 2) (d : Dev nD) (k : Fin (nn σ t)) : Pr F PUnit :=
  Prog.lift (.waitDma2 (rSem σ t p k) (srcV σ t p d k) (dstV σ t p k) (srcV_words σ t p d k) (dstV_words σ t p k))

/-- Wait for a transfer from here to have read its source. -/
def waitSend (σ : Side) (t : Stage) (p : Fin 2) (d : Dev nD) (k : Fin (nn σ t)) : Pr F PUnit :=
  Prog.lift (.waitDma2 (sSem σ t p k) (dstV σ t p k) (srcV σ t p d k) (dstV_words σ t p k) (srcV_words σ t p d k))

theorem pos4 : ∀ σ t, 0 < (Sh4 1 1 (rr σ t) 256).numel
  | .A, .one => by decide | .A, .two => by decide | .A, .three => by decide | .A, .four => by decide
  | .B, .one => by decide | .B, .two => by decide | .B, .three => by decide | .B, .four => by decide
theorem pos3 : ∀ σ, 0 < (Sh3 1 (R σ) 256).numel | .A => by decide | .B => by decide
theorem pos2 : ∀ σ, 0 < (Sh2 (R σ) 256).numel | .A => by decide | .B => by decide
theorem pos32 : 0 < (Sh3 1 32 256).numel := by decide
theorem pos232 : 0 < (Sh2 32 256).numel := by decide

/-- Read what has landed. -/
def landed (σ : Side) (t : Stage) (p : Fin 2) (k : Fin (nn σ t)) : Pr F (Vec F (Sh4 1 1 (rr σ t) 256) .bf16) :=
  ld (rcv σ t) (slab4 p k) (pos4 σ t)

/-- One step of a reduction: await what peer `k` sent and add it. -/
def addPeer (σ : Side) (t : Stage) (p : Fin 2) (d : Dev nD) (k : Fin (nn σ t)) (acc : FVec F (Sh2 (rr σ t) 256) .f32) :
    Pr F (FVec F (Sh2 (rr σ t) 256) .f32) := do
  waitRecv σ t p d k
  let v ← landed σ t p k
  pure (addf acc (extf .f32 (shapeCast (Sh2 (rr σ t) 256) v (sc4 σ t)) bitsLt_bf16_f32))

/-- Overwrite rows of the result by the positive part of `v`. -/
def putOut (o : Memref sig .tc .vmem S1024x1024 .f32) {m : ℕ} (hm : 0 < (Sh2 m 256).numel) (off : Fin 2 → ℕ)
    (inb : ∀ a, off a + (![m, 256] : Fin 2 → ℕ) a ≤ S1024x1024.size a) (v : FVec F (Sh2 m 256) .f32) : Pr F PUnit := do
  let _ ← ld o (Rect.unit (s := S1024x1024) off ![m, 256] inb) hm
  Prog.lift (.store o (Rect.unit (s := S1024x1024) off ![m, 256] inb)
    (maximumf v (broadcast (Sh2 m 256) (Scalar.ofBits .f32 0x00000000#32 : F .f32))) Finset.univ
    (View.stores_vmem_bits_univ hm rfl) (.inl rfl))

/-! ## Phases -/

/-- Sum the outer group's partial products of the rows owned here, and start the inner exchange of the sums. -/
def reduce1 (σ : Side) (p : Fin 2) (d : Dev nD) : Pr F PUnit := do
  let v ← ld partM (Rect.unit (s := S1024x1024) (own1 σ p d) ![R σ, 256] (own1_inb σ p d)) (pos2 σ)
  let acc ← loopA (nn σ .one) (addPeer σ .one p d) (extf .f32 (v : FVec F (Sh2 (R σ) 256) .bf16) bitsLt_bf16_f32)
  let _ ← ld (pool σ) (slab3 p) (pos3 σ)
  Prog.lift (.store (pool σ) (slab3 p) (shapeCast (Sh3 1 (R σ) 256) (truncf .bf16 acc bitsLt_bf16_f32) (scR σ)) Finset.univ
    (View.stores_vmem (pos3 σ) ((pool_whole σ).storeExact_slice rfl _ (slab3_packed p)) (fun _ => rfl)) (.inl rfl))
  loop (nn σ .two) (send σ .two p d)

/-- Sum the inner group's sums of the 32 rows owned here, start the inner gather, and keep the rows. -/
def reduce2 (o : Memref sig .tc .vmem S1024x1024 .f32) (σ : Side) (p : Fin 2) (d : Dev nD) : Pr F PUnit := do
  let v ← ld (pool σ) (Rect.unit (s := Sh3 2 (R σ) 256) (own2 σ p d) ![1, 32, 256] (own2_inb σ p d)) pos32
  let acc ← loopA (nn σ .two) (addPeer σ .two p d) (extf .f32 (shapeCast (Sh2 32 256) (v : FVec F (Sh3 1 32 256) .bf16) sc32) bitsLt_bf16_f32)
  let _ ← ld (src3 σ) (slab3 p) pos32
  Prog.lift (.store (src3 σ) (slab3 p) (shapeCast (Sh3 1 32 256) (truncf .bf16 acc bitsLt_bf16_f32) sc32') Finset.univ
    (View.stores_vmem pos32 ((src3_whole σ).storeExact_slice rfl _ (slab3_packed p)) (fun _ => rfl)) (.inl rfl))
  loop (nn σ .three) (send σ .three p d)
  putOut o pos232 (out2 σ p d) (out2_inb σ p d) acc
  let v' ← ld (src3 σ) (slab3 p) pos32
  let _ ← ld (src4 σ) (Rect.unit (s := Sh3 2 (R σ) 256) (own2 σ p d) ![1, 32, 256] (own2_inb σ p d)) pos32
  Prog.lift (.store (src4 σ) (Rect.unit (s := Sh3 2 (R σ) 256) (own2 σ p d) ![1, 32, 256] (own2_inb σ p d))
    (shapeCast (Sh3 1 32 256) (shapeCast (Sh2 32 256) (v' : FVec F (Sh3 1 32 256) .bf16) sc32) sc32') Finset.univ
    (View.stores_vmem pos32 ((src4_whole σ).storeExact_slice rfl _ (own2_packed σ p d)) (fun _ => rfl)) (.inl rfl))

/-- Take in the 32 finished rows of inner peer `k`. -/
def take3 (o : Memref sig .tc .vmem S1024x1024 .f32) (σ : Side) (p : Fin 2) (d : Dev nD) (k : Fin (n2 σ)) : Pr F PUnit := do
  waitRecv σ .three p d k
  let v ← landed σ .three p k
  let _ ← ld (src4 σ) (Rect.unit (s := Sh3 2 (R σ) 256) (off3 σ p d k) ![1, 32, 256] (off3_inb σ p d k)) pos32
  Prog.lift (.store (src4 σ) (Rect.unit (s := Sh3 2 (R σ) 256) (off3 σ p d k) ![1, 32, 256] (off3_inb σ p d k))
    (shapeCast (Sh3 1 32 256) (shapeCast (Sh2 32 256) (v : FVec F (Sh4 1 1 32 256) .bf16) (sc4 σ .three)) sc32') Finset.univ
    (View.stores_vmem pos32 ((src4_whole σ).storeExact_slice rfl _ (off3_packed σ p d k)) (fun _ => rfl)) (.inl rfl))
  let v' ← landed σ .three p k
  putOut o pos232 (out3 σ p d k) (out3_inb σ p d k) (extf .f32 (shapeCast (Sh2 32 256) (v' : FVec F (Sh4 1 1 32 256) .bf16) (sc4 σ .three)) bitsLt_bf16_f32)

/-- Take in the inner group's finished rows and start the outer gather. -/
def gather3 (o : Memref sig .tc .vmem S1024x1024 .f32) (σ : Side) (p : Fin 2) (d : Dev nD) : Pr F PUnit := do
  loop (nn σ .three) (take3 o σ p d)
  loop (nn σ .four) (send σ .four p d)

/-- Take in the finished rows of outer peer `k`. -/
def take4 (o : Memref sig .tc .vmem S1024x1024 .f32) (σ : Side) (p : Fin 2) (d : Dev nD) (k : Fin (n1 σ)) : Pr F PUnit := do
  waitRecv σ .four p d k
  let v ← landed σ .four p k
  putOut o (pos2 σ) (out4 σ p d k) (out4_inb σ p d k) (extf .f32 (shapeCast (Sh2 (R σ) 256) (v : FVec F (Sh4 1 1 (R σ) 256) .bf16) (sc4 σ .four)) bitsLt_bf16_f32)

/-- Take in the outer group's finished rows. -/
def gather4 (o : Memref sig .tc .vmem S1024x1024 .f32) (σ : Side) (p : Fin 2) (d : Dev nD) : Pr F PUnit :=
  loop (nn σ .four) (take4 o σ p d)

/-- One half of the columns of the partial product, from the two factors. -/
def half (v : FVec F S1024x32 .bf16) (w : FVec F S32x512 .bf16) : FVec F S1024x512 .bf16 :=
  truncf .bf16 (matmul dot_S1024x32_S32x512_S1024x512_1_0_0_1_n_n none (shapeCast S1024x32 v shapeCasts_S1024x32_S1024x32)
    (shapeCast S32x512 w shapeCasts_S32x512_S32x512) (constant S1024x512 .f32 0x00000000#32)) bitsLt_bf16_f32

/-- Compute and store the columns from `b` on of the partial product. -/
def putHalf (v : FVec F S1024x32 .bf16) (w : Memref sig .tc .vmem S32x1024 .bf16) (b : ℕ)
    (ib : ∀ a, (![0, b] : Fin 2 → ℕ) a + S32x512.size a ≤ S32x1024.size a)
    (ib' : ∀ a, (![0, b] : Fin 2 → ℕ) a + S1024x512.size a ≤ S1024x1024.size a)
    (hp : (Rect.unit (s := S1024x1024) ![0, b] S1024x512.size ib').PackedRows (EltTy.packing .bf16)) : Pr F PUnit := do
  let y ← ld w (Rect.unit (s := S32x1024) ![0, b] S32x512.size ib) h_S32x512
  let _ ← ld partM (Rect.unit (s := S1024x1024) ![0, b] S1024x512.size ib') h_S1024x512
  Prog.lift (.store partM (Rect.unit (s := S1024x1024) ![0, b] S1024x512.size ib')
    (shapeCast S1024x512 (half v y) shapeCasts_S1024x512_S1024x512) Finset.univ
    (View.stores_vmem h_S1024x512 (partM_whole.storeExact_slice rfl _ hp) (fun _ => rfl)) (.inl rfl))

/-- The barrier: a signal to each of the ten peers, and the wait for theirs. -/
def barrier (d : Dev nD) : Pr F PUnit := do
  loop 10 fun i => semSignalWord (sigPeer d i) (SemArray.scalar (d := ![]) (sig.barrier 0 rfl)).sem 1#32
  semWaitWord (SemArray.scalar (d := ![]) (sig.barrier 0 rfl)).sem 10#32

/-- The last waits, for the sources of one peer number of the exchanges along the planes (`k`) … -/
def drainZ (p : Fin 2) (d : Dev nD) (k : Fin 3) : Pr F PUnit := do
  waitSend .A .one p d k
  waitSend .B .two p d k
  waitSend .B .three p d k
  waitSend .A .four p d k
/-- … and within a plane (`j`). -/
def drainQ (p : Fin 2) (d : Dev nD) (j : Fin 7) : Pr F PUnit := do
  waitSend .B .one p d j
  waitSend .A .two p d j
  waitSend .A .three p d j
  waitSend .B .four p d j

/-- The body over its windows `x` and `w` (the factors) and `o` (the result). -/
def prog (x : Memref sig .tc .vmem S1024x32 .bf16) (w : Memref sig .tc .vmem S32x1024 .bf16) (o : Memref sig .tc .vmem S1024x1024 .f32) :
    Pr F PUnit := do
  let d ← (Prog.lift .deviceId : Pr F (Dev nD))
  let v ← ld x (Rect.unit (s := S1024x32) ![0, 0] S1024x32.size inb_S1024x32_S1024x32_0_0) h_S1024x32
  putHalf v w 0 inb_S32x1024_S32x512_0_0 inb_S1024x1024_S1024x512_0_0 packedbf16_S1024x1024_S1024x512_0_0
  barrier d
  loop 3 (send .A .one 0 d)
  loop 3 (send .A .one 1 d)
  putHalf v w 512 inb_S32x1024_S32x512_0_512 inb_S1024x1024_S1024x512_0_512 packedbf16_S1024x1024_S1024x512_0_512
  loop 7 (send .B .one 0 d)
  loop 7 (send .B .one 1 d)
  reduce1 .A 0 d
  reduce1 .B 0 d
  reduce1 .A 1 d
  reduce1 .B 1 d
  reduce2 o .A 0 d
  reduce2 o .B 0 d
  reduce2 o .A 1 d
  reduce2 o .B 1 d
  gather3 o .A 0 d
  gather3 o .B 0 d
  gather3 o .A 1 d
  gather3 o .B 1 d
  gather4 o .A 0 d
  gather4 o .B 0 d
  gather4 o .A 1 d
  gather4 o .B 1 d
  loop 3 (drainZ 0 d)
  loop 7 (drainQ 0 d)
  loop 3 (drainZ 1 d)
  loop 7 (drainQ 1 d)

set_option maxRecDepth 65536 in
/-- The printed body is the sequence of the phases. -/
theorem body_eq (x : Memref sig .tc .vmem S1024x32 .bf16) (hx : x.IsWhole) (w : Memref sig .tc .vmem S32x1024 .bf16) (hw : w.IsWhole)
    (o : Memref sig .tc .vmem S1024x1024 .f32) (ho : o.IsWhole) :
    cc0_body (F := F) x hx w hw o ho (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      (Memref.whole cc0_scratch8) (Memref.isWhole_whole _) (Memref.whole cc0_scratch9) (Memref.isWhole_whole _)
      (Memref.whole cc0_scratch10) (Memref.isWhole_whole _) (Memref.whole cc0_scratch11) (Memref.isWhole_whole _)
      (Memref.whole cc0_scratch12) (Memref.isWhole_whole _) (Memref.whole cc0_scratch13) (Memref.isWhole_whole _)
      (Memref.whole cc0_scratch14) (Memref.isWhole_whole _)
      cc0_scratch15 cc0_scratch16 cc0_scratch17 cc0_scratch18 cc0_scratch19 cc0_scratch20 cc0_scratch21 cc0_scratch22
      cc0_scratch23 cc0_scratch24 cc0_scratch25 cc0_scratch26 cc0_scratch27 cc0_scratch28 cc0_scratch29 cc0_scratch30
      = prog x w o := by
  sl_kernel_rfl

end Cert.KernelIdeal.AllReduce

end
-- ==== Proof.Values.lean ====
/- What every buffer holds, element by element, over any float values: the partial products, the two reductions' sums
   in the order in which they are added, and the result. -/
module

public import proofs.«01_k».proof.Proof.Program
public import Idealize.ShloMosaic.Lib.ValueIdxCore

@[expose] public section

noncomputable section

namespace Cert.KernelIdeal.AllReduce

open Idealize.ShloMosaic Idealize.ShloMosaic.TcCoe Idealize.SL.Sem
open Idealize.ShloMosaic.ValueIdx
open Cert.KernelIdeal Cert.KernelIdeal.Gen

variable {F : FTy → Type} [FloatOps F]

/-- A matrix by its elements. -/
def vec {φ : FTy} {m n : ℕ} (G : ℕ → ℕ → F φ) : FVec F (Sh2 m n) φ := fun j => G (j 0).val (j 1).val

/-- A wider element from a narrower one, and back. -/
def up (x : F .bf16) : F .f32 := FloatOps.extf .f32 bitsLt_bf16_f32 x
def down (x : F .f32) : F .bf16 := FloatOps.truncf .bf16 bitsLt_bf16_f32 x
/-- The positive part. -/
def relu (x : F .f32) : F .f32 := FloatOps.maximumf x (Scalar.ofBits .f32 0x00000000#32)

/-- The columns from `b` on of the second factor's rows. -/
def colsAt (y : FVec F S32x1024 .bf16) (b : ℕ) (ib : ∀ a, (![0, b] : Fin 2 → ℕ) a + S32x512.size a ≤ S32x1024.size a) : FVec F S32x512 .bf16 :=
  fun j => y ((Rect.unit (s := S32x1024) ![0, b] S32x512.size ib).emb j)

variable (X : Dev nD → FVec F S1024x32 .bf16) (Y : Dev nD → FVec F S32x1024 .bf16)

/-- Element `(a, b)` of device `c`'s partial product. -/
def partN (c : Dev nD) (a b : ℕ) : F .bf16 :=
  if h : a < 1024 ∧ b < 1024 then
    if hb : b < 512 then half (X c) (colsAt (Y c) 0 inb_S32x1024_S32x512_0_0) (ix2 (⟨a, h.1⟩ : Fin 1024) (⟨b, hb⟩ : Fin 512))
    else half (X c) (colsAt (Y c) 512 inb_S32x1024_S32x512_0_512) (ix2 (⟨a, h.1⟩ : Fin 1024) (⟨b - 512, by omega⟩ : Fin 512))
  else Scalar.ofBits .bf16 0

/-- The outer reduction on device `c` after `n` peers, at row `a` and column `b` of its own block of piece `p`. -/
def acc1 (σ : Side) (p : Fin 2) (c : Dev nD) (a b : ℕ) : ℕ → F .f32
  | 0 => up (partN X Y c (pos (ax1 σ) c * R σ + a) (col σ p + b))
  | n + 1 => FloatOps.addf (acc1 σ p c a b n) (up (partN X Y (bwd (ax1 σ) (n + 1) c) (pos (ax1 σ) c * R σ + a) (col σ p + b)))

/-- The outer sums. -/
def poolN (σ : Side) (p : Fin 2) (c : Dev nD) (a b : ℕ) : F .bf16 := down (acc1 X Y σ p c a b (n1 σ))

/-- The inner reduction on device `c` after `n` peers, at row `a` of its own 32 rows. -/
def acc2 (σ : Side) (p : Fin 2) (c : Dev nD) (a b : ℕ) : ℕ → F .f32
  | 0 => up (poolN X Y σ p c (pos (ax2 σ) c * 32 + a) b)
  | n + 1 => FloatOps.addf (acc2 σ p c a b n) (up (poolN X Y σ p (bwd (ax2 σ) (n + 1) c) (pos (ax2 σ) c * 32 + a) b))

/-- The finished sums of device `c`'s own 32 rows, as they are sent on. -/
def s3N (σ : Side) (p : Fin 2) (c : Dev nD) (a b : ℕ) : F .bf16 := down (acc2 X Y σ p c a b (n2 σ))

/-- The inner group's finished sums. -/
def s4N (σ : Side) (p : Fin 2) (c : Dev nD) (a b : ℕ) : F .bf16 := s3N X Y σ p (at' (ax2 σ) c (a / 32)) (a % 32) b

/-- What device `c` sends in transfer `k` of a stage. -/
def sentN (σ : Side) : (t : Stage) → (p : Fin 2) → Dev nD → Fin (nn σ t) → ℕ → ℕ → F .bf16
  | .one, p, c, k, a, b => partN X Y c (pos (ax1 σ) (fwd (ax1 σ) (k.val + 1) c) * R σ + a) (col σ p + b)
  | .two, p, c, k, a, b => poolN X Y σ p c (pos (ax2 σ) (fwd (ax2 σ) (k.val + 1) c) * 32 + a) b
  | .three, p, c, _, a, b => s3N X Y σ p c a b
  | .four, p, c, _, a, b => s4N X Y σ p c a b

/-- The result on device `c`, at row `a` and column `b` of a column piece: its own 32 rows straight from the sums, the
    others through the narrower format in which they arrive. -/
def outN (σ : Side) (p : Fin 2) (c : Dev nD) (a b : ℕ) : F .f32 :=
  if at' (ax1 σ) c (a / R σ) = c ∧ at' (ax2 σ) c (a % R σ / 32) = c then relu (acc2 X Y σ p c (a % 32) b (n2 σ))
  else relu (up (s4N X Y σ p (at' (ax1 σ) c (a / R σ)) (a % R σ) b))

end Cert.KernelIdeal.AllReduce

end
-- ==== Proof.Hold.lean ====
/- Owned pieces of buffers by their logical contents: what a view's elements under a set of its indices hold, how such
   pieces split, join and narrow, and the load and store rules on them. -/
module

public import proofs.«01_k».proof.Proof.Values
public import Idealize.ShloMosaic.Lib.Pipeline.Launch
public import Idealize.ShloMosaic.Lib.Pipeline.Kit
public import Idealize.ShloMosaic.Lib.Pipeline.ValueKit.Geometry
public import Idealize.ShloMosaic.Lib.Transfers
public import Idealize.ShloMosaic.Lib.ValueLayout
public import Idealize.ShloMosaic.Lib.Routing.ZeroElt

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok pointsTo_toks)
open Cert.KernelIdeal Cert.KernelIdeal.Gen

variable {F : FTy → Type} [FloatOps F]

/-! ## The resource algebra -/

abbrev UB : Type := URounds (GSem nD τ sig) (Fin 10)
abbrev UU : Type := UR sig nD τ × UB
/-- Propositions over the machine's resources and the two sets of rounds (the pipeline's, and the exchange's). -/
abbrev PP (F : FTy → Type) : Type := sProp (MT nD τ sig Unit (Elt F) ℕ UU ℕ)
abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The weakest precondition on device `c`. -/
def W {α : Type} (c : Dev nD) (p : Pr F α) (Q : α → PP F) : PP F :=
  wp frame (wpE (defs₀ (F := F)) 𝒱₀ (c : Thread nD τ) none) Set.univ p Q

theorem W_bind {α β : Type} {c : Dev nD} {p : Pr F α} {k : α → Pr F β} {Q : β → PP F} :
    W c (p >>= k) Q = W c p fun a => W c (k a) Q := by unfold W; rw [wp_bind]
theorem W_pure {α : Type} {c : Dev nD} {a : α} {Q : α → PP F} : Q a ⊢ W c (pure a) Q := by
  unfold W; rw [Prog.pure_eq_ret, wp_ret]; iintro H; imodintro; iexact H
theorem W_intro {α : Type} {c : Dev nD} {p : Pr F α} {Q : α → PP F} :
    wp frame (wpE (defs₀ (F := F)) 𝒱₀ (c : Thread nD τ) none) Set.univ p Q ⊢ W c p Q := BI.Entails.refl _

instance elt_nonempty (e : EltTy) : Nonempty (Elt F e) := ⟨Routing.zeroElt F e⟩

section Hold

variable {sp : Space} {s : Shape} {e : EltTy} (c : Dev nD) (v : View sig .tc sp s e)

/-- Device `c` owns the elements of `v` under the indices `I`, at share `q`, and they hold `g`. -/
def hold (I : Finset s.Idx) (q : PosShare TreeShare) (g : s.Idx → Elt F e) : PP F :=
  v.loc (c : Thread nD τ) ↦[v.setOn I]{q} v.write (Elt F) v.junk g Finset.univ

instance hold_storable (I : Finset s.Idx) (q : PosShare TreeShare) (g : s.Idx → Elt F e) :
    BI.Storable (upEmb : UEmb _ (MT nD τ sig Unit (Elt F) ℕ UU ℕ)) (hold c v I q g) := by unfold hold; infer_instance

/-- Owned outright, contents unknown. -/
def anyp (I : Finset s.Idx) : PP F := iprop(∃ g, hold c v I fullShare g)

instance anyp_storable (I : Finset s.Idx) :
    BI.Storable (upEmb : UEmb _ (MT nD τ sig Unit (Elt F) ℕ UU ℕ)) (anyp (F := F) c v I) := by unfold anyp; infer_instance

variable {c v}

theorem hold_any {I : Finset s.Idx} {g : s.Idx → Elt F e} : hold c v I fullShare g ⊢ anyp c v I := by
  unfold anyp; iintro H; iexists g; iexact H

/-- A buffer's contents `f` under `I`, as what `v` reads of them. -/
theorem hold_of {I : Finset s.Idx} {q : PosShare TreeShare} {g : s.Idx → Elt F e} {f : v.ty.Contents (Elt F)}
    (h : ∀ i ∈ I, v.read (Elt F) f i = g i) :
    (v.loc (c : Thread nD τ) ↦[v.setOn I]{q} f : PP F) = hold c v I q g := by
  unfold hold
  refine pointsTo_congr fun j hj => ?_
  obtain ⟨i, hi, rfl⟩ := Finset.mem_map.mp hj
  rw [View.write_emb_of_mem _ _ (Finset.mem_univ i), ← h i hi, View.read_apply, cast_cast, cast_eq]

theorem hold_congr {I : Finset s.Idx} {q : PosShare TreeShare} {g g' : s.Idx → Elt F e} (h : ∀ i ∈ I, g i = g' i) :
    hold c v I q g = hold c v I q g' := by
  rw [← hold_of (c := c) (v := v) (I := I) (q := q) (g := g') (f := v.write (Elt F) v.junk g Finset.univ)
    fun i hi => (View.read_write_of_mem _ _ (Finset.mem_univ i)).trans (h i hi)]
  rfl

theorem setOn_biUnion {T : Type} (S : Finset T) (K : T → Finset s.Idx) : v.setOn (S.biUnion K) = S.biUnion fun t => v.setOn (K t) := by
  ext i; simp only [View.setOn, Finset.mem_map, Finset.mem_biUnion]; constructor
  · rintro ⟨j, ⟨t, ht, hj⟩, rfl⟩; exact ⟨t, ht, j, hj, rfl⟩
  · rintro ⟨t, ht, j, hj, rfl⟩; exact ⟨j, ⟨t, ht, hj⟩, rfl⟩

theorem setOn_disjoint {I J : Finset s.Idx} (h : Disjoint I J) : Disjoint (v.setOn I) (v.setOn J) :=
  (Finset.disjoint_map _).mpr h

/-- A family of disjoint pieces that make up `I`. -/
structure Pieces {T : Type} [Fintype T] (I : Finset s.Idx) (K : T → Finset s.Idx) : Prop where
  disj : ∀ t t', t ≠ t' → Disjoint (K t) (K t')
  cover : Finset.univ.biUnion K = I

theorem Pieces.of_key {T : Type} [Fintype T] {I : Finset s.Idx} {K : T → Finset s.Idx} (key : s.Idx → T)
    (h : ∀ t i, i ∈ K t ↔ i ∈ I ∧ key i = t) : Pieces I K where
  disj t t' hne := Finset.disjoint_left.mpr fun i hi hi' => hne (((h t i).mp hi).2.symm.trans ((h t' i).mp hi').2)
  cover := by
    ext i; rw [Finset.mem_biUnion]
    exact ⟨fun ⟨t, _, hi⟩ => ((h t i).mp hi).1, fun hi => ⟨key i, Finset.mem_univ _, (h _ i).mpr ⟨hi, rfl⟩⟩⟩

theorem hold_pieces {T : Type} [Fintype T] {I : Finset s.Idx} {K : T → Finset s.Idx} (hp : Pieces I K) (q : PosShare TreeShare)
    (g : s.Idx → Elt F e) : hold c v I q g = bigSep Finset.univ fun t => hold c v (K t) q g := by
  unfold hold
  rw [← hp.cover, setOn_biUnion]
  exact pointsTo_biUnion _ _ fun t _ t' _ h => setOn_disjoint (hp.disj t t' h)

theorem any_split {T : Type} [Fintype T] {I : Finset s.Idx} {K : T → Finset s.Idx} (hp : Pieces I K) :
    anyp (F := F) c v I ⊢ bigSep Finset.univ fun t => anyp c v (K t) := by
  iintro H
  unfold anyp; icases H with ⟨%g, H⟩
  ihave H := (Entails.of_eq (hold_pieces (c := c) (v := v) hp fullShare g)) $$ H
  iapply (show (bigSep Finset.univ fun t => hold c v (K t) fullShare g) ⊢ (bigSep Finset.univ fun t => anyp c v (K t) : PP F) from
    bigSep_mono fun t _ => hold_any) $$ H

theorem any_join {T : Type} [Fintype T] [DecidableEq T] {I : Finset s.Idx} {K : T → Finset s.Idx} (hp : Pieces I K) :
    (bigSep Finset.univ fun t => anyp (F := F) c v (K t)) ⊢ anyp c v I := by
  unfold anyp
  iintro H
  ihave H := (BI.bigSep_exists_pi Finset.univ fun (t : T) (g : s.Idx → Elt F e) => hold c v (K t) fullShare g) $$ H
  icases H with ⟨%g, H⟩
  unfold hold
  ihave H := (pointsTo_biUnion_join (ℓ := v.loc (c : Thread nD τ)) (q := fullShare) Finset.univ (fun t => v.setOn (K t)) (fun t => v.write (Elt F) v.junk (g t) Finset.univ) v.junk
    (fun t _ t' _ h => setOn_disjoint (hp.disj t t' h))) $$ H
  icases H with ⟨%f, %hf, H⟩
  iexists (v.read (Elt F) f)
  rw [← setOn_biUnion, hp.cover]
  ihave H := (Entails.of_eq (hold_of (c := c) (v := v) (I := I) (q := fullShare) (g := v.read (Elt F) f) (f := f) fun _ _ => rfl)) $$ H
  unfold hold
  iexact H

/-- Along a slice: the rectangle's elements of `v` are all of the slice's. -/
theorem hold_slice (r : Rect s) (q : PosShare TreeShare) (g : s.Idx → Elt F e) :
    hold c v r.set q g = hold c (v.slice r) Finset.univ q fun j => g (r.emb j) := by
  rw [← hold_of (c := c) (v := v.slice r) (I := Finset.univ) (q := q) (f := v.write (Elt F) v.junk g Finset.univ)
    fun j _ => show v.read (Elt F) (v.write (Elt F) v.junk g Finset.univ) (r.emb j) = g (r.emb j) from View.read_write_of_mem _ _ (Finset.mem_univ _)]
  unfold hold
  rw [View.setOn_univ, View.set_slice]; try rfl

/-- Along a reshape. -/
theorem hold_reshape {s' : Shape} (h : s'.numel = s.numel) (q : PosShare TreeShare) (g : s.Idx → Elt F e) :
    hold c v Finset.univ q g = hold c (v.reshape s' h) Finset.univ q fun j => g (Shape.reshapeEquiv h j) := by
  rw [← hold_of (c := c) (v := v.reshape s' h) (I := Finset.univ) (q := q) (f := v.write (Elt F) v.junk g Finset.univ)
    fun j _ => show v.read (Elt F) (v.write (Elt F) v.junk g Finset.univ) (Shape.reshapeEquiv h j) = g (Shape.reshapeEquiv h j) from View.read_write_of_mem _ _ (Finset.mem_univ _)]
  unfold hold
  rw [View.setOn_univ, View.setOn_univ, View.set_reshape]; try rfl

theorem any_slice (r : Rect s) : anyp (F := F) c v r.set ⊢ anyp c (v.slice r) Finset.univ := by
  unfold anyp; iintro ⟨%g, H⟩; iexists (fun j => g (r.emb j)); rw [← hold_slice]; iexact H

theorem any_reshape {s' : Shape} (h : s'.numel = s.numel) : anyp (F := F) c v Finset.univ ⊢ anyp c (v.reshape s' h) Finset.univ := by
  unfold anyp; iintro ⟨%g, H⟩; iexists (fun j => g (Shape.reshapeEquiv h j)); rw [← hold_reshape]; iexact H

/-- Contents of a slice as contents of the view it is cut from. -/
theorem any_unslice (r : Rect s) : anyp (F := F) c (v.slice r) Finset.univ ⊢ anyp c v r.set := by
  unfold anyp; iintro ⟨%g, H⟩
  iexists v.read (Elt F) ((v.slice r).write (Elt F) (v.slice r).junk g Finset.univ)
  rw [hold_slice]
  iapply (Entails.of_eq (hold_congr fun j _ => ?_)) $$ H
  show g j = (v.slice r).read (Elt F) ((v.slice r).write (Elt F) (v.slice r).junk g Finset.univ) j
  rw [View.read_write_univ]

theorem any_unreshape {s' : Shape} (h : s'.numel = s.numel) : anyp (F := F) c (v.reshape s' h) Finset.univ ⊢ anyp c v Finset.univ := by
  unfold anyp; iintro ⟨%g, H⟩
  iexists fun i => g ((Shape.reshapeEquiv h).symm i)
  rw [hold_reshape h]
  iapply (Entails.of_eq (hold_congr fun j _ => ?_)) $$ H
  show g j = g _
  rw [Equiv.symm_apply_apply]

/-- A whole buffer. -/
theorem hold_whole (b : Ref sig .tc) (q : PosShare TreeShare) (f : b.ty.Contents (Elt F)) :
    ((c : Thread nD τ).loc b ↦{q} f : PP F) = hold c (View.whole b) Finset.univ q f := by
  rw [← hold_of (c := c) (v := View.whole b) (I := Finset.univ) (q := q) (g := f) (f := f) fun j _ => rfl, View.setOn_whole_univ]

theorem any_whole (b : Ref sig .tc) : iprop(∃ f, (c : Thread nD τ).loc b ↦{fullShare} f) = anyp (F := F) c (View.whole b) Finset.univ := by
  unfold anyp; congr 1; funext f; exact hold_whole b fullShare f

/-- Read shares: the remainder and one for each of `n` readers. -/
theorem hold_toks {I : Finset s.Idx} (q : PosShare TreeShare) (n : ℕ) (g : s.Idx → Elt F e) :
    hold c v I q g = iprop(hold c v I (shareDrop q n) g ∗ bigSep Finset.univ fun i : Fin n => hold c v I (shareTok q n i) g) := by
  have h := pointsTo_toks (Ix := Unit) (Name := ℕ) (U := UU) (Lvl := ℕ) (ℓ := v.loc (c : Thread nD τ)) (S := v.setOn I) (f := v.write (Elt F) v.junk g Finset.univ) q n
  exact BI.equiv_iff.mp ⟨h.1, h.2⟩

end Hold

/-! ## Loads and stores -/

section Access

variable {s : Shape} {e : EltTy} {c : Dev nD} {m : Memref sig .tc .vmem s e}

/-- A load of a rectangle reads the owned contents. -/
theorem ld_spec {r : Rect s} {h : 0 < r.shape.numel} {I : Finset s.Idx} {q : PosShare TreeShare} {g : s.Idx → Elt F e} (hI : r.set ⊆ I)
    {Q : Vec F r.shape e → PP F} :
    hold c m.view I q g ⊢ iprop((hold c m.view I q g -∗ Q fun j => g (r.emb j)) -∗ W c (ld m r h) Q) := by
  unfold ld Prog.lift hold
  iintro H Hk
  iapply W_intro
  iapply (wp_load 𝒱₀ (c : Thread nD τ) none Set.univ (m := m) (r := r.toLoadRect) (S := m.view.setOn I) (Finset.map_subset_map.mpr hI)) $$ H
  iintro H
  rw [wp_ret]; imodintro
  rw [show m.view.readAt (Elt F) r.toLoadRect (m.view.write (Elt F) m.view.junk g Finset.univ) = fun j => g (r.emb j) from
    funext fun j => show m.view.read (Elt F) (m.view.write (Elt F) m.view.junk g Finset.univ) (r.emb j) = g (r.emb j) from
      View.read_write_of_mem _ _ (Finset.mem_univ _)]
  iapply Hk; iexact H

/-- The same, what is read being given as `w`. -/
theorem ld_spec_eq {r : Rect s} {h : 0 < r.shape.numel} {I : Finset s.Idx} {q : PosShare TreeShare} {g : s.Idx → Elt F e} (hI : r.set ⊆ I)
    (w : Vec F r.shape e) (hw : ∀ j, g (r.emb j) = w j) {Q : Vec F r.shape e → PP F} :
    hold c m.view I q g ⊢ iprop((hold c m.view I q g -∗ Q w) -∗ W c (ld m r h) Q) := by
  rw [← show (fun j => g (r.emb j)) = w from funext hw]
  exact ld_spec hI

/-- A load whose result is not used. -/
theorem ld_any_spec {r : Rect s} {h : 0 < r.shape.numel} {Q : Vec F r.shape e → PP F} :
    anyp c m.view r.set ⊢ iprop((∀ a, anyp c m.view r.set -∗ Q a) -∗ W c (ld m r h) Q) := by
  unfold anyp
  iintro ⟨%g, H⟩ Hk
  iapply (ld_spec (F := F) (c := c) (m := m) (r := r) (h := h) (I := r.set) (q := fullShare) (g := g) (Finset.Subset.refl _)) $$ H
  iintro H
  iapply Hk; iexists g; iexact H

/-- A store of a rectangle. -/
theorem st_spec {r : Rect s} {w : r.shape.Idx → Elt F e} {hx : (m.access r).Stores Finset.univ}
    {hm : (Finset.univ : Finset r.shape.Idx) = Finset.univ ∨ ∀ a, r.stride a = 1} (g' : s.Idx → Elt F e) (hg : ∀ j, g' (r.emb j) = w j)
    {Q : PUnit → PP F} :
    anyp c m.view r.set ⊢ iprop((hold c m.view r.set fullShare g' -∗ Q ⟨⟩) -∗ W c (Prog.lift (.store m r w Finset.univ hx hm)) Q) := by
  unfold anyp Prog.lift
  iintro ⟨%g, H⟩ Hk
  ihave H := ((Entails.of_eq (hold_slice (F := F) (c := c) (v := m.view) r fullShare g)).trans
    (show hold c (m.view.slice r) Finset.univ fullShare (fun j => g (r.emb j)) ⊢
      ((m.view.slice r).loc (c : Thread nD τ) ↦[(m.view.slice r).setOn Finset.univ]{fullShare}
        (m.view.slice r).write (Elt F) (m.view.slice r).junk (fun j => g (r.emb j)) Finset.univ : PP F) from BI.Entails.refl _)) $$ H
  iapply W_intro
  iapply (wp_store 𝒱₀ (c : Thread nD τ) none Set.univ (m := m) (r := r) (Mk := Finset.univ) (Finset.Subset.refl _)) $$ H
  iintro H
  rw [wp_ret]; imodintro
  iapply Hk
  ihave H := (Entails.of_eq (hold_of (F := F) (c := c) (v := m.view.slice r) (I := Finset.univ) (q := fullShare) (g := w)
    fun j _ => View.read_write_of_mem _ _ (Finset.mem_univ j))) $$ H
  iapply (Entails.of_eq (show hold c (m.view.slice r) Finset.univ fullShare w = hold c m.view r.set fullShare g' from by
    rw [hold_slice]; exact congrArg _ (funext fun j => (hg j).symm))) $$ H

end Access

/-! ## Loops -/

theorem bigSep_fin_head {n : ℕ} (Φ : Fin (n + 1) → PP F) :
    bigSep Finset.univ Φ = iprop(Φ 0 ∗ bigSep Finset.univ fun i : Fin n => Φ i.succ) := by
  rw [Fin.univ_succ, Finset.cons_eq_insert, bigSep_insert (by simp), bigSep_map]; rfl

/-- A loop whose step `i` turns `A i` into `B i` and `J i` into `J (i + 1)`. -/
theorem loop_spec {c : Dev nD} : (n : ℕ) → (f : Fin n → Pr F PUnit) → (A B : Fin n → PP F) → (J : ℕ → PP F) →
    (hstep : ∀ i Q, iprop(A i ∗ J i.val) ⊢ iprop((B i ∗ J (i.val + 1) -∗ Q ⟨⟩) -∗ W c (f i) Q)) → (Q : PUnit → PP F) →
    iprop((bigSep Finset.univ A) ∗ J 0) ⊢ iprop(((bigSep Finset.univ B) ∗ J n -∗ Q ⟨⟩) -∗ W c (loop n f) Q)
  | 0, f, A, B, J, _, Q => by
    unfold loop
    iintro ⟨-, HJ⟩ Hk
    iapply W_pure
    iapply Hk
    isplitr
    · rw [Finset.univ_eq_empty, bigSep_empty]; iempintro
    · iexact HJ
  | n + 1, f, A, B, J, hstep, Q => by
    unfold loop
    rw [bigSep_fin_head, bigSep_fin_head, W_bind]
    have h0 : ∀ Q, iprop(A 0 ∗ J 0) ⊢ iprop((B 0 ∗ J (0 + 1) -∗ Q ⟨⟩) -∗ W c (f 0) Q) := hstep 0
    iintro ⟨⟨HA, HAs⟩, HJ⟩ Hk
    iapply (h0 _) $$ [HA HJ]
    · isplitl [HA] <;> iassumption
    iintro ⟨HB, HJ⟩
    iapply (loop_spec n (fun i => f i.succ) (fun i => A i.succ) (fun i => B i.succ) (fun k => J (k + 1)) (fun i Q => hstep i.succ Q) Q) $$ [HAs HJ]
    · isplitl [HAs]; · iexact HAs
      iexact HJ
    iintro ⟨HBs, HJ⟩
    iapply Hk
    isplitl [HB HBs]
    · isplitl [HB] <;> iassumption
    · iexact HJ

/-- A loop that carries a value, at step `i` from `acc i` to `acc (i + 1)`. -/
theorem loopA_spec {c : Dev nD} {β : Type} {J : PP F} : (n : ℕ) → (f : Fin n → β → Pr F β) → (A B : Fin n → PP F) → (acc : ℕ → β) →
    (hstep : ∀ i Q, iprop(A i ∗ J) ⊢ iprop((B i ∗ J -∗ Q (acc (i.val + 1))) -∗ W c (f i (acc i.val)) Q)) → (Q : β → PP F) →
    iprop((bigSep Finset.univ A) ∗ J) ⊢ iprop(((bigSep Finset.univ B) ∗ J -∗ Q (acc n)) -∗ W c (loopA n f (acc 0)) Q)
  | 0, f, A, B, acc, _, Q => by
    unfold loopA
    iintro ⟨-, HJ⟩ Hk
    iapply W_pure
    iapply Hk
    isplitr
    · rw [Finset.univ_eq_empty, bigSep_empty]; iempintro
    · iexact HJ
  | n + 1, f, A, B, acc, hstep, Q => by
    unfold loopA
    rw [bigSep_fin_head, bigSep_fin_head, W_bind]
    have h0 : ∀ Q, iprop(A 0 ∗ J) ⊢ iprop((B 0 ∗ J -∗ Q (acc (0 + 1))) -∗ W c (f 0 (acc 0)) Q) := hstep 0
    iintro ⟨⟨HA, HAs⟩, HJ⟩ Hk
    iapply (h0 _) $$ [HA HJ]
    · isplitl [HA] <;> iassumption
    iintro ⟨HB, HJ⟩
    iapply (loopA_spec n (fun i => f i.succ) (fun i => A i.succ) (fun i => B i.succ) (fun k => acc (k + 1)) (fun i Q => hstep i.succ Q) Q) $$ [HAs HJ]
    · isplitl [HAs]; · iexact HAs
      iexact HJ
    iintro ⟨HBs, HJ⟩
    iapply Hk
    isplitl [HB HBs]
    · isplitl [HB] <;> iassumption
    · iexact HJ

end Cert.KernelIdeal.AllReduce

end
-- ==== Proof.Views.lean ====
/- The pieces by coordinates: rectangles of the buffers, whose contents are given by rows and columns, as the matrices
   that transfers, loads and stores see. -/
module

public import proofs.«01_k».proof.Proof.Hold

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.ValueKit
open Cert.KernelIdeal Cert.KernelIdeal.Gen

variable {F : FTy → Type} [FloatOps F]

/-! ## Casts -/

theorem resh3 {m n : ℕ} (h : (Sh2 m n).numel = (Sh3 1 m n).numel) (j : (Sh2 m n).Idx) :
    ((Shape.reshapeEquiv h j) (1 : Fin 3)).val = (j 0).val ∧ ((Shape.reshapeEquiv h j) (2 : Fin 3)).val = (j 1).val := by
  obtain ⟨x, y, rfl⟩ : ∃ (x : Fin m) (y : Fin n), j = ix2 x y := ⟨j 0, j 1, eq_ix2 j⟩
  have e := reshapeEquiv_ix2_1ab h x y
  exact ⟨congrArg (fun i : (Sh3 1 m n).Idx => (i 1).val) e, congrArg (fun i : (Sh3 1 m n).Idx => (i 2).val) e⟩

theorem resh4 {m n : ℕ} (h : (Sh2 m n).numel = (Sh4 1 1 m n).numel) (j : (Sh2 m n).Idx) :
    ((Shape.reshapeEquiv h j) (2 : Fin 4)).val = (j 0).val ∧ ((Shape.reshapeEquiv h j) (3 : Fin 4)).val = (j 1).val := by
  obtain ⟨x, y, rfl⟩ : ∃ (x : Fin m) (y : Fin n), j = ix2 x y := ⟨j 0, j 1, eq_ix2 j⟩
  have e := reshapeEquiv_ix2_11ab h x y
  exact ⟨congrArg (fun i : (Sh4 1 1 m n).Idx => (i 2).val) e, congrArg (fun i : (Sh4 1 1 m n).Idx => (i 3).val) e⟩

theorem resh3' {m n : ℕ} (h : (Sh3 1 m n).numel = (Sh2 m n).numel) (j : (Sh3 1 m n).Idx) :
    ((Shape.reshapeEquiv h j) (0 : Fin 2)).val = (j 1).val ∧ ((Shape.reshapeEquiv h j) (1 : Fin 2)).val = (j 2).val := by
  obtain ⟨w, x, y, rfl⟩ : ∃ (w : Fin 1) (x : Fin m) (y : Fin n), j = ix3 w x y := ⟨j 0, j 1, j 2, eq_ix3 j⟩
  have e : Shape.reshapeEquiv h (ix3 w x y) = (ix2 x y : (Sh2 m n).Idx) := Shape.reshapeEquiv_eq_of_rowMajor h (by
    rw [Shape.rowMajor_val_three, Shape.rowMajor_val_two]
    have h0 : w.val = 0 := by omega
    show x.val * n + y.val = (w.val * m + x.val) * n + y.val
    rw [h0, Nat.zero_mul, Nat.zero_add])
  exact ⟨congrArg (fun i : (Sh2 m n).Idx => (i 0).val) e, congrArg (fun i : (Sh2 m n).Idx => (i 1).val) e⟩

theorem cast3 {φ : FTy} {m n : ℕ} (h : (Sh3 1 m n).ShapeCasts (Sh2 m n)) (G : ℕ → ℕ → F φ) :
    shapeCast (Sh2 m n) (fun j : (Sh3 1 m n).Idx => G (j 1).val (j 2).val) h = vec G :=
  funext fun j => congrArg₂ G (resh3 h j).1 (resh3 h j).2

theorem cast4 {φ : FTy} {m n : ℕ} (h : (Sh4 1 1 m n).ShapeCasts (Sh2 m n)) (G : ℕ → ℕ → F φ) :
    shapeCast (Sh2 m n) (fun j : (Sh4 1 1 m n).Idx => G (j 2).val (j 3).val) h = vec G :=
  funext fun j => congrArg₂ G (resh4 h j).1 (resh4 h j).2

theorem cast3' {φ : FTy} {m n : ℕ} (h : (Sh2 m n).ShapeCasts (Sh3 1 m n)) (G : ℕ → ℕ → F φ) (j : (Sh3 1 m n).Idx) :
    shapeCast (Sh3 1 m n) (vec (φ := φ) G) h j = G (j 1).val (j 2).val :=
  congrArg₂ G (resh3' h j).1 (resh3' h j).2

/-! ## Rectangles as matrices -/

section Rects

variable {sp : Space} {c : Dev nD} {q : PosShare TreeShare} {m n : ℕ} (P : ℕ → ℕ → F .bf16)

theorem hold_rect2 {M N : ℕ} {v : View sig .tc sp (Sh2 M N) .bf16} {off : Fin 2 → ℕ} {inb : ∀ a, off a + (![m, n] : Fin 2 → ℕ) a ≤ (Sh2 M N).size a} :
    hold c v (Rect.unit (s := Sh2 M N) off ![m, n] inb).set q (fun i => P (i 0).val (i 1).val)
      = hold c (v.slice (Rect.unit (s := Sh2 M N) off ![m, n] inb)) Finset.univ q (vec (m := m) (n := n) fun a b => P (off 0 + a) (off 1 + b)) := by
  rw [hold_slice]
  refine hold_congr fun j _ => ?_
  show P _ _ = P _ _
  rw [rect_emb_unit_val, rect_emb_unit_val]

theorem hold_rect3 {A M N : ℕ} {v : View sig .tc sp (Sh3 A M N) .bf16} {off : Fin 3 → ℕ} {inb : ∀ a, off a + (![1, m, n] : Fin 3 → ℕ) a ≤ (Sh3 A M N).size a}
    (h : (Sh2 m n).numel = (Sh3 1 m n).numel) :
    hold c v (Rect.unit (s := Sh3 A M N) off ![1, m, n] inb).set q (fun i => P (i 1).val (i 2).val)
      = hold c ((v.slice (Rect.unit (s := Sh3 A M N) off ![1, m, n] inb)).reshape (Sh2 m n) h) Finset.univ q
          (vec (m := m) (n := n) fun a b => P (off 1 + a) (off 2 + b)) := by
  rw [hold_slice, hold_reshape h]
  refine hold_congr fun j _ => ?_
  show P _ _ = P _ _
  rw [rect_emb_unit_val, rect_emb_unit_val, (resh3 h j).1, (resh3 h j).2]

theorem hold_rect4 {A B M N : ℕ} {v : View sig .tc sp (Sh4 A B M N) .bf16} {off : Fin 4 → ℕ} {inb : ∀ a, off a + (![1, 1, m, n] : Fin 4 → ℕ) a ≤ (Sh4 A B M N).size a}
    (h : (Sh2 m n).numel = (Sh4 1 1 m n).numel) :
    hold c v (Rect.unit (s := Sh4 A B M N) off ![1, 1, m, n] inb).set q (fun i => P (i 2).val (i 3).val)
      = hold c ((v.slice (Rect.unit (s := Sh4 A B M N) off ![1, 1, m, n] inb)).reshape (Sh2 m n) h) Finset.univ q
          (vec (m := m) (n := n) fun a b => P (off 2 + a) (off 3 + b)) := by
  rw [hold_slice, hold_reshape h]
  refine hold_congr fun j _ => ?_
  show P _ _ = P _ _
  rw [rect_emb_unit_val, rect_emb_unit_val, (resh4 h j).1, (resh4 h j).2]

end Rects

/-! ## Loads and stores by coordinates -/

section Access

variable {c : Dev nD} {q : PosShare TreeShare} {m n : ℕ}

theorem ld2 {M N : ℕ} {b : Memref sig .tc .vmem (Sh2 M N) .bf16} {off : Fin 2 → ℕ} {inb : ∀ a, off a + (![m, n] : Fin 2 → ℕ) a ≤ (Sh2 M N).size a}
    {h : 0 < (Sh2 m n).numel} {I : Finset (Sh2 M N).Idx} (P : ℕ → ℕ → F .bf16) (hI : (Rect.unit (s := Sh2 M N) off ![m, n] inb).set ⊆ I)
    {Q : FVec F (Sh2 m n) .bf16 → PP F} :
    hold c b.view I q (fun i => P (i 0).val (i 1).val)
      ⊢ iprop((hold c b.view I q (fun i => P (i 0).val (i 1).val) -∗ Q (vec fun a b => P (off 0 + a) (off 1 + b)))
          -∗ W c (ld b (Rect.unit (s := Sh2 M N) off ![m, n] inb) h) Q) := by
  exact ld_spec_eq (r := Rect.unit (s := Sh2 M N) off ![m, n] inb) hI _ fun j => by
    show P _ _ = P _ _
    rw [rect_emb_unit_val, rect_emb_unit_val]

theorem ld3 {A M N : ℕ} {b : Memref sig .tc .vmem (Sh3 A M N) .bf16} {off : Fin 3 → ℕ} {inb : ∀ a, off a + (![1, m, n] : Fin 3 → ℕ) a ≤ (Sh3 A M N).size a}
    {h : 0 < (Sh3 1 m n).numel} {I : Finset (Sh3 A M N).Idx} (P : ℕ → ℕ → F .bf16) (hI : (Rect.unit (s := Sh3 A M N) off ![1, m, n] inb).set ⊆ I)
    {Q : FVec F (Sh3 1 m n) .bf16 → PP F} :
    hold c b.view I q (fun i => P (i 1).val (i 2).val)
      ⊢ iprop((hold c b.view I q (fun i => P (i 1).val (i 2).val) -∗ Q (fun j => P (off 1 + (j 1).val) (off 2 + (j 2).val)))
          -∗ W c (ld b (Rect.unit (s := Sh3 A M N) off ![1, m, n] inb) h) Q) := by
  exact ld_spec_eq (r := Rect.unit (s := Sh3 A M N) off ![1, m, n] inb) hI _ fun j => by
    show P _ _ = P _ _
    rw [rect_emb_unit_val, rect_emb_unit_val]

theorem ld4 {A B M N : ℕ} {b : Memref sig .tc .vmem (Sh4 A B M N) .bf16} {off : Fin 4 → ℕ} {inb : ∀ a, off a + (![1, 1, m, n] : Fin 4 → ℕ) a ≤ (Sh4 A B M N).size a}
    {h : 0 < (Sh4 1 1 m n).numel} {I : Finset (Sh4 A B M N).Idx} (P : ℕ → ℕ → F .bf16) (hI : (Rect.unit (s := Sh4 A B M N) off ![1, 1, m, n] inb).set ⊆ I)
    {Q : FVec F (Sh4 1 1 m n) .bf16 → PP F} :
    hold c b.view I q (fun i => P (i 2).val (i 3).val)
      ⊢ iprop((hold c b.view I q (fun i => P (i 2).val (i 3).val) -∗ Q (fun j => P (off 2 + (j 2).val) (off 3 + (j 3).val)))
          -∗ W c (ld b (Rect.unit (s := Sh4 A B M N) off ![1, 1, m, n] inb) h) Q) := by
  exact ld_spec_eq (r := Rect.unit (s := Sh4 A B M N) off ![1, 1, m, n] inb) hI _ fun j => by
    show P _ _ = P _ _
    rw [rect_emb_unit_val, rect_emb_unit_val]

theorem st3_eq {A M N : ℕ} {off : Fin 3 → ℕ} {inb : ∀ a, off a + (![1, m, n] : Fin 3 → ℕ) a ≤ (Sh3 A M N).size a}
    (hs : (Sh2 m n).ShapeCasts (Sh3 1 m n)) {G : ℕ → ℕ → F .bf16} (P : ℕ → ℕ → F .bf16) (hP : ∀ a < m, ∀ b < n, P (off 1 + a) (off 2 + b) = G a b)
    (j : (Sh3 1 m n).Idx) :
    P ((Rect.unit (s := Sh3 A M N) off ![1, m, n] inb).emb j 1).val ((Rect.unit (s := Sh3 A M N) off ![1, m, n] inb).emb j 2).val
      = shapeCast (Sh3 1 m n) (vec (φ := .bf16) G) hs j := by
  rw [cast3', rect_emb_unit_val, rect_emb_unit_val]
  exact hP _ (j 1).isLt _ (j 2).isLt

theorem st3 {A M N : ℕ} {b : Memref sig .tc .vmem (Sh3 A M N) .bf16} {off : Fin 3 → ℕ} {inb : ∀ a, off a + (![1, m, n] : Fin 3 → ℕ) a ≤ (Sh3 A M N).size a}
    {hs : (Sh2 m n).ShapeCasts (Sh3 1 m n)} {hx : (b.access (Rect.unit (s := Sh3 A M N) off ![1, m, n] inb)).Stores Finset.univ}
    {hm : (Finset.univ : Finset (Sh3 1 m n).Idx) = Finset.univ ∨ ∀ a, (Rect.unit (s := Sh3 A M N) off ![1, m, n] inb).stride a = 1}
    {G : ℕ → ℕ → F .bf16} (P : ℕ → ℕ → F .bf16) (hP : ∀ a < m, ∀ b < n, P (off 1 + a) (off 2 + b) = G a b) {Q : PUnit → PP F} :
    anyp c b.view (Rect.unit (s := Sh3 A M N) off ![1, m, n] inb).set
      ⊢ iprop((hold c b.view (Rect.unit (s := Sh3 A M N) off ![1, m, n] inb).set fullShare (fun i => P (i 1).val (i 2).val) -∗ Q ⟨⟩)
          -∗ W c (Prog.lift (.store b (Rect.unit (s := Sh3 A M N) off ![1, m, n] inb) (shapeCast (Sh3 1 m n) (vec (φ := .bf16) G) hs) Finset.univ hx hm)) Q) :=
  st_spec (F := F) (e := .bf16) (c := c) (m := b) (r := Rect.unit (s := Sh3 A M N) off ![1, m, n] inb) (w := shapeCast (Sh3 1 m n) (vec (φ := .bf16) G) hs)
    (hx := hx) (hm := hm) (fun i => P (i 1).val (i 2).val) (st3_eq (inb := inb) hs P hP)

theorem putOut_eq {off : Fin 2 → ℕ} {inb : ∀ a, off a + (![m, 256] : Fin 2 → ℕ) a ≤ S1024x1024.size a} {G : ℕ → ℕ → F .f32} (P : ℕ → ℕ → F .f32)
    (hP : ∀ a < m, ∀ b < 256, P (off 0 + a) (off 1 + b) = relu (G a b)) (j : (Sh2 m 256).Idx) :
    P ((Rect.unit (s := S1024x1024) off ![m, 256] inb).emb j 0).val ((Rect.unit (s := S1024x1024) off ![m, 256] inb).emb j 1).val
      = maximumf (vec (φ := .f32) G) (broadcast (Sh2 m 256) (Scalar.ofBits .f32 0x00000000#32 : F .f32)) j := by
  rw [rect_emb_unit_val, rect_emb_unit_val]
  exact hP _ (j 0).isLt _ (j 1).isLt

/-- The rows put into the result. -/
theorem putOut_spec {o : Memref sig .tc .vmem S1024x1024 .f32} {hm : 0 < (Sh2 m 256).numel} {off : Fin 2 → ℕ}
    {inb : ∀ a, off a + (![m, 256] : Fin 2 → ℕ) a ≤ S1024x1024.size a} {G : ℕ → ℕ → F .f32} (P : ℕ → ℕ → F .f32)
    (hP : ∀ a < m, ∀ b < 256, P (off 0 + a) (off 1 + b) = relu (G a b)) {Q : PUnit → PP F} :
    anyp c o.view (Rect.unit (s := S1024x1024) off ![m, 256] inb).set
      ⊢ iprop((hold c o.view (Rect.unit (s := S1024x1024) off ![m, 256] inb).set fullShare (fun i => P (i 0).val (i 1).val) -∗ Q ⟨⟩)
          -∗ W c (putOut o hm off inb (vec G)) Q) := by
  unfold putOut
  rw [W_bind]
  iintro H Hk
  iapply (ld_any_spec (r := Rect.unit (s := S1024x1024) off ![m, 256] inb)) $$ H
  iintro %v H
  iapply (st_spec (F := F) (e := .f32) (c := c) (m := o) (r := Rect.unit (s := S1024x1024) off ![m, 256] inb)
    (w := maximumf (vec (φ := .f32) G) (broadcast (Sh2 m 256) (Scalar.ofBits .f32 0x00000000#32 : F .f32)))
    (fun i => P (i 0).val (i 1).val) (putOut_eq (inb := inb) P hP)) $$ H
  iexact Hk

end Access

end Cert.KernelIdeal.AllReduce

end
-- ==== Proof.Cells.lean ====
/- The cells of the exchange: the barrier's and the 160 semaphores of the transfers. -/
module

public import proofs.«01_k».proof.Proof.Views

@[expose] public section

noncomputable section

namespace Cert.KernelIdeal.AllReduce

open Idealize.ShloMosaic Idealize.ShloMosaic.TcCoe Idealize.SL.Sem
open Cert.KernelIdeal Cert.KernelIdeal.Gen

/-- The runtime's barrier semaphore. -/
abbrev barS : Sem sig := (SemArray.scalar (d := ![]) (sig.barrier 0 rfl)).sem

/-- A transfer's two semaphores: `true` for its landing, `false` for its source. -/
def dsem (b : Bool × Slot) : DmaSem sig :=
  if b.1 then rSem b.2.1 b.2.2.1 b.2.2.2.1 b.2.2.2.2 else sSem b.2.1 b.2.2.1 b.2.2.2.1 b.2.2.2.2

theorem dsem_recv (σ t p k) : dsem (true, ⟨σ, t, p, k⟩) = rSem σ t p k := rfl
theorem dsem_send (σ t p k) : dsem (false, ⟨σ, t, p, k⟩) = sSem σ t p k := rfl

theorem dsem_inj : Function.Injective dsem := by decide +kernel

/-- A transfer's credit. -/
def N (x : Slot) : ℕ := (dstV x.1 x.2.1 x.2.2.1 x.2.2.2).view.dmaCredit
theorem N_pos : ∀ x, 0 < N x := by
  rintro ⟨σ, t, p, k⟩
  refine View.dmaCredit_pos _ ?_
  show 0 < (Sh2 (rr σ t) 256).numel
  clear k; revert σ t; decide
theorem credit_eq {s : Shape} {e : EltTy} (v w : View sig .tc .vmem s e) : v.dmaCredit = w.dmaCredit := rfl
theorem src_credit : ∀ σ t p d k, (srcV σ t p d k).view.dmaCredit = N ⟨σ, t, p, k⟩ := by
  intro σ t p d k
  exact credit_eq _ _

end Cert.KernelIdeal.AllReduce

end
-- ==== Proof.Schedule.lean ====
/- The exchange's protocol. Every cell goes through one round. A barrier cell takes one unit from each of the ten
   devices addressing it, each handing over its landing buffers for what the cell's owner sends it; a landing cell
   takes one transfer's credit, with the landed contents; a source cell one transfer's credit, with the source back. -/
module

public import proofs.«01_k».proof.Proof.Cells

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok)
open Cert.KernelIdeal Cert.KernelIdeal.Gen

variable {F : FTy → Type} [FloatOps F]

/-! ## Who sends to whom -/

/-- Where device `c` sends in transfer `x`, and from where it receives in it. -/
def fwdOf (x : Slot) (c : Dev nD) : Dev nD := fwd (ax x.1 x.2.1) (x.2.2.2.val + 1) c
def bwdOf (x : Slot) (c : Dev nD) : Dev nD := bwd (ax x.1 x.2.1) (x.2.2.2.val + 1) c
theorem bwdOf_fwdOf (x : Slot) (c : Dev nD) : bwdOf x (fwdOf x c) = c := bwd_fwd x.1 x.2.1 x.2.2.2 c
theorem fwdOf_bwdOf (x : Slot) (c : Dev nD) : fwdOf x (bwdOf x c) = c := fwd_bwd x.1 x.2.1 x.2.2.2 c
/-- A transfer's addressing as a rearrangement of the devices. -/
def turn (x : Slot) : Dev nD ≃ Dev nD := ⟨fwdOf x, bwdOf x, bwdOf_fwdOf x, fwdOf_bwdOf x⟩

/-- The barrier signal with which a transfer's landing buffer is handed over. -/
def slotDuty (x : Slot) : Fin 10 :=
  match ax x.1 x.2.1 with
  | .Z => ⟨2 - x.2.2.2.val, by omega⟩
  | .Q => ⟨3 + (6 - x.2.2.2.val), by omega⟩
theorem duty_peer : ∀ (x : Slot) (d : Dev nD), fwdOf x (sigPeer d (slotDuty x)) = d := by decide +kernel
theorem sigPeer_inj : ∀ i : Fin 10, Function.Injective fun d => sigPeer d i := by decide +kernel
/-- A barrier signal's addressing as a rearrangement of the devices. -/
def sigTurn (i : Fin 10) : Dev nD ≃ Dev nD := Equiv.ofBijective _ (Finite.injective_iff_bijective.mp (sigPeer_inj i))

/-! ## The cells -/

abbrev barCell (c : Dev nD) : GSem nD τ sig := ((c : Thread nD τ), .reg barS)
abbrev dCell (c : Dev nD) (b : Bool × Slot) : GSem nD τ sig := ((c : Thread nD τ), .dma (dsem b))

/-- The transfer and the end a semaphore belongs to, if any. -/
def which (s : SemLoc sig) : Option (Bool × Slot) :=
  open Classical in if h : ∃ b, s = .dma (dsem b) then some h.choose else none
theorem which_dma (b : Bool × Slot) : which (.dma (dsem b)) = some b := by
  have h : ∃ b', (SemLoc.dma (dsem b) : SemLoc sig) = .dma (dsem b') := ⟨b, rfl⟩
  unfold which
  rw [dif_pos h]
  have := h.choose_spec
  injection this with this
  exact congrArg some (dsem_inj this).symm
theorem which_bar : which (.reg barS) = none := by
  unfold which; exact dif_neg fun ⟨_, h⟩ => by cases h

/-! ## What is handed over -/

/-- The share of a transfer's source that the transfer reads at: the two reductions' sources outright, the gathers' at a
    reader's share. -/
def shr (σ : Side) : (t : Stage) → Fin (nn σ t) → PosShare TreeShare
  | .one, _ => fullShare
  | .two, _ => fullShare
  | .three, k => shareTok fullShare (n2 σ) k
  | .four, k => shareTok fullShare (n1 σ) k

section Pay

variable (X : Dev nD → FVec F S1024x32 .bf16) (Y : Dev nD → FVec F S32x1024 .bf16)

/-- A landing buffer on device `c`, contents unknown. -/
def spare (c : Dev nD) (x : Slot) : PP F := anyp c (dstV x.1 x.2.1 x.2.2.1 x.2.2.2).view Finset.univ
/-- What has landed on device `c`. -/
def arrived (c : Dev nD) (x : Slot) : PP F :=
  hold c (dstV x.1 x.2.1 x.2.2.1 x.2.2.2).view Finset.univ fullShare (vec (sentN X Y x.1 x.2.1 x.2.2.1 (bwdOf x c) x.2.2.2))
/-- A transfer's source on device `c`. -/
def source (c : Dev nD) (x : Slot) : PP F :=
  hold c (srcV x.1 x.2.1 x.2.2.1 c x.2.2.2).view Finset.univ (shr x.1 x.2.1 x.2.2.2) (vec (sentN X Y x.1 x.2.1 x.2.2.1 c x.2.2.2))
def barPay (c : Dev nD) (i : Fin 10) : PP F := bigSep (Finset.univ.filter fun x => slotDuty x = i) fun x => spare (fwdOf x c) x

instance spare_storable (c : Dev nD) (x : Slot) : BI.Storable (upEmb : UEmb _ (MT nD τ sig Unit (Elt F) ℕ UU ℕ)) (spare (F := F) c x) := by
  unfold spare; infer_instance
instance arrived_storable (c : Dev nD) (x : Slot) : BI.Storable (upEmb : UEmb _ (MT nD τ sig Unit (Elt F) ℕ UU ℕ)) (arrived X Y c x) := by
  unfold arrived; infer_instance
instance source_storable (c : Dev nD) (x : Slot) : BI.Storable (upEmb : UEmb _ (MT nD τ sig Unit (Elt F) ℕ UU ℕ)) (source X Y c x) := by
  unfold source; infer_instance
instance barPay_storable (c : Dev nD) (i : Fin 10) : BI.Storable (upEmb : UEmb _ (MT nD τ sig Unit (Elt F) ℕ UU ℕ)) (barPay (F := F) c i) := by
  unfold barPay; infer_instance

/-- The exchange's schedule. -/
def rd : Rounds.Schedule (GSem nD τ sig) (Fin 10) (MT nD τ sig Unit (Elt F) ℕ UU ℕ) where
  duties g r := if r = 0 ∧ g.1.2 = .tc then (if g.2 = .reg barS then Finset.univ else if (which g.2).isSome then {0} else ∅) else ∅
  unitless _ := False
  amount g _ _ := match which g.2 with
    | some b => N b.2
    | none => 1
  payload g _ d := match which g.2 with
    | some (true, x) => arrived X Y g.1.1 x
    | some (false, x) => source X Y g.1.1 x
    | none => barPay g.1.1 d
  amount_pos g _ _ _ := by
    split
    · exact N_pos _
    · exact Nat.one_pos

instance rd_storable (g : GSem nD τ sig) (r : ℕ) (d : Fin 10) :
    BI.Storable (upEmb : UEmb _ (MT nD τ sig Unit (Elt F) ℕ UU ℕ)) ((rd X Y).payload g r d) := by
  dsimp only [rd]; split <;> infer_instance

theorem duties_bar (c : Dev nD) : (rd X Y).duties (barCell c) 0 = Finset.univ := by
  dsimp only [rd]; rw [if_pos ⟨rfl, rfl⟩, if_pos rfl]
theorem duties_d (c : Dev nD) (b : Bool × Slot) : (rd X Y).duties (dCell c b) 0 = {0} := by
  dsimp only [rd]; rw [if_pos ⟨rfl, rfl⟩, if_neg (fun h => by cases h), which_dma]; rfl
theorem duties_later (g : GSem nD τ sig) : ∀ r, 1 ≤ r → (rd X Y).duties g r = ∅ :=
  fun r hr => by dsimp only [rd]; rw [if_neg fun h => by omega]
theorem amount_bar (c : Dev nD) (i : Fin 10) : (rd X Y).amount (barCell c) 0 i = 1 := by dsimp only [rd]; rw [which_bar]
theorem amount_d (c : Dev nD) (b : Bool × Slot) (i : Fin 10) : (rd X Y).amount (dCell c b) 0 i = N b.2 := by dsimp only [rd]; rw [which_dma]
theorem expect_bar (c : Dev nD) : (rd X Y).expect (barCell c) 0 = 10 := by
  unfold Schedule.expect Schedule.amountOf
  rw [duties_bar, Finset.sum_congr rfl fun i _ => amount_bar X Y c i]; rfl
theorem expect_d (c : Dev nD) (b : Bool × Slot) : (rd X Y).expect (dCell c b) 0 = N b.2 := by
  unfold Schedule.expect Schedule.amountOf; rw [duties_d, Finset.sum_singleton, amount_d]
theorem payload_bar (c : Dev nD) (i : Fin 10) : (rd X Y).payload (barCell c) 0 i = barPay c i := by dsimp only [rd]; rw [which_bar]
theorem payload_recv (c : Dev nD) (x : Slot) (i : Fin 10) : (rd X Y).payload (dCell c (true, x)) 0 i = arrived X Y c x := by
  dsimp only [rd]; rw [which_dma]
theorem payload_send (c : Dev nD) (x : Slot) (i : Fin 10) : (rd X Y).payload (dCell c (false, x)) 0 i = source X Y c x := by
  dsimp only [rd]; rw [which_dma]

/-- A transfer's cell has one payload. -/
theorem rest_recv (c : Dev nD) (x : Slot) :
    bigSep ((rd X Y).duties (dCell c (true, x)) 0 \ ∅) (fun d => (rd X Y).payload (dCell c (true, x)) 0 d) = arrived X Y c x := by
  rw [Finset.sdiff_empty, duties_d, bigSep_singleton, payload_recv]
theorem rest_send (c : Dev nD) (x : Slot) :
    bigSep ((rd X Y).duties (dCell c (false, x)) 0 \ ∅) (fun d => (rd X Y).payload (dCell c (false, x)) 0 d) = source X Y c x := by
  rw [Finset.sdiff_empty, duties_d, bigSep_singleton, payload_send]
/-- The transfers' landing buffers, sorted by the signal that hands them over. -/
theorem by_duty (Φ : Slot → PP F) : bigSep Finset.univ Φ = bigSep Finset.univ fun i : Fin 10 => bigSep (Finset.univ.filter fun x => slotDuty x = i) Φ := by
  rw [← bigSep_biUnion_eq Finset.univ (fun i : Fin 10 => Finset.univ.filter fun x => slotDuty x = i) Φ fun i _ j _ hij =>
    Finset.disjoint_left.mpr fun x hx hx' => hij ((Finset.mem_filter.mp hx).2.symm.trans (Finset.mem_filter.mp hx').2)]
  congr 1; ext x; simp
/-- What a barrier cell's round hands over altogether. -/
theorem rest_bar (c : Dev nD) :
    bigSep ((rd X Y).duties (barCell c) 0 \ ∅) (fun d => (rd X Y).payload (barCell c) 0 d) = bigSep Finset.univ fun x => spare (F := F) (fwdOf x c) x := by
  rw [Finset.sdiff_empty, duties_bar, by_duty]
  exact bigSep_congr fun i _ => payload_bar X Y c i
/-- What device `d` hands over with signal `i`. -/
theorem barPay_from (d : Dev nD) (i : Fin 10) : barPay (F := F) (sigPeer d i) i = bigSep (Finset.univ.filter fun x => slotDuty x = i) fun x => spare d x := by
  unfold barPay
  refine bigSep_congr fun x hx => ?_
  rw [← (Finset.mem_filter.mp hx).2, duty_peer]

end Pay

/-! ## What a device owes, and the order of the cells -/

/-- A raise a device owes: a barrier signal, or a transfer's landing. -/
abbrev Due := Fin 10 ⊕ Slot

def dueCell (c : Dev nD) : Due → GSem nD τ sig
  | .inl i => barCell (sigPeer c i)
  | .inr x => dCell (fwdOf x c) (true, x)
def dueAmt : Due → ℕ
  | .inl _ => 1
  | .inr x => N x
/-- The raises of a list owed, the first one last in the sum. -/
def owed (c : Dev nD) : List Due → CellTallies nD τ sig Unit
  | [] => 0
  | e :: l => owed c l + tallyAt (dueCell c e) () (dueAmt e)

/-- A stage's transfers of a half and a piece, in order. -/
abbrev Phase := Side × Stage × Fin 2
def blk (a : Phase) : List Due := (List.finRange (nn a.1 a.2.1)).map fun k => .inr ⟨a.1, a.2.1, a.2.2, k⟩
def dues (l : List Phase) : List Due := l.flatMap blk
/-- The order in which the transfers start. -/
def order : List Phase :=
  [(.A, .one, 0), (.A, .one, 1), (.B, .one, 0), (.B, .one, 1), (.A, .two, 0), (.B, .two, 0), (.A, .two, 1), (.B, .two, 1),
   (.A, .three, 0), (.B, .three, 0), (.A, .three, 1), (.B, .three, 1), (.A, .four, 0), (.B, .four, 0), (.A, .four, 1), (.B, .four, 1)]
def sigDues : List Due := (List.finRange 10).map .inl
/-- All that a device owes at launch. -/
def owed₀ (c : Dev nD) : CellTallies nD τ sig Unit := owed c (sigDues ++ dues order)

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def stageNo : Stage → ℕ | .one => 2 | .two => 3 | .three => 4 | .four => 5
/-- Barrier cells lowest, then the landing cells by stages; source cells and the staging below them all. -/
def lv (g : GSem nD τ sig) (_ : Unit) : ℕ :=
  if g.2 = .reg barS then 1 else match which g.2 with
    | some (true, x) => stageNo x.2.1
    | _ => 0
def dueLv : Due → ℕ
  | .inl _ => 1
  | .inr x => stageNo x.2.1
theorem lv_bar (c : Dev nD) (u : Unit) : lv (barCell c) u = 1 := if_pos rfl
theorem lv_recv (c : Dev nD) (x : Slot) (u : Unit) : lv (dCell c (true, x)) u = stageNo x.2.1 := by
  unfold lv; rw [if_neg (fun h => by cases h), which_dma]
theorem lv_due (c : Dev nD) (e : Due) (u : Unit) : lv (dueCell c e) u = dueLv e := by
  cases e
  · exact lv_bar _ _
  · exact lv_recv _ _ _

theorem owed_pos {c : Dev nD} : ∀ {l : List Due} {g : GSem nD τ sig} {u : Unit}, 0 < owed c l g u → ∃ e ∈ l, g = dueCell c e
  | [], g, u, h => absurd h (Nat.lt_irrefl 0)
  | e :: l, g, u, h => by
    unfold owed at h
    rw [Pi.add_apply, Finsupp.add_apply, tallyAt_apply] at h
    by_cases hg : g = dueCell c e ∧ u = ()
    · exact ⟨e, List.mem_cons_self, hg.1⟩
    · rw [if_neg hg, Nat.add_zero] at h
      obtain ⟨e', he', h'⟩ := owed_pos h
      exact ⟨e', List.mem_cons_of_mem _ he', h'⟩

/-- The levels, known to all. -/
def levels : PP F := levAts L lv
instance levels_persistent : BI.Persistent (levels (F := F)) := by unfold levels; infer_instance

/-- A device may wait on a cell below all that it owes. -/
theorem mayWait (c : Dev nD) (sm : SemLoc sig) (l : List Due) (n : ℕ) (hs : lv ((c : Thread nD τ), sm) () ≤ n) (hl : ∀ e ∈ l, n < dueLv e) :
    levels (F := F) ⊢ MayWait (c : Thread nD τ) sm () (owed c l) :=
  MayOwe.of_cut (L := L) (lev := lv) n (fun p hp => by rw [Finset.mem_singleton.mp hp, L_tc]; exact Finset.mem_singleton_self _)
    (fun g u hg => by
      obtain ⟨e, -, rfl⟩ := owed_pos hg
      cases e <;> exact Finset.mem_singleton_self _)
    (fun p hp => by rw [Finset.mem_singleton.mp hp]; exact hs)
    (fun g u hg => by
      obtain ⟨e, he, rfl⟩ := owed_pos hg
      rw [lv_due]; exact hl e he)

theorem mem_dues {l : List Phase} {e : Due} (h : e ∈ dues l) : ∃ a ∈ l, dueLv e = stageNo a.2.1 := by
  obtain ⟨a, ha, he⟩ := List.mem_flatMap.mp h
  obtain ⟨k, -, rfl⟩ := List.mem_map.mp he
  exact ⟨a, ha, rfl⟩

end Cert.KernelIdeal.AllReduce

end
-- ==== Proof.Steps.lean ====
/- The single steps of the exchange: starting a transfer, awaiting a landing, awaiting a source, and the barrier. -/
module

public import proofs.«01_k».proof.Proof.Schedule

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- A device's cells: the barrier's and its transfers'. -/
abbrev Cell := Option (Bool × Slot)
instance : DecidableEq Slot := inferInstance
instance : DecidableEq (Bool × Slot) := inferInstance
instance : DecidableEq Cell := inferInstanceAs (DecidableEq (Option (Bool × Slot)))
def csem : Cell → SemLoc sig
  | none => .reg barS
  | some b => .dma (dsem b)
def kcell (ck : Dev nD × Cell) : GSem nD τ sig := ((ck.1 : Thread nD τ), csem ck.2)

variable (X : Dev nD → FVec F S1024x32 .bf16) (Y : Dev nD → FVec F S32x1024 .bf16) (K : Dev nD × Cell → ℕ)

/-- What every device knows throughout: the cells' invariants, that each has reached its round, and the levels. -/
def recs : PP F :=
  iprop((bigSep Finset.univ fun ck : Dev nD × Cell => cellInv ER (rd X Y) (K ck) (kcell ck))
    ∗ (bigSep Finset.univ fun ck : Dev nD × Cell => reached ER (kcell ck) 0) ∗ levels)
instance recs_persistent : BI.Persistent (recs X Y K) := by unfold recs; infer_instance

theorem inv_at (ck : Dev nD × Cell) : recs X Y K ⊢ cellInv ER (rd X Y) (K ck) (kcell ck) := by
  unfold recs; iintro ⟨#H, -, -⟩
  iapply (show (bigSep Finset.univ fun ck : Dev nD × Cell => cellInv ER (rd X Y) (K ck) (kcell ck)) ⊢ cellInv ER (rd X Y) (K ck) (kcell ck) from
    bigSep_elim (Finset.mem_univ ck)) $$ H
theorem reached_at (ck : Dev nD × Cell) : recs X Y K ⊢ (reached ER (kcell ck) 0 : PP F) := by
  unfold recs; iintro ⟨-, #H, -⟩
  iapply (show (bigSep Finset.univ fun ck : Dev nD × Cell => (reached ER (kcell ck) 0 : PP F)) ⊢ reached ER (kcell ck) 0 from
    bigSep_elim (Finset.mem_univ ck)) $$ H
theorem by_levels {P : PP F} (h : levels ⊢ P) : recs X Y K ⊢ P := by unfold recs; iintro ⟨-, -, #H⟩; iapply h $$ H

theorem inv_d (c : Dev nD) (b : Bool × Slot) : recs X Y K ⊢ cellInv ER (rd X Y) (K (c, some b)) (dCell c b) := inv_at X Y K (c, some b)
theorem inv_bar (c : Dev nD) : recs X Y K ⊢ cellInv ER (rd X Y) (K (c, none)) (barCell c) := inv_at X Y K (c, none)
theorem reached_d (c : Dev nD) (b : Bool × Slot) : recs X Y K ⊢ (reached ER (dCell c b) 0 : PP F) := reached_at X Y K (c, some b)
theorem reached_bar (c : Dev nD) : recs X Y K ⊢ (reached ER (barCell c) 0 : PP F) := reached_at X Y K (c, none)

/-! ## A transfer's resources -/

/-- To start transfer `x` a device needs both ends' tokens and the peer's landing buffer; -/
def toSend (c : Dev nD) (x : Slot) : PP F :=
  iprop(dutyTok ER (dCell c (false, x)) 0 0 ∗ dutyTok ER (dCell (fwdOf x c) (true, x)) 0 0 ∗ spare (fwdOf x c) x)
/-- and it gets the credit to wait for the source. -/
def sent (c : Dev nD) (x : Slot) : PP F := cred (tallyAt (dCell c (false, x)) () (N x))
def toRecv (c : Dev nD) (x : Slot) : PP F := iprop(atPos ER (dCell c (true, x)) 0 ∅ 0 ∗ cred (tallyAt (dCell c (true, x)) () (N x)))
def done (c : Dev nD) (b : Bool × Slot) : PP F := semVal (dCell c b) 0
/-- What a device owes, whatever it has waited on. -/
def ow (c : Dev nD) (l : List Due) : PP F := iprop(∃ w, owes (c : Thread nD τ) (owed c l) w)

variable {X Y K}

theorem send_wp {c n : Dev nD} {x : Slot} (hn : n = fwdOf x c)
    {hsc : (dstV x.1 x.2.1 x.2.2.1 x.2.2.2 : Memref sig (Dev.tc n : Thread nD τ).2.kind .vmem _ .bf16).view.ref.isScScratch = false}
    {hsrc : (srcV x.1 x.2.1 x.2.2.1 c x.2.2.2).view.WordExact} {hdst : (dstV x.1 x.2.1 x.2.2.1 x.2.2.2).view.WordExact}
    {hsem : DmaTarget.Typed .vmem (.dma (dsem (true, x))) (.remote (Dev.tc n : Thread nD τ) (dstV x.1 x.2.1 x.2.2.1 x.2.2.2) (.dma (dsem (false, x))) hsc)}
    {Q : PUnit → PP F} {k : PUnit → Pr F PUnit} (fn) (l : List Due) (w : Waits sig Unit) :
    iprop(cellInv ER (rd X Y) (K (c, some (false, x))) (dCell c (false, x)) ∗ cellInv ER (rd X Y) (K (fwdOf x c, some (true, x))) (dCell (fwdOf x c) (true, x))
        ∗ source X Y c x ∗ hold (fwdOf x c) (dstV x.1 x.2.1 x.2.2.1 x.2.2.2).view Finset.univ fullShare fn
        ∗ owes (c : Thread nD τ) (owed c (.inr x :: l)) w
        ∗ dutyTok ER (dCell c (false, x)) 0 0 ∗ reached ER (dCell c (false, x)) 0
        ∗ dutyTok ER (dCell (fwdOf x c) (true, x)) 0 0 ∗ reached ER (dCell (fwdOf x c) (true, x)) 0)
      ⊢ iprop(((sent c x ∗ owes (c : Thread nD τ) (owed c l) w) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcV x.1 x.2.1 x.2.2.1 c x.2.2.2) (.remote (Dev.tc n : Thread nD τ) (dstV x.1 x.2.1 x.2.2.1 x.2.2.2) (.dma (dsem (false, x))) hsc)
                (.dma (dsem (true, x))) hsrc hdst hsem) k) Q) := by
  subst hn
  unfold source hold sent
  rw [View.setOn_univ, View.setOn_univ]
  exact Rounds.wp_send_pointsTo 𝒱₀ ER (rd X Y) (c : Thread nD τ) none (κ₁ := K (c, some (false, x))) (κ₂ := K (fwdOf x c, some (true, x)))
    (r₁ := 0) (r₂ := 0) (d₁ := 0) (d₂ := 0)
    (by rw [duties_d]; exact Finset.mem_singleton_self _) (by rw [duties_d]; exact Finset.mem_singleton_self _)
    () () (N x) rfl (amount_d X Y c (false, x) 0) (amount_d X Y (fwdOf x c) (true, x) 0) (owed c l) rfl (W := w)
    (by
      rw [payload_send]; unfold source hold; rw [View.setOn_univ])
    (by
      rw [payload_recv]; unfold arrived
      rw [bwdOf_fwdOf, ← View.setOn_univ]
      refine Entails.of_eq (hold_of fun j _ => ?_)
      rw [View.read_write_univ, View.read_write_univ])

/-- Starting a transfer. -/
theorem send_spec {c : Dev nD} (σ t p k) (l : List Due) (Q : PUnit → PP F) :
    iprop(recs X Y K ∗ toSend c ⟨σ, t, p, k⟩ ∗ source X Y c ⟨σ, t, p, k⟩ ∗ ow c (.inr ⟨σ, t, p, k⟩ :: l))
      ⊢ iprop((sent c ⟨σ, t, p, k⟩ ∗ ow c l -∗ Q ⟨⟩) -∗ W c (send σ t p c k) Q) := by
  unfold toSend ow spare anyp
  iintro ⟨#HR, ⟨HtS, HtV, ⟨%fn, Hd⟩⟩, Hs, ⟨%w, HO⟩⟩ Hk
  ihave #Hi1 := (inv_d X Y K (c) (false, ⟨σ, t, p, k⟩)) $$ HR
  ihave #Hi2 := (inv_d X Y K (fwdOf ⟨σ, t, p, k⟩ c) (true, ⟨σ, t, p, k⟩)) $$ HR
  ihave #Hr1 := (reached_d X Y K (c) (false, ⟨σ, t, p, k⟩)) $$ HR
  ihave #Hr2 := (reached_d X Y K (fwdOf ⟨σ, t, p, k⟩ c) (true, ⟨σ, t, p, k⟩)) $$ HR
  unfold send Prog.lift
  iapply W_intro
  iapply (send_wp (X := X) (Y := Y) (K := K) (x := ⟨σ, t, p, k⟩) (peer_eq σ t p c k) fn l w) $$ [HtS HtV Hd Hs HO]
  · isplitr; · iexact Hi1
    isplitr; · iexact Hi2
    isplitl [Hs]; · iexact Hs
    isplitl [Hd]; · iexact Hd
    isplitl [HO]; · iexact HO
    isplitl [HtS]; · iexact HtS
    isplitr; · iexact Hr1
    isplitl [HtV]; · iexact HtV
    iexact Hr2
  iintro ⟨Hc, HO⟩
  rw [wp_ret]; imodintro
  iapply Hk
  isplitl [Hc]; · iexact Hc
  iexists w; iexact HO

/-- Awaiting a transfer's end: its payload comes, and its cell is done with. -/
theorem wait_wp {c : Dev nD} (b : Bool × Slot) (l : List Due) {s s' : Shape} {e e' : EltTy} {src : Memref sig .tc .vmem s' e'} {dst : Memref sig .tc .vmem s e}
    {hs : src.view.WordExact} {hd : dst.view.WordExact} (hN : dst.view.dmaCredit = N b.2)
    (hM : levels (F := F) ⊢ MayWait (c : Thread nD τ) (.dma (dsem b)) () (owed c l)) (Q : PUnit → PP F) :
    iprop(recs X Y K ∗ atPos ER (dCell c b) 0 ∅ 0 ∗ cred (tallyAt (dCell c b) () (N b.2)) ∗ ow c l)
      ⊢ iprop(((bigSep ((rd X Y).duties (dCell c b) 0 \ ∅) fun d => (rd X Y).payload (dCell c b) 0 d) ∗ done c b ∗ ow c l -∗ Q ⟨⟩)
          -∗ W c (Prog.lift (.waitDma2 (dsem b) src dst hs hd)) Q) := by
  unfold ow done
  iintro ⟨#HR, Hat, Hc, ⟨%w, HO⟩⟩ Hk
  ihave #Hi := (inv_d X Y K c b) $$ HR
  unfold Prog.lift
  iapply W_intro
  rw [← hN]
  iapply (Rounds.wp_wait_rest_token 𝒱₀ ER (rd X Y) (c : Thread nD τ) none (κ := K (c, some b))
      (wpE_waitDma2_eq 𝒱₀ (c : Thread nD τ) none Set.univ) (Set.mem_univ _) () (O := owed c l) (W := w) (R := 0) (m := 0) (T := ∅)
      (by rw [Nat.zero_add]; exact hN.trans (expect_d X Y c b).symm)) $$ [Hc HO Hat]
  · isplitr; · iexact Hi
    isplitl [Hc]; · iexact Hc
    isplitl [HO]; · iexact HO
    isplitr; · iapply (by_levels X Y K hM) $$ HR
    iexact Hat
  iintro ⟨HO, Hat, -, Hpay⟩
  imod (Rounds.cell_close ER (rd X Y) (Set.mem_univ (K (c, some b))) (fun h => h) (R := 0 + 1) (duties_later X Y (dCell c b))) $$ [Hat] with Hz
  · isplitr; · iexact Hi
    iexact Hat
  rw [wp_ret]; imodintro
  iapply Hk
  isplitl [Hpay]; · iexact Hpay
  isplitl [Hz]; · iexact Hz
  iexists _; iexact HO

/-- Awaiting a landing, below all that is owed. -/
theorem recv_spec {c : Dev nD} (σ t p k) (l : List Due) (hl : ∀ e ∈ l, stageNo t < dueLv e) (Q : PUnit → PP F) :
    iprop(recs X Y K ∗ toRecv c ⟨σ, t, p, k⟩ ∗ ow c l)
      ⊢ iprop((arrived X Y c ⟨σ, t, p, k⟩ ∗ done c (true, ⟨σ, t, p, k⟩) ∗ ow c l -∗ Q ⟨⟩) -∗ W c (waitRecv σ t p c k) Q) := by
  rw [← rest_recv X Y c ⟨σ, t, p, k⟩]
  unfold toRecv
  iintro ⟨HR, ⟨Hat, Hc⟩, HO⟩ Hk
  iapply (wait_wp (true, ⟨σ, t, p, k⟩) l (src := srcV σ t p c k) (dst := dstV σ t p k) (hs := srcV_words σ t p c k) (hd := dstV_words σ t p k) rfl
    (mayWait c _ l (stageNo t) (le_of_eq (lv_recv c ⟨σ, t, p, k⟩ ())) hl) Q) $$ [HR Hat Hc HO]
  · isplitl [HR]; · iexact HR
    isplitl [Hat]; · iexact Hat
    isplitl [Hc]; · iexact Hc
    iexact HO
  iexact Hk

/-- Awaiting a source, nothing being owed any more. -/
theorem drain_spec {c : Dev nD} (σ t p k) (Q : PUnit → PP F) :
    iprop(recs X Y K ∗ atPos ER (dCell c (false, ⟨σ, t, p, k⟩)) 0 ∅ 0 ∗ sent c ⟨σ, t, p, k⟩ ∗ ow c [])
      ⊢ iprop((source X Y c ⟨σ, t, p, k⟩ ∗ done c (false, ⟨σ, t, p, k⟩) ∗ ow c [] -∗ Q ⟨⟩) -∗ W c (waitSend σ t p c k) Q) := by
  rw [← rest_send X Y c ⟨σ, t, p, k⟩]
  unfold sent
  iintro ⟨HR, Hat, Hc, HO⟩ Hk
  iapply (wait_wp (false, ⟨σ, t, p, k⟩) [] (src := dstV σ t p k) (dst := srcV σ t p c k) (hs := dstV_words σ t p k) (hd := srcV_words σ t p c k)
    (src_credit σ t p c k) (show _ ⊢ MayWait (c : Thread nD τ) _ () 0 from by rw [MayWait_zero]; iintro -; iempintro) Q) $$ [HR Hat Hc HO]
  · isplitl [HR]; · iexact HR
    isplitl [Hat]; · iexact Hat
    isplitl [Hc]; · iexact Hc
    iexact HO
  iexact Hk

/-! ## The barrier -/

/-- One signal, handing over the landing buffers it stands for. -/
theorem signal_spec {c : Dev nD} (i : Fin 10) (l : List Due) (Q : PUnit → PP F) :
    iprop((dutyTok ER (barCell (sigPeer c i)) 0 i ∗ bigSep (Finset.univ.filter fun x => slotDuty x = i) fun x => spare c x) ∗ recs X Y K ∗ ow c (.inl i :: l))
      ⊢ iprop((recs X Y K ∗ ow c l -∗ Q ⟨⟩) -∗ W c (semSignalWord (sigPeer c i) barS 1#32) Q) := by
  unfold ow
  iintro ⟨⟨Ht, Hs⟩, #HR, ⟨%w, HO⟩⟩ Hk
  ihave #Hi := (inv_bar X Y K (sigPeer c i)) $$ HR
  ihave #Hr := (reached_bar X Y K (sigPeer c i)) $$ HR
  simp only [semSignalWord, Prog.lift]
  iapply W_intro
  iapply (Rounds.wp_signal 𝒱₀ ER (rd X Y) (c : Thread nD τ) none (dst := (sigPeer c i : Thread nD τ)) (κ := K (sigPeer c i, none))
      (d := i) (by rw [duties_bar]; exact Finset.mem_univ _) ((amount_bar X Y (sigPeer c i) i).trans (by decide)) () (owed c l) rfl) $$ [Ht Hs HO]
  · isplitr; · iexact Hi
    isplitl [HO]; · iexact HO
    isplitl [Ht]; · iexact Ht
    isplitl [Hs]
    · iapply (Entails.of_eq ((payload_bar X Y (sigPeer c i) i).trans (barPay_from c i)).symm) $$ Hs
    iexact Hr
  iintro HO
  rw [wp_ret]; imodintro
  iapply Hk
  isplitr; · iexact HR
  iexists w; iexact HO

/-- The barrier: all landing buffers here go out, all those sent into come in. -/
theorem barrier_spec {c : Dev nD} (l : List Due) (hl : ∀ e ∈ l, 1 < dueLv e) (Q : PUnit → PP F) :
    iprop(recs X Y K ∗ (bigSep Finset.univ fun i : Fin 10 => dutyTok ER (barCell (sigPeer c i)) 0 i) ∗ (bigSep Finset.univ fun x : Slot => spare c x)
        ∗ atPos ER (barCell c) 0 ∅ 0 ∗ cred (tallyAt (barCell c) () 10) ∗ ow c (sigDues ++ l))
      ⊢ iprop(((bigSep Finset.univ fun x : Slot => spare (fwdOf x c) x) ∗ semVal (barCell c) 0 ∗ ow c l -∗ Q ⟨⟩) -∗ W c (barrier c) Q) := by
  iintro ⟨#HR, Ht, Hs, Hat, Hc, HO⟩ Hk
  ihave #Hi := (inv_bar X Y K (c)) $$ HR
  ihave Hs := (Entails.of_eq (by_duty (fun x => spare (F := F) c x))) $$ Hs
  unfold barrier
  rw [W_bind]
  iapply (loop_spec (c := c) 10 (fun i => semSignalWord (sigPeer c i) barS 1#32)
    (fun i => iprop(dutyTok ER (barCell (sigPeer c i)) 0 i ∗ bigSep (Finset.univ.filter fun x => slotDuty x = i) fun x => spare c x)) (fun _ => iprop(emp))
    (fun n => iprop(recs X Y K ∗ ow c (sigDues.drop n ++ l)))
    (fun i Q => by
      have h : sigDues.drop i.val = .inl i :: sigDues.drop (i.val + 1) := by revert i; decide
      rw [h]
      iintro ⟨HA, HJ⟩ Hk
      iapply (signal_spec (X := X) (Y := Y) (K := K) i (sigDues.drop (i.val + 1) ++ l) Q) $$ [HA HJ]
      · isplitl [HA]; · iexact HA
        iexact HJ
      iintro HJ
      iapply Hk
      isplitr; · iempintro
      iexact HJ) _) $$ [Ht Hs HO]
  · isplitl [Ht Hs]
    · iapply (Entails.of_eq (bigSep_sep' Finset.univ (fun i : Fin 10 => (dutyTok ER (barCell (sigPeer c i)) 0 i : PP F))
        (fun i => bigSep (Finset.univ.filter fun x => slotDuty x = i) fun x => spare c x)).symm)
      isplitl [Ht] <;> iassumption
    isplitr; · iexact HR
    iexact HO
  iintro ⟨-, -, HO⟩
  ihave HO := (Entails.of_eq (show ow c (sigDues.drop 10 ++ l) = (iprop(∃ w, owes (c : Thread nD τ) (owed c l) w) : PP F) from rfl)) $$ HO
  icases HO with ⟨%w, HO⟩
  simp only [semWaitWord, Prog.lift]
  iapply W_intro
  iapply (Rounds.wp_wait_rest_token 𝒱₀ ER (rd X Y) (c : Thread nD τ) none (κ := K (c, none))
      (wpE_semWait_eq 𝒱₀ (c : Thread nD τ) none Set.univ) (Set.mem_univ _) () (O := owed c l) (W := w) (R := 0) (m := 0) (T := ∅)
      ((show 0 + (10#32).toInt.toNat = 10 by decide).trans (expect_bar X Y c).symm)) $$ [Hc HO Hat]
  · isplitr; · iexact Hi
    isplitl [Hc]; · iexact Hc
    isplitl [HO]; · iexact HO
    isplitr; · iapply (by_levels X Y K (mayWait c _ l 1 (le_of_eq (lv_bar c ())) hl)) $$ HR
    iexact Hat
  iintro ⟨HO, Hat, -, Hpay⟩
  ihave Hp := (Entails.of_eq (rest_bar X Y c)) $$ Hpay
  imod (Rounds.cell_close ER (rd X Y) (Set.mem_univ (K (c, none))) (fun h => h) (R := 0 + 1) (duties_later X Y (barCell c))) $$ [Hat] with Hz
  · isplitr; · iexact Hi
    iexact Hat
  rw [wp_ret]; imodintro
  iapply Hk
  isplitl [Hp]; · iexact Hp
  isplitl [Hz]; · iexact Hz
  unfold ow
  iexists _; iexact HO

end Cert.KernelIdeal.AllReduce

end
-- ==== Proof.Pieces.lean ====
/- How the buffers divide: into columns and blocks of rows, one block for the device itself and one for each peer. -/
module

public import proofs.«01_k».proof.Proof.Steps

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-! ## Membership by coordinates -/

theorem mem2 {M N m n : ℕ} {off : Fin 2 → ℕ} {inb : ∀ a, off a + (![m, n] : Fin 2 → ℕ) a ≤ (Sh2 M N).size a} {i : (Sh2 M N).Idx} :
    i ∈ (Rect.unit (s := Sh2 M N) off ![m, n] inb).set
      ↔ (off 0 ≤ (i 0).val ∧ (i 0).val < off 0 + m) ∧ (off 1 ≤ (i 1).val ∧ (i 1).val < off 1 + n) := by
  rw [Rect.mem_set_unit]; exact Fin.forall_fin_two

theorem mem3 {A M N a m n : ℕ} {off : Fin 3 → ℕ} {inb : ∀ x, off x + (![a, m, n] : Fin 3 → ℕ) x ≤ (Sh3 A M N).size x} {i : (Sh3 A M N).Idx} :
    i ∈ (Rect.unit (s := Sh3 A M N) off ![a, m, n] inb).set
      ↔ (off 0 ≤ (i 0).val ∧ (i 0).val < off 0 + a) ∧ (off 1 ≤ (i 1).val ∧ (i 1).val < off 1 + m) ∧ (off 2 ≤ (i 2).val ∧ (i 2).val < off 2 + n) := by
  rw [Rect.mem_set_unit]
  exact ⟨fun h => ⟨h 0, h 1, h 2⟩, fun h x => by fin_cases x; exacts [h.1, h.2.1, h.2.2]⟩

theorem mem4 {A B M N a b m n : ℕ} {off : Fin 4 → ℕ} {inb : ∀ x, off x + (![a, b, m, n] : Fin 4 → ℕ) x ≤ (Sh4 A B M N).size x} {i : (Sh4 A B M N).Idx} :
    i ∈ (Rect.unit (s := Sh4 A B M N) off ![a, b, m, n] inb).set
      ↔ (off 0 ≤ (i 0).val ∧ (i 0).val < off 0 + a) ∧ (off 1 ≤ (i 1).val ∧ (i 1).val < off 1 + b)
        ∧ (off 2 ≤ (i 2).val ∧ (i 2).val < off 2 + m) ∧ (off 3 ≤ (i 3).val ∧ (i 3).val < off 3 + n) := by
  rw [Rect.mem_set_unit]
  exact ⟨fun h => ⟨h 0, h 1, h 2, h 3⟩, fun h x => by fin_cases x; exacts [h.1, h.2.1, h.2.2.1, h.2.2.2]⟩

/-- Blocks of `H` rows from row `r0` on, block number `P t` for `t`, each number below `n` met once. -/
theorem Pieces.rows {T : Type} [Fintype T] {s : Shape} {I : Finset s.Idx} {J : T → Finset s.Idx} (row : s.Idx → ℕ) (r0 H n : ℕ) (P : T → ℕ)
    (hP : Function.Injective P) (hlt : ∀ t, P t < n) (hcard : Fintype.card T = n) (hH : 0 < H)
    (hJ : ∀ t i, i ∈ J t ↔ i ∈ I ∧ r0 + P t * H ≤ row i ∧ row i < r0 + P t * H + H)
    (hI : ∀ i ∈ I, r0 ≤ row i ∧ row i < r0 + n * H) : Pieces I J where
  disj t t' hne := Finset.disjoint_left.mpr fun i hi hi' => hne <| hP <| by
    have h := ((hJ t i).mp hi).2
    have h' := ((hJ t' i).mp hi').2
    by_contra hc
    rcases Nat.lt_or_gt_of_ne hc with hc | hc
    · have := Nat.mul_le_mul_right H (Nat.succ_le_of_lt hc); rw [Nat.succ_mul] at this; omega
    · have := Nat.mul_le_mul_right H (Nat.succ_le_of_lt hc); rw [Nat.succ_mul] at this; omega
  cover := by
    have hb : Function.Surjective fun t => (⟨P t, hlt t⟩ : Fin n) := by
      refine ((Fintype.bijective_iff_injective_and_card _).mpr ⟨fun t t' h => hP (congrArg Fin.val h), ?_⟩).2
      rw [hcard, Fintype.card_fin]
    ext i
    simp only [Finset.mem_biUnion, Finset.mem_univ, true_and]
    refine ⟨fun ⟨t, ht⟩ => ((hJ t i).mp ht).1, fun hi => ?_⟩
    obtain ⟨h0, h1⟩ := hI i hi
    have hq : (row i - r0) / H < n := by rw [Nat.div_lt_iff_lt_mul hH]; omega
    obtain ⟨t, ht⟩ := hb ⟨_, hq⟩
    refine ⟨t, (hJ t i).mpr ⟨hi, ?_⟩⟩
    have ht : P t = (row i - r0) / H := congrArg Fin.val ht
    rw [ht]
    have h2 := Nat.div_add_mod (row i - r0) H
    have h3 := Nat.mod_lt (row i - r0) hH
    rw [Nat.mul_comm] at h2
    omega

/-! ## The device and its peers along an axis -/

/-- Block numbers going forward: the device's own, and each peer's that it sends to; and going back. -/
def posF (a : Axis) (c : Dev nD) : Option (Fin (len a - 1)) → ℕ
  | none => pos a c
  | some k => pos a (fwd a (k.val + 1) c)
def posB (a : Axis) (c : Dev nD) : Option (Fin (len a - 1)) → ℕ
  | none => pos a c
  | some k => pos a (bwd a (k.val + 1) c)
theorem posF_inj : ∀ a c, Function.Injective (posF a c) := by intro a; cases a <;> decide +kernel
theorem posB_inj : ∀ a c, Function.Injective (posB a c) := by intro a; cases a <;> decide +kernel
theorem posF_lt (a : Axis) (c : Dev nD) : ∀ t, posF a c t < len a | none => pos_lt a _ | some _ => pos_lt a _
theorem posB_lt (a : Axis) (c : Dev nD) : ∀ t, posB a c t < len a | none => pos_lt a _ | some _ => pos_lt a _
theorem card_pos : ∀ a, Fintype.card (Option (Fin (len a - 1))) = len a := by intro a; cases a <;> rfl
theorem n1_len : ∀ σ, n1 σ = len (ax1 σ) - 1 | .A => rfl | .B => rfl
theorem n2_len : ∀ σ, n2 σ = len (ax2 σ) - 1 | .A => rfl | .B => rfl
theorem R_len : ∀ σ, R σ = len (ax2 σ) * 32 | .A => rfl | .B => rfl
theorem len_R : ∀ σ, len (ax1 σ) * R σ = 1024 | .A => rfl | .B => rfl
theorem R_pos : ∀ σ, 0 < R σ | .A => by decide | .B => by decide

/-! ## Two pieces -/

theorem two_pieces {m : ℕ} : Pieces (s := Sh3 2 m 256) Finset.univ fun p => (slab3 (m := m) p).set :=
  Pieces.rows (fun i => (i 0).val) 0 1 2 Fin.val Fin.val_injective (fun t => t.isLt) rfl Nat.one_pos
    (fun t i => by
      rw [mem3]
      have h1 : (i 1).val < m := (i 1).isLt
      have h2 : (i 2).val < 256 := (i 2).isLt
      simp only [Matrix.cons_val_zero, Matrix.cons_val_one, Matrix.cons_val_two, Matrix.tail_cons, Matrix.head_cons, Finset.mem_univ, true_and]
      omega)
    (fun i _ => by have h : (i 0).val < 2 := (i 0).isLt; omega)

theorem slab_pieces {n m : ℕ} : Pieces (s := Sh4 2 n m 256) Finset.univ fun x : Fin 2 × Fin n => (slab4 (m := m) x.1 x.2).set :=
  Pieces.of_key (fun i => ((i 0 : Fin 2), (i 1 : Fin n))) fun t i => by
    obtain ⟨p, k⟩ := t
    have hk : (((i 0 : Fin 2), (i 1 : Fin n)) = (p, k)) ↔ (i 0).val = p.val ∧ (i 1).val = k.val :=
      ⟨fun h => ⟨congrArg (fun x : Fin 2 × Fin n => x.1.val) h, congrArg (fun x : Fin 2 × Fin n => x.2.val) h⟩,
        fun h => Prod.ext (Fin.ext h.1) (Fin.ext h.2)⟩
    refine mem4.trans (Iff.trans ?_ (and_congr_right fun _ => hk).symm)
    have h1 : (i 2).val < m := (i 2).isLt
    have h2 : (i 3).val < 256 := (i 3).isLt
    simp only [Matrix.cons_val_zero, Matrix.cons_val_one, Matrix.cons_val_two, Matrix.cons_val_three, Matrix.tail_cons, Matrix.head_cons, Finset.mem_univ, true_and]
    omega

/-! ## Columns -/

theorem half_inb : ∀ (σ : Side) a, (![0, col σ 0] : Fin 2 → ℕ) a + (![1024, 512] : Fin 2 → ℕ) a ≤ S1024x1024.size a := by decide
theorem col_inb : ∀ (σ : Side) (p : Fin 2) a, (![0, col σ p] : Fin 2 → ℕ) a + (![1024, 256] : Fin 2 → ℕ) a ≤ S1024x1024.size a := by decide
/-- A half's columns, and a piece's. -/
abbrev halfR (σ : Side) : Rect S1024x1024 := Rect.unit (s := S1024x1024) ![0, col σ 0] ![1024, 512] (half_inb σ)
abbrev colR (σ : Side) (p : Fin 2) : Rect S1024x1024 := Rect.unit (s := S1024x1024) ![0, col σ p] ![1024, 256] (col_inb σ p)

def sideNo : Side → ℕ | .A => 0 | .B => 1
theorem col_eq (σ : Side) (p : Fin 2) : col σ p = sideNo σ * 512 + p.val * 256 := by cases σ <;> simp only [col, sideNo] <;> omega
theorem sideNo_lt : ∀ σ, sideNo σ < 2 | .A => by decide | .B => by decide
theorem half_pieces : Pieces (s := S1024x1024) Finset.univ fun σ => (halfR σ).set :=
  Pieces.rows (fun i => (i 1).val) 0 512 2 sideNo (by decide) sideNo_lt rfl (by decide)
    (fun t i => by
      rw [mem2]
      have h0 : (i 0).val < 1024 := (i 0).isLt
      have hc := col_eq t 0
      simp only [Matrix.cons_val_zero, Matrix.cons_val_one, Finset.mem_univ, true_and, Fin.val_zero] at *
      omega)
    (fun i _ => by have h : (i 1).val < 1024 := (i 1).isLt; omega)
theorem col_pieces (σ : Side) : Pieces (s := S1024x1024) (halfR σ).set fun p => (colR σ p).set :=
  Pieces.rows (fun i => (i 1).val) (sideNo σ * 512) 256 2 Fin.val Fin.val_injective (fun t => t.isLt) rfl (by decide)
    (fun t i => by
      rw [mem2, mem2]
      have hc := col_eq σ t
      have hc0 := col_eq σ 0
      have ht := t.isLt
      simp only [Matrix.cons_val_zero, Matrix.cons_val_one, Fin.val_zero] at *
      omega)
    (fun i hi => by
      rw [mem2] at hi
      have hc0 := col_eq σ 0
      simp only [Matrix.cons_val_zero, Matrix.cons_val_one, Fin.val_zero] at *
      omega)

/-! ## Blocks of rows -/

abbrev own1R (σ : Side) (p : Fin 2) (c : Dev nD) : Rect S1024x1024 := Rect.unit (s := S1024x1024) (own1 σ p c) ![R σ, 256] (own1_inb σ p c)
abbrev off1R (σ : Side) (p : Fin 2) (c : Dev nD) (k : Fin (n1 σ)) : Rect S1024x1024 := Rect.unit (s := S1024x1024) (off1 σ p c k) ![R σ, 256] (off1_inb σ p c k)
abbrev out4R (σ : Side) (p : Fin 2) (c : Dev nD) (k : Fin (n1 σ)) : Rect S1024x1024 := Rect.unit (s := S1024x1024) (out4 σ p c k) ![R σ, 256] (out4_inb σ p c k)
abbrev out2R (σ : Side) (p : Fin 2) (c : Dev nD) : Rect S1024x1024 := Rect.unit (s := S1024x1024) (out2 σ p c) ![32, 256] (out2_inb σ p c)
abbrev out3R (σ : Side) (p : Fin 2) (c : Dev nD) (k : Fin (n2 σ)) : Rect S1024x1024 := Rect.unit (s := S1024x1024) (out3 σ p c k) ![32, 256] (out3_inb σ p c k)
abbrev own2R (σ : Side) (p : Fin 2) (c : Dev nD) : Rect (Sh3 2 (R σ) 256) := Rect.unit (s := Sh3 2 (R σ) 256) (own2 σ p c) ![1, 32, 256] (own2_inb σ p c)
abbrev off2R (σ : Side) (p : Fin 2) (c : Dev nD) (k : Fin (n2 σ)) : Rect (Sh3 2 (R σ) 256) := Rect.unit (s := Sh3 2 (R σ) 256) (off2 σ p c k) ![1, 32, 256] (off2_inb σ p c k)
abbrev off3R (σ : Side) (p : Fin 2) (c : Dev nD) (k : Fin (n2 σ)) : Rect (Sh3 2 (R σ) 256) := Rect.unit (s := Sh3 2 (R σ) 256) (off3 σ p c k) ![1, 32, 256] (off3_inb σ p c k)

/-- A piece by blocks of the outer axis: the device's own and those it sends … -/
def blkF1 (σ : Side) (p : Fin 2) (c : Dev nD) : Option (Fin (n1 σ)) → Finset S1024x1024.Idx
  | none => (own1R σ p c).set
  | some k => (off1R σ p c k).set
/-- … or those it receives. -/
def blkB1 (σ : Side) (p : Fin 2) (c : Dev nD) : Option (Fin (n1 σ)) → Finset S1024x1024.Idx
  | none => (own1R σ p c).set
  | some k => (out4R σ p c k).set
/-- The own block by blocks of the inner axis. -/
def blkB2 (σ : Side) (p : Fin 2) (c : Dev nD) : Option (Fin (n2 σ)) → Finset S1024x1024.Idx
  | none => (out2R σ p c).set
  | some k => (out3R σ p c k).set
/-- A slab by blocks of the inner axis: those sent, or those received. -/
def slabF (σ : Side) (p : Fin 2) (c : Dev nD) : Option (Fin (n2 σ)) → Finset (Sh3 2 (R σ) 256).Idx
  | none => (own2R σ p c).set
  | some k => (off2R σ p c k).set
def slabB (σ : Side) (p : Fin 2) (c : Dev nD) : Option (Fin (n2 σ)) → Finset (Sh3 2 (R σ) 256).Idx
  | none => (own2R σ p c).set
  | some k => (off3R σ p c k).set

/-- The block numbers over a half's own peer numbers. -/
def posF1 (σ : Side) (c : Dev nD) (t : Option (Fin (n1 σ))) : ℕ := posF (ax1 σ) c (t.map (Fin.cast (n1_len σ)))
def posB1 (σ : Side) (c : Dev nD) (t : Option (Fin (n1 σ))) : ℕ := posB (ax1 σ) c (t.map (Fin.cast (n1_len σ)))
def posF2 (σ : Side) (c : Dev nD) (t : Option (Fin (n2 σ))) : ℕ := posF (ax2 σ) c (t.map (Fin.cast (n2_len σ)))
def posB2 (σ : Side) (c : Dev nD) (t : Option (Fin (n2 σ))) : ℕ := posB (ax2 σ) c (t.map (Fin.cast (n2_len σ)))
theorem posF1_inj (σ : Side) (c : Dev nD) : Function.Injective (posF1 σ c) := (posF_inj _ c).comp (Option.map_injective (Fin.cast_injective _))
theorem posB1_inj (σ : Side) (c : Dev nD) : Function.Injective (posB1 σ c) := (posB_inj _ c).comp (Option.map_injective (Fin.cast_injective _))
theorem posF2_inj (σ : Side) (c : Dev nD) : Function.Injective (posF2 σ c) := (posF_inj _ c).comp (Option.map_injective (Fin.cast_injective _))
theorem posB2_inj (σ : Side) (c : Dev nD) : Function.Injective (posB2 σ c) := (posB_inj _ c).comp (Option.map_injective (Fin.cast_injective _))
theorem card1 : ∀ σ, Fintype.card (Option (Fin (n1 σ))) = len (ax1 σ) | .A => rfl | .B => rfl
theorem card2 : ∀ σ, Fintype.card (Option (Fin (n2 σ))) = len (ax2 σ) | .A => rfl | .B => rfl

theorem in_col {σ : Side} {p : Fin 2} {i : S1024x1024.Idx} : i ∈ (colR σ p).set ↔ (col σ p ≤ (i 1).val ∧ (i 1).val < col σ p + 256) := by
  rw [mem2]
  have h0 : (i 0).val < 1024 := (i 0).isLt
  simp only [Matrix.cons_val_zero, Matrix.cons_val_one]
  omega
theorem in_slab {m : ℕ} {p : Fin 2} {i : (Sh3 2 m 256).Idx} : i ∈ (slab3 (m := m) p).set ↔ (i 0).val = p.val := by
  rw [mem3]
  have h1 : (i 1).val < m := (i 1).isLt
  have h2 : (i 2).val < 256 := (i 2).isLt
  simp only [Matrix.cons_val_zero, Matrix.cons_val_one, Matrix.cons_val_two, Matrix.tail_cons, Matrix.head_cons]
  omega

theorem piecesF1 (σ : Side) (p : Fin 2) (c : Dev nD) : Pieces (colR σ p).set (blkF1 σ p c) :=
  Pieces.rows (fun i => (i 0).val) 0 (R σ) (len (ax1 σ)) (posF1 σ c) (posF1_inj σ c) (fun t => posF_lt _ _ _) (card1 σ) (R_pos σ)
    (fun t i => by
      rw [in_col]
      cases t with
      | none =>
        unfold blkF1; rw [mem2, own1_eq]
        simp only [Matrix.cons_val_zero, Matrix.cons_val_one, posF1, posF, Option.map_none]; omega
      | some k =>
        unfold blkF1; rw [mem2, off1_eq]
        simp only [Matrix.cons_val_zero, Matrix.cons_val_one, posF1, posF, Option.map_some, Fin.val_cast]; omega)
    (fun i _ => by rw [len_R]; have h : (i 0).val < 1024 := (i 0).isLt; omega)
theorem piecesB1 (σ : Side) (p : Fin 2) (c : Dev nD) : Pieces (colR σ p).set (blkB1 σ p c) :=
  Pieces.rows (fun i => (i 0).val) 0 (R σ) (len (ax1 σ)) (posB1 σ c) (posB1_inj σ c) (fun t => posB_lt _ _ _) (card1 σ) (R_pos σ)
    (fun t i => by
      rw [in_col]
      cases t with
      | none =>
        unfold blkB1; rw [mem2, own1_eq]
        simp only [Matrix.cons_val_zero, Matrix.cons_val_one, posB1, posB, Option.map_none]; omega
      | some k =>
        unfold blkB1; rw [mem2, out4_eq]
        simp only [Matrix.cons_val_zero, Matrix.cons_val_one, posB1, posB, Option.map_some, Fin.val_cast]; omega)
    (fun i _ => by rw [len_R]; have h : (i 0).val < 1024 := (i 0).isLt; omega)
theorem block_in {σ : Side} {P x : ℕ} (hP : P < len (ax2 σ)) : P * 32 ≤ x ∧ x < P * 32 + 32 → x < R σ := by
  rw [R_len]; intro h
  have := Nat.mul_le_mul_right 32 (Nat.succ_le_of_lt hP); rw [Nat.succ_mul] at this; omega
theorem piecesB2 (σ : Side) (p : Fin 2) (c : Dev nD) : Pieces (own1R σ p c).set (blkB2 σ p c) :=
  Pieces.rows (fun i => (i 0).val) (pos (ax1 σ) c * R σ) 32 (len (ax2 σ)) (posB2 σ c) (posB2_inj σ c) (fun t => posB_lt _ _ _) (card2 σ) (by decide)
    (fun t i => by
      rw [mem2, own1_eq]
      have hb := block_in (σ := σ) (P := posB2 σ c t) (x := (i 0).val - pos (ax1 σ) c * R σ) (posB_lt _ _ _)
      cases t with
      | none =>
        unfold blkB2; rw [mem2, out2_eq]
        simp only [Matrix.cons_val_zero, Matrix.cons_val_one, posB2, posB, Option.map_none] at *; omega
      | some k =>
        unfold blkB2; rw [mem2, out3_eq]
        simp only [Matrix.cons_val_zero, Matrix.cons_val_one, posB2, posB, Option.map_some, Fin.val_cast] at *; omega)
    (fun i hi => by
      rw [mem2, own1_eq] at hi
      rw [← R_len]
      exact hi.1)
theorem piecesSF (σ : Side) (p : Fin 2) (c : Dev nD) : Pieces (slab3 (m := R σ) p).set (slabF σ p c) :=
  Pieces.rows (fun i => (i 1).val) 0 32 (len (ax2 σ)) (posF2 σ c) (posF2_inj σ c) (fun t => posF_lt _ _ _) (card2 σ) (by decide)
    (fun t i => by
      rw [in_slab]
      have h2 : (i 2).val < 256 := (i 2).isLt
      cases t with
      | none =>
        unfold slabF; rw [mem3, own2_eq]
        simp only [Matrix.cons_val_zero, Matrix.cons_val_one, Matrix.cons_val_two, Matrix.tail_cons, Matrix.head_cons, posF2, posF, Option.map_none]; omega
      | some k =>
        unfold slabF; rw [mem3, off2_eq]
        simp only [Matrix.cons_val_zero, Matrix.cons_val_one, Matrix.cons_val_two, Matrix.tail_cons, Matrix.head_cons, posF2, posF, Option.map_some, Fin.val_cast]; omega)
    (fun i _ => by rw [← R_len]; have h : (i 1).val < R σ := (i 1).isLt; omega)
theorem piecesSB (σ : Side) (p : Fin 2) (c : Dev nD) : Pieces (slab3 (m := R σ) p).set (slabB σ p c) :=
  Pieces.rows (fun i => (i 1).val) 0 32 (len (ax2 σ)) (posB2 σ c) (posB2_inj σ c) (fun t => posB_lt _ _ _) (card2 σ) (by decide)
    (fun t i => by
      rw [in_slab]
      have h2 : (i 2).val < 256 := (i 2).isLt
      cases t with
      | none =>
        unfold slabB; rw [mem3, own2_eq]
        simp only [Matrix.cons_val_zero, Matrix.cons_val_one, Matrix.cons_val_two, Matrix.tail_cons, Matrix.head_cons, posB2, posB, Option.map_none]; omega
      | some k =>
        unfold slabB; rw [mem3, off3_eq]
        simp only [Matrix.cons_val_zero, Matrix.cons_val_one, Matrix.cons_val_two, Matrix.tail_cons, Matrix.head_cons, posB2, posB, Option.map_some, Fin.val_cast]; omega)
    (fun i _ => by rw [← R_len]; have h : (i 1).val < R σ := (i 1).isLt; omega)

/-- A family over a device's own block and its peers', split in the two. -/
theorem bigSep_option {n : ℕ} (Φ : Option (Fin n) → PP F) : bigSep Finset.univ Φ = iprop(Φ none ∗ bigSep Finset.univ fun k => Φ (some k)) := by
  rw [show (Finset.univ : Finset (Option (Fin n))) = insert none (Finset.univ.map Function.Embedding.some) from by ext t; cases t <;> simp,
    bigSep_insert (by simp), bigSep_map]
  rfl

end Cert.KernelIdeal.AllReduce

end
-- ==== Proof.Phases.lean ====
/- The phases of the body: what each turns into what, on any device, for either half and either piece. -/
module

public import proofs.«01_k».proof.Proof.Pieces

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok)
open Cert.KernelIdeal Cert.KernelIdeal.Gen

variable {F : FTy → Type} [FloatOps F]

/-! ## Arithmetic of the blocks -/

theorem at_bwd : ∀ σ t (k : Fin (nn σ t)) c, at' (ax σ t) c (pos (ax σ t) (bwd (ax σ t) (k.val + 1) c)) = bwd (ax σ t) (k.val + 1) c := by decide +kernel
theorem bwd_ne : ∀ σ t (k : Fin (nn σ t)) c, bwd (ax σ t) (k.val + 1) c ≠ c := by decide +kernel
theorem at_pos (a : Axis) : ∀ c, at' a c (pos a c) = c := by cases a <;> decide +kernel
theorem row_div {σ : Side} {u v a : ℕ} (hv : v < len (ax2 σ)) (ha : a < 32) :
    (u * R σ + v * 32 + a) / R σ = u ∧ (u * R σ + v * 32 + a) % R σ / 32 = v ∧ (u * R σ + v * 32 + a) % 32 = a ∧ (u * R σ + v * 32 + a) % R σ = v * 32 + a := by
  cases σ
  · have hv : v < 8 := hv
    show (u * 256 + v * 32 + a) / 256 = u ∧ (u * 256 + v * 32 + a) % 256 / 32 = v ∧ (u * 256 + v * 32 + a) % 32 = a ∧ (u * 256 + v * 32 + a) % 256 = v * 32 + a
    omega
  · have hv : v < 4 := hv
    show (u * 128 + v * 32 + a) / 128 = u ∧ (u * 128 + v * 32 + a) % 128 / 32 = v ∧ (u * 128 + v * 32 + a) % 32 = a ∧ (u * 128 + v * 32 + a) % 128 = v * 32 + a
    omega
theorem blk_div {σ : Side} {u a : ℕ} (ha : a < R σ) : (u * R σ + a) / R σ = u ∧ (u * R σ + a) % R σ = a := by
  cases σ
  · have ha : a < 256 := ha
    show (u * 256 + a) / 256 = u ∧ (u * 256 + a) % 256 = a
    omega
  · have ha : a < 128 := ha
    show (u * 128 + a) / 128 = u ∧ (u * 128 + a) % 128 = a
    omega

section

variable (X : Dev nD → FVec F S1024x32 .bf16) (Y : Dev nD → FVec F S32x1024 .bf16)

theorem s4N_own (σ : Side) (p : Fin 2) (c : Dev nD) {a b : ℕ} (ha : a < 32) : s4N X Y σ p c (pos (ax2 σ) c * 32 + a) b = s3N X Y σ p c a b := by
  unfold s4N
  rw [show (pos (ax2 σ) c * 32 + a) / 32 = pos (ax2 σ) c by omega, show (pos (ax2 σ) c * 32 + a) % 32 = a by omega, at_pos]
theorem s4N_peer (σ : Side) (p : Fin 2) (c : Dev nD) (k : Fin (n2 σ)) {a b : ℕ} (ha : a < 32) :
    s4N X Y σ p c (pos (ax2 σ) (bwd (ax2 σ) (k.val + 1) c) * 32 + a) b = s3N X Y σ p (bwd (ax2 σ) (k.val + 1) c) a b := by
  unfold s4N
  rw [show (pos (ax2 σ) (bwd (ax2 σ) (k.val + 1) c) * 32 + a) / 32 = pos (ax2 σ) (bwd (ax2 σ) (k.val + 1) c) by omega,
    show (pos (ax2 σ) (bwd (ax2 σ) (k.val + 1) c) * 32 + a) % 32 = a by omega, at_bwd σ .three k c]
theorem outN_own (σ : Side) (p : Fin 2) (c : Dev nD) {a b : ℕ} (ha : a < 32) :
    outN X Y σ p c (pos (ax1 σ) c * R σ + pos (ax2 σ) c * 32 + a) b = relu (acc2 X Y σ p c a b (n2 σ)) := by
  obtain ⟨h1, h2, h3, h4⟩ := row_div (σ := σ) (u := pos (ax1 σ) c) (pos_lt (ax2 σ) c) ha
  unfold outN
  rw [h1, h2, h3, at_pos, at_pos, if_pos ⟨rfl, rfl⟩]
theorem outN_inner (σ : Side) (p : Fin 2) (c : Dev nD) (k : Fin (n2 σ)) {a b : ℕ} (ha : a < 32) :
    outN X Y σ p c (pos (ax1 σ) c * R σ + pos (ax2 σ) (bwd (ax2 σ) (k.val + 1) c) * 32 + a) b = relu (up (s3N X Y σ p (bwd (ax2 σ) (k.val + 1) c) a b)) := by
  obtain ⟨h1, h2, h3, h4⟩ := row_div (σ := σ) (u := pos (ax1 σ) c) (pos_lt (ax2 σ) (bwd (ax2 σ) (k.val + 1) c)) ha
  unfold outN
  rw [h1, h2, at_bwd σ .three k c, if_neg (fun h => bwd_ne σ .three k c h.2), h4, at_pos, s4N_peer X Y σ p c k ha]
theorem outN_outer (σ : Side) (p : Fin 2) (c : Dev nD) (k : Fin (n1 σ)) {a b : ℕ} (ha : a < R σ) :
    outN X Y σ p c (pos (ax1 σ) (bwd (ax1 σ) (k.val + 1) c) * R σ + a) b = relu (up (s4N X Y σ p (bwd (ax1 σ) (k.val + 1) c) a b)) := by
  obtain ⟨h1, h2⟩ := blk_div (σ := σ) (u := pos (ax1 σ) (bwd (ax1 σ) (k.val + 1) c)) ha
  unfold outN
  rw [h1, h2, at_bwd σ .four k c, if_neg (fun h => bwd_ne σ .four k c h.1)]

/-! ## The buffers' contents -/

abbrev hPart (c : Dev nD) (I : Finset S1024x1024.Idx) : PP F := hold c partM.view I fullShare fun i => partN X Y c (i 0).val (i 1).val
abbrev hPool (σ : Side) (p : Fin 2) (c : Dev nD) (I : Finset (Sh3 2 (R σ) 256).Idx) : PP F :=
  hold c (pool σ).view I fullShare fun i => poolN X Y σ p c (i 1).val (i 2).val
abbrev hSrc3 (σ : Side) (p : Fin 2) (c : Dev nD) (q : PosShare TreeShare) : PP F :=
  hold c (src3 σ).view (slab3 p).set q fun i => s3N X Y σ p c (i 1).val (i 2).val
abbrev hSrc4 (σ : Side) (p : Fin 2) (c : Dev nD) (I : Finset (Sh3 2 (R σ) 256).Idx) (q : PosShare TreeShare) : PP F :=
  hold c (src4 σ).view I q fun i => s4N X Y σ p c (i 1).val (i 2).val
abbrev hOut (o : Memref sig .tc .vmem S1024x1024 .f32) (σ : Side) (p : Fin 2) (c : Dev nD) (I : Finset S1024x1024.Idx) : PP F :=
  hold c o.view I fullShare fun i => outN X Y σ p c (i 0).val ((i 1).val - col σ p)
abbrev hLand (c : Dev nD) (σ : Side) (t : Stage) (p : Fin 2) (k : Fin (nn σ t)) : PP F :=
  hold c (rcv σ t).view (slab4 p k).set fullShare fun i => sentN X Y σ t p (bwdOf ⟨σ, t, p, k⟩ c) k (i 2).val (i 3).val

theorem source_one (c : Dev nD) (σ p k) : hPart X Y c (off1R σ p c k).set = source X Y c ⟨σ, .one, p, k⟩ := by
  unfold hPart; rw [hold_rect2]
  refine hold_congr fun j _ => ?_
  unfold vec; rw [off1_eq]; rfl
theorem source_two (c : Dev nD) (σ p k) : hPool X Y σ p c (off2R σ p c k).set = source X Y c ⟨σ, .two, p, k⟩ := by
  unfold hPool; rw [hold_rect3 _ sq32.numel_eq]
  refine hold_congr fun j _ => ?_
  unfold vec; rw [off2_eq]
  exact congrArg (poolN X Y σ p c _) (Nat.zero_add _)
theorem source_three (c : Dev nD) (σ p k) : hSrc3 X Y σ p c (shareTok fullShare (n2 σ) k) = source X Y c ⟨σ, .three, p, k⟩ := by
  unfold hSrc3; rw [hold_rect3 _ sq32.numel_eq]
  exact hold_congr fun j _ => congrArg₂ (s3N X Y σ p c) (Nat.zero_add _) (Nat.zero_add _)
theorem source_four (c : Dev nD) (σ p k) : hSrc4 X Y σ p c (slab3 p).set (shareTok fullShare (n1 σ) k) = source X Y c ⟨σ, .four, p, k⟩ := by
  unfold hSrc4; rw [hold_rect3 _ (sq3 σ).numel_eq]
  exact hold_congr fun j _ => congrArg₂ (s4N X Y σ p c) (Nat.zero_add _) (Nat.zero_add _)
theorem land_eq (c : Dev nD) (σ t p k) : hLand X Y c σ t p k = arrived X Y c ⟨σ, t, p, k⟩ := by
  unfold hLand; rw [hold_rect4 _ (sq4 σ t).numel_eq]
  exact hold_congr fun j _ => congrArg₂ (sentN X Y σ t p _ k) (Nat.zero_add _) (Nat.zero_add _)

theorem spare_intro (c : Dev nD) (σ t p k) : anyp (F := F) c (rcv σ t).view (slab4 p k).set ⊢ spare c ⟨σ, t, p, k⟩ :=
  (any_slice (slab4 p k)).trans (any_reshape (sq4 σ t).numel_eq)
theorem spare_elim (c : Dev nD) (σ t p k) : spare (F := F) c ⟨σ, t, p, k⟩ ⊢ anyp c (rcv σ t).view (slab4 p k).set :=
  (any_unreshape (sq4 σ t).numel_eq).trans (any_unslice (slab4 p k))

end

end Cert.KernelIdeal.AllReduce

end
-- ==== Proof.Reduce.lean ====
/- The two reductions: each adds what its peers sent, in order, stores the sums and sends them on. -/
module

public import proofs.«01_k».proof.Proof.Phases

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok)
open Cert.KernelIdeal Cert.KernelIdeal.Gen

variable {F : FTy → Type} [FloatOps F]
variable {X : Dev nD → FVec F S1024x32 .bf16} {Y : Dev nD → FVec F S32x1024 .bf16} {K : Dev nD × Cell → ℕ}

/-- A landing buffer given back, its cell done with. -/
def over (c : Dev nD) (x : Slot) : PP F := iprop(spare c x ∗ done c (true, x))

theorem spare_of_land {c : Dev nD} (σ t p) (k : Fin (nn σ t)) : hLand X Y c σ t p k ⊢ spare c ⟨σ, t, p, k⟩ := by
  iintro H
  iapply (spare_intro c σ t p k)
  iapply hold_any $$ H

/-- Reading what has landed. -/
theorem landed_spec {c : Dev nD} (σ t p) (k : Fin (nn σ t)) (Q : FVec F (Sh4 1 1 (rr σ t) 256) .bf16 → PP F) :
    hLand X Y c σ t p k
      ⊢ iprop((hLand X Y c σ t p k -∗ Q fun j => sentN X Y σ t p (bwdOf ⟨σ, t, p, k⟩ c) k (j 2).val (j 3).val) -∗ W c (landed σ t p k) Q) := by
  have h := ld4 (F := F) (c := c) (q := fullShare) (m := rr σ t) (n := 256) (b := rcv σ t) (off := ![p.val, k.val, 0, 0]) (inb := _) (h := pos4 σ t)
    (I := (slab4 p k).set) (fun a b => sentN X Y σ t p (bwdOf ⟨σ, t, p, k⟩ c) k a b) (Finset.Subset.refl _) (Q := Q)
  rw [show (fun j : (Sh4 1 1 (rr σ t) 256).Idx => sentN X Y σ t p (bwdOf ⟨σ, t, p, k⟩ c) k ((![p.val, k.val, 0, 0] : Fin 4 → ℕ) 2 + (j 2).val) ((![p.val, k.val, 0, 0] : Fin 4 → ℕ) 3 + (j 3).val))
    = fun j => sentN X Y σ t p (bwdOf ⟨σ, t, p, k⟩ c) k (j 2).val (j 3).val from
      funext fun j => congrArg₂ (sentN X Y σ t p (bwdOf ⟨σ, t, p, k⟩ c) k) (Nat.zero_add _) (Nat.zero_add _)] at h
  exact h

/-- One step of a reduction. -/
theorem addPeer_spec {c : Dev nD} (σ t p) (k : Fin (nn σ t)) (G : ℕ → ℕ → F .f32) (l : List Due) (hl : ∀ e ∈ l, stageNo t < dueLv e)
    (Q : FVec F (Sh2 (rr σ t) 256) .f32 → PP F) :
    iprop(toRecv c ⟨σ, t, p, k⟩ ∗ recs X Y K ∗ ow c l)
      ⊢ iprop((over c ⟨σ, t, p, k⟩ ∗ recs X Y K ∗ ow c l
            -∗ Q (vec fun a b => FloatOps.addf (G a b) (up (sentN X Y σ t p (bwdOf ⟨σ, t, p, k⟩ c) k a b))))
          -∗ W c (addPeer σ t p c k (vec G)) Q) := by
  iintro ⟨Hr, #HR, HO⟩ Hk
  unfold addPeer
  rw [W_bind]
  iapply (recv_spec (X := X) (Y := Y) (K := K) σ t p k l hl) $$ [Hr HO]
  · isplitr; · iexact HR
    isplitl [Hr] <;> iassumption
  iintro ⟨Ha, Hd, HO⟩
  ihave Ha := (Entails.of_eq (land_eq X Y c σ t p k).symm) $$ Ha
  rw [W_bind]
  iapply (landed_spec σ t p k) $$ Ha
  iintro Ha
  rw [cast4 (sc4 σ t) (sentN X Y σ t p (bwdOf ⟨σ, t, p, k⟩ c) k),
    show addf (vec (m := rr σ t) (n := 256) G) (extf .f32 (vec (sentN X Y σ t p (bwdOf ⟨σ, t, p, k⟩ c) k)) bitsLt_bf16_f32)
      = vec fun a b => FloatOps.addf (G a b) (up (sentN X Y σ t p (bwdOf ⟨σ, t, p, k⟩ c) k a b)) from rfl]
  iapply W_pure
  iapply Hk
  isplitl [Ha Hd]
  · unfold over
    isplitl [Ha]; · iapply (spare_of_land σ t p k) $$ Ha
    iexact Hd
  isplitr; · iexact HR
  iexact HO

theorem blk_drop {σ t p} (k : Fin (nn σ t)) : (blk (σ, t, p)).drop k.val = .inr ⟨σ, t, p, k⟩ :: (blk (σ, t, p)).drop (k.val + 1) := by
  unfold blk
  rw [List.drop_eq_getElem_cons (by simp)]
  simp
theorem blk_end {σ t p} : (blk (σ, t, p)).drop (nn σ t) = [] := by
  unfold blk; exact List.drop_eq_nil_of_le (by simp)

/-- Starting all the transfers of a stage. -/
theorem sends_spec {c : Dev nD} (σ t p) (l : List Due) (Q : PUnit → PP F) :
    iprop(recs X Y K ∗ (bigSep Finset.univ fun k => toSend c ⟨σ, t, p, k⟩) ∗ (bigSep Finset.univ fun k => source X Y c ⟨σ, t, p, k⟩) ∗ ow c (blk (σ, t, p) ++ l))
      ⊢ iprop(((bigSep Finset.univ fun k => sent c ⟨σ, t, p, k⟩) ∗ ow c l -∗ Q ⟨⟩) -∗ W c (loop (nn σ t) (send σ t p c)) Q) := by
  iintro ⟨#HR, Ht, Hs, HO⟩ Hk
  iapply (loop_spec (c := c) (nn σ t) (send σ t p c) (fun k => iprop(toSend c ⟨σ, t, p, k⟩ ∗ source X Y c ⟨σ, t, p, k⟩)) (fun k => sent c ⟨σ, t, p, k⟩)
    (fun n => iprop(recs X Y K ∗ ow c ((blk (σ, t, p)).drop n ++ l)))
    (fun k Q => by
      rw [blk_drop k]
      iintro ⟨⟨Ht, Hs⟩, #HR, HO⟩ Hk
      iapply (send_spec (X := X) (Y := Y) (K := K) σ t p k ((blk (σ, t, p)).drop (k.val + 1) ++ l) Q) $$ [Ht Hs HO]
      · isplitr; · iexact HR
        isplitl [Ht]; · iexact Ht
        isplitl [Hs]; · iexact Hs
        iexact HO
      iintro ⟨Hs, HO⟩
      iapply Hk
      isplitl [Hs]; · iexact Hs
      isplitr; · iexact HR
      iexact HO) Q) $$ [Ht Hs HO]
  · isplitl [Ht Hs]
    · iapply (Entails.of_eq (bigSep_sep' Finset.univ (fun k => toSend (F := F) c ⟨σ, t, p, k⟩) (fun k => source X Y c ⟨σ, t, p, k⟩)).symm)
      isplitl [Ht] <;> iassumption
    isplitr; · iexact HR
    iexact HO
  rw [blk_end]
  iintro ⟨Hs, -, HO⟩
  iapply Hk
  isplitl [Hs]; · iexact Hs
  iexact HO

/-! ## The outer reduction -/

theorem ld_own1 {c : Dev nD} (σ p) (Q : FVec F (Sh2 (R σ) 256) .bf16 → PP F) :
    hPart X Y c (own1R σ p c).set ⊢ iprop((hPart X Y c (own1R σ p c).set -∗ Q (vec fun a b => partN X Y c (pos (ax1 σ) c * R σ + a) (col σ p + b)))
      -∗ W c (ld partM (own1R σ p c) (pos2 σ)) Q) := by
  have h := ld2 (F := F) (c := c) (q := fullShare) (m := R σ) (n := 256) (b := partM) (off := own1 σ p c) (inb := own1_inb σ p c) (h := pos2 σ)
    (I := (own1R σ p c).set) (fun a b => partN X Y c a b) (Finset.Subset.refl _) (Q := Q)
  rw [show (vec fun a b => partN X Y c (own1 σ p c 0 + a) (own1 σ p c 1 + b) : FVec F (Sh2 (R σ) 256) .bf16)
    = vec fun a b => partN X Y c (pos (ax1 σ) c * R σ + a) (col σ p + b) from by rw [own1_eq]; rfl] at h
  exact h

theorem bwdOf_one (σ p k) (c : Dev nD) : bwdOf ⟨σ, .one, p, k⟩ c = bwd (ax1 σ) (k.val + 1) c := rfl
theorem bwdOf_two (σ p k) (c : Dev nD) : bwdOf ⟨σ, .two, p, k⟩ c = bwd (ax2 σ) (k.val + 1) c := rfl
theorem bwdOf_three (σ p k) (c : Dev nD) : bwdOf ⟨σ, .three, p, k⟩ c = bwd (ax2 σ) (k.val + 1) c := rfl
theorem bwdOf_four (σ p k) (c : Dev nD) : bwdOf ⟨σ, .four, p, k⟩ c = bwd (ax1 σ) (k.val + 1) c := rfl

theorem sent_one (σ p) (k : Fin (n1 σ)) (c : Dev nD) (a b : ℕ) :
    sentN X Y σ .one p (bwdOf ⟨σ, .one, p, k⟩ c) k a b = partN X Y (bwd (ax1 σ) (k.val + 1) c) (pos (ax1 σ) c * R σ + a) (col σ p + b) := by
  have h : fwd (ax1 σ) (k.val + 1) (bwd (ax1 σ) (k.val + 1) c) = c := fwdOf_bwdOf ⟨σ, .one, p, k⟩ c
  show partN X Y (bwd (ax1 σ) (k.val + 1) c) (pos (ax1 σ) (fwd (ax1 σ) (k.val + 1) (bwd (ax1 σ) (k.val + 1) c)) * R σ + a) (col σ p + b) = _
  rw [h]
theorem sent_two (σ p) (k : Fin (n2 σ)) (c : Dev nD) (a b : ℕ) :
    sentN X Y σ .two p (bwdOf ⟨σ, .two, p, k⟩ c) k a b = poolN X Y σ p (bwd (ax2 σ) (k.val + 1) c) (pos (ax2 σ) c * 32 + a) b := by
  have h : fwd (ax2 σ) (k.val + 1) (bwd (ax2 σ) (k.val + 1) c) = c := fwdOf_bwdOf ⟨σ, .two, p, k⟩ c
  show poolN X Y σ p (bwd (ax2 σ) (k.val + 1) c) (pos (ax2 σ) (fwd (ax2 σ) (k.val + 1) (bwd (ax2 σ) (k.val + 1) c)) * 32 + a) b = _
  rw [h]

theorem sum1_spec {c : Dev nD} (σ p) (l : List Due) (hl : ∀ e ∈ l, stageNo .one < dueLv e) (Q : FVec F (Sh2 (R σ) 256) .f32 → PP F) :
    iprop((bigSep Finset.univ fun k => toRecv c ⟨σ, .one, p, k⟩) ∗ recs X Y K ∗ ow c l)
      ⊢ iprop(((bigSep Finset.univ fun k => over c ⟨σ, .one, p, k⟩) ∗ recs X Y K ∗ ow c l -∗ Q (vec fun a b => acc1 X Y σ p c a b (n1 σ)))
          -∗ W c (loopA (nn σ .one) (addPeer σ .one p c) (vec fun a b => acc1 X Y σ p c a b 0)) Q) := by
  exact loopA_spec (c := c) (n1 σ) (addPeer σ .one p c) _ _ (fun n => vec fun a b => acc1 X Y σ p c a b n) (fun k Q => by
    have h := addPeer_spec (X := X) (Y := Y) (K := K) (c := c) σ .one p k (fun a b => acc1 X Y σ p c a b k.val) l hl Q
    simp only [sent_one] at h
    exact h) Q

theorem sum2_spec {c : Dev nD} (σ p) (l : List Due) (hl : ∀ e ∈ l, stageNo .two < dueLv e) (Q : FVec F (Sh2 32 256) .f32 → PP F) :
    iprop((bigSep Finset.univ fun k => toRecv c ⟨σ, .two, p, k⟩) ∗ recs X Y K ∗ ow c l)
      ⊢ iprop(((bigSep Finset.univ fun k => over c ⟨σ, .two, p, k⟩) ∗ recs X Y K ∗ ow c l -∗ Q (vec fun a b => acc2 X Y σ p c a b (n2 σ)))
          -∗ W c (loopA (nn σ .two) (addPeer σ .two p c) (vec fun a b => acc2 X Y σ p c a b 0)) Q) := by
  exact loopA_spec (c := c) (n2 σ) (addPeer σ .two p c) _ _ (fun n => vec fun a b => acc2 X Y σ p c a b n) (fun k Q => by
    have h := addPeer_spec (X := X) (Y := Y) (K := K) (c := c) σ .two p k (fun a b => acc2 X Y σ p c a b k.val) l hl Q
    simp only [sent_two] at h
    exact h) Q

/-- A slab of sums, as the device's own rows and those it sends. -/
theorem pool_split {c : Dev nD} (σ p) :
    hPool X Y σ p c (slab3 p).set = iprop(hPool X Y σ p c (own2R σ p c).set ∗ bigSep Finset.univ fun k => source X Y c ⟨σ, .two, p, k⟩) := by
  refine ((hold_pieces (c := c) (v := (pool σ).view) (piecesSF σ p c) fullShare fun i => poolN X Y σ p c (i 1).val (i 2).val).trans (bigSep_option _)).trans ?_
  exact congrArg (fun A : PP F => iprop(hPool X Y σ p c (own2R σ p c).set ∗ A)) (bigSep_congr fun (k : Fin (n2 σ)) _ => source_two X Y c σ p k)

theorem reduce1_spec {c : Dev nD} (σ p) (l : List Due) (hl : ∀ e ∈ blk (σ, .two, p) ++ l, stageNo .one < dueLv e) (Q : PUnit → PP F) :
    iprop(recs X Y K ∗ (hPart X Y c (own1R σ p c).set ∗ anyp c (pool σ).view (slab3 p).set ∗ (bigSep Finset.univ fun k => toRecv c ⟨σ, .one, p, k⟩)
        ∗ bigSep Finset.univ fun k => toSend c ⟨σ, .two, p, k⟩) ∗ ow c (blk (σ, .two, p) ++ l))
      ⊢ iprop(((hPart X Y c (own1R σ p c).set ∗ hPool X Y σ p c (own2R σ p c).set ∗ (bigSep Finset.univ fun k => over c ⟨σ, .one, p, k⟩)
          ∗ bigSep Finset.univ fun k => sent c ⟨σ, .two, p, k⟩) ∗ ow c l -∗ Q ⟨⟩) -∗ W c (reduce1 σ p c) Q) := by
  iintro ⟨#HR, ⟨Hp, Hq, Hr, Ht⟩, HO⟩ Hk
  unfold reduce1
  rw [W_bind]
  iapply (ld_own1 σ p) $$ Hp
  iintro Hp
  rw [W_bind]
  iapply (sum1_spec (X := X) (Y := Y) (K := K) σ p (blk (σ, .two, p) ++ l) hl) $$ [Hr HO]
  · isplitl [Hr]; · iexact Hr
    isplitr; · iexact HR
    iexact HO
  iintro ⟨Hov, -, HO⟩
  rw [W_bind]
  iapply (ld_any_spec (F := F) (c := c) (m := pool σ) (r := slab3 p) (h := pos3 σ)) $$ Hq
  iintro %u Hq
  rw [W_bind]
  rw [show truncf .bf16 (vec (m := R σ) (n := 256) fun a b => acc1 X Y σ p c a b (n1 σ)) bitsLt_bf16_f32 = vec (poolN X Y σ p c) from rfl]
  iapply (st3 (F := F) (c := c) (b := pool σ) (poolN X Y σ p c) (fun a _ b _ => congrArg₂ (poolN X Y σ p c) (Nat.zero_add _) (Nat.zero_add _))) $$ Hq
  iintro Hq
  ihave Hq := (Entails.of_eq (pool_split (X := X) (Y := Y) σ p)) $$ Hq
  icases Hq with ⟨Hq, Hs⟩
  iapply (sends_spec (X := X) (Y := Y) (K := K) σ .two p l) $$ [Ht Hs HO]
  · isplitr; · iexact HR
    isplitl [Ht]; · iexact Ht
    isplitl [Hs]; · iexact Hs
    iexact HO
  iintro ⟨Hs, HO⟩
  iapply Hk
  isplitr [HO]
  · isplitl [Hp]; · iexact Hp
    isplitl [Hq]; · iexact Hq
    isplitl [Hov]; · iexact Hov
    iexact Hs
  iexact HO

/-! ## The inner reduction -/

theorem ld_own2 {c : Dev nD} (σ p) (Q : FVec F (Sh3 1 32 256) .bf16 → PP F) :
    hPool X Y σ p c (own2R σ p c).set ⊢ iprop((hPool X Y σ p c (own2R σ p c).set
        -∗ Q (fun j => poolN X Y σ p c (pos (ax2 σ) c * 32 + (j 1).val) (j 2).val))
      -∗ W c (ld (pool σ) (own2R σ p c) pos32) Q) := by
  have h := ld3 (F := F) (c := c) (q := fullShare) (m := 32) (n := 256) (b := pool σ) (off := own2 σ p c) (inb := own2_inb σ p c) (h := pos32)
    (I := (own2R σ p c).set) (fun a b => poolN X Y σ p c a b) (Finset.Subset.refl _) (Q := Q)
  rw [show (fun j : (Sh3 1 32 256).Idx => poolN X Y σ p c (own2 σ p c 1 + (j 1).val) (own2 σ p c 2 + (j 2).val))
    = fun j => poolN X Y σ p c (pos (ax2 σ) c * 32 + (j 1).val) (j 2).val from by
      rw [own2_eq]; exact funext fun j => congrArg (poolN X Y σ p c _) (Nat.zero_add _)] at h
  exact h

theorem ld_src3 {c : Dev nD} (σ p) (q : PosShare TreeShare) (Q : FVec F (Sh3 1 32 256) .bf16 → PP F) :
    hSrc3 X Y σ p c q ⊢ iprop((hSrc3 X Y σ p c q -∗ Q (fun j => s3N X Y σ p c (j 1).val (j 2).val)) -∗ W c (ld (src3 σ) (slab3 p) pos32) Q) := by
  have h := ld3 (F := F) (c := c) (q := q) (m := 32) (n := 256) (b := src3 σ) (off := ![p.val, 0, 0]) (inb := _) (h := pos32)
    (I := (slab3 p).set) (fun a b => s3N X Y σ p c a b) (Finset.Subset.refl _) (Q := Q)
  rw [show (fun j : (Sh3 1 32 256).Idx => s3N X Y σ p c ((![p.val, 0, 0] : Fin 3 → ℕ) 1 + (j 1).val) ((![p.val, 0, 0] : Fin 3 → ℕ) 2 + (j 2).val))
    = fun j => s3N X Y σ p c (j 1).val (j 2).val from
      funext fun j => congrArg₂ (s3N X Y σ p c) (Nat.zero_add _) (Nat.zero_add _)] at h
  exact h

/-- The finished sums, as the remainder and a share for each transfer. -/
theorem src3_split {c : Dev nD} (σ p) :
    hSrc3 X Y σ p c fullShare = iprop(hSrc3 X Y σ p c (shareDrop fullShare (n2 σ)) ∗ bigSep Finset.univ fun k => source X Y c ⟨σ, .three, p, k⟩) := by
  refine (hold_toks fullShare (n2 σ) _).trans ?_
  exact congrArg (fun A : PP F => iprop(hSrc3 X Y σ p c (shareDrop fullShare (n2 σ)) ∗ A)) (bigSep_congr fun (k : Fin (n2 σ)) _ => source_three X Y c σ p k)

theorem reduce2_spec {c : Dev nD} (o : Memref sig .tc .vmem S1024x1024 .f32) (σ p) (l : List Due) (hl : ∀ e ∈ blk (σ, .three, p) ++ l, stageNo .two < dueLv e)
    (Q : PUnit → PP F) :
    iprop(recs X Y K ∗ (hPool X Y σ p c (own2R σ p c).set ∗ anyp c (src3 σ).view (slab3 p).set ∗ anyp c (src4 σ).view (own2R σ p c).set
        ∗ anyp c o.view (out2R σ p c).set ∗ (bigSep Finset.univ fun k => toRecv c ⟨σ, .two, p, k⟩)
        ∗ bigSep Finset.univ fun k => toSend c ⟨σ, .three, p, k⟩) ∗ ow c (blk (σ, .three, p) ++ l))
      ⊢ iprop(((hPool X Y σ p c (own2R σ p c).set ∗ hSrc3 X Y σ p c (shareDrop fullShare (n2 σ)) ∗ hSrc4 X Y σ p c (own2R σ p c).set fullShare
          ∗ hOut X Y o σ p c (out2R σ p c).set ∗ (bigSep Finset.univ fun k => over c ⟨σ, .two, p, k⟩)
          ∗ bigSep Finset.univ fun k => sent c ⟨σ, .three, p, k⟩) ∗ ow c l -∗ Q ⟨⟩) -∗ W c (reduce2 o σ p c) Q) := by
  iintro ⟨#HR, ⟨Hq, H3, H4, Ho, Hr, Ht⟩, HO⟩ Hk
  unfold reduce2
  rw [W_bind]
  iapply (ld_own2 σ p) $$ Hq
  iintro Hq
  rw [W_bind, cast3 sc32 (fun a b => poolN X Y σ p c (pos (ax2 σ) c * 32 + a) b)]
  iapply (sum2_spec (X := X) (Y := Y) (K := K) σ p (blk (σ, .three, p) ++ l) hl) $$ [Hr HO]
  · isplitl [Hr]; · iexact Hr
    isplitr; · iexact HR
    iexact HO
  iintro ⟨Hov, -, HO⟩
  rw [W_bind]
  iapply (ld_any_spec (F := F) (c := c) (m := src3 σ) (r := slab3 p) (h := pos32)) $$ H3
  iintro %u H3
  rw [W_bind, show truncf .bf16 (vec (m := 32) (n := 256) fun a b => acc2 X Y σ p c a b (n2 σ)) bitsLt_bf16_f32 = vec (s3N X Y σ p c) from rfl]
  iapply (st3 (F := F) (c := c) (b := src3 σ) (s3N X Y σ p c) (fun a _ b _ => congrArg₂ (s3N X Y σ p c) (Nat.zero_add _) (Nat.zero_add _))) $$ H3
  iintro H3
  ihave H3 := (Entails.of_eq (src3_split (X := X) (Y := Y) σ p)) $$ H3
  icases H3 with ⟨H3, Hs⟩
  rw [W_bind]
  iapply (sends_spec (X := X) (Y := Y) (K := K) σ .three p l) $$ [Ht Hs HO]
  · isplitr; · iexact HR
    isplitl [Ht]; · iexact Ht
    isplitl [Hs]; · iexact Hs
    iexact HO
  iintro ⟨Hs, HO⟩
  rw [W_bind]
  iapply (putOut_spec (F := F) (c := c) (o := o) (hm := pos232) (off := out2 σ p c) (inb := out2_inb σ p c) (fun a b => outN X Y σ p c a (b - col σ p)) (fun a ha b _ => by
    rw [out2_eq]
    show outN X Y σ p c (pos (ax1 σ) c * R σ + pos (ax2 σ) c * 32 + a) (col σ p + b - col σ p) = _
    rw [Nat.add_sub_cancel_left, outN_own X Y σ p c ha])) $$ Ho
  iintro Ho
  rw [W_bind]
  iapply (ld_src3 (X := X) (Y := Y) σ p (shareDrop fullShare (n2 σ))) $$ H3
  iintro H3
  rw [W_bind]
  iapply (ld_any_spec (F := F) (c := c) (m := src4 σ) (r := own2R σ p c) (h := pos32)) $$ H4
  iintro %u' H4
  rw [cast3 sc32 (s3N X Y σ p c)]
  iapply (st3 (F := F) (c := c) (b := src4 σ) (off := own2 σ p c) (inb := own2_inb σ p c) (s4N X Y σ p c) (fun a ha b _ => by
    rw [own2_eq]
    show s4N X Y σ p c (pos (ax2 σ) c * 32 + a) (0 + b) = _
    rw [Nat.zero_add, s4N_own X Y σ p c ha])) $$ H4
  iintro H4
  iapply Hk
  isplitr [HO]
  · isplitl [Hq]; · iexact Hq
    isplitl [H3]; · iexact H3
    isplitl [H4]; · iexact H4
    isplitl [Ho]; · iexact Ho
    isplitl [Hov]; · iexact Hov
    iexact Hs
  iexact HO

end Cert.KernelIdeal.AllReduce

end
-- ==== Proof.Gather.lean ====
/- The two gathers, the partial product, and the last waits. -/
module

public import proofs.«01_k».proof.Proof.Reduce

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok)
open Cert.KernelIdeal Cert.KernelIdeal.Gen

variable {F : FTy → Type} [FloatOps F]
variable {X : Dev nD → FVec F S1024x32 .bf16} {Y : Dev nD → FVec F S32x1024 .bf16} {K : Dev nD × Cell → ℕ}

open Idealize.ShloMosaic.ValueIdx Idealize.ShloMosaic.ValueKit

/-! ## The inner gather -/

theorem take3_spec {c : Dev nD} (o : Memref sig .tc .vmem S1024x1024 .f32) (σ p) (k : Fin (n2 σ)) (l : List Due) (hl : ∀ e ∈ l, stageNo .three < dueLv e)
    (Q : PUnit → PP F) :
    iprop((toRecv c ⟨σ, .three, p, k⟩ ∗ anyp c (src4 σ).view (off3R σ p c k).set ∗ anyp c o.view (out3R σ p c k).set) ∗ recs X Y K ∗ ow c l)
      ⊢ iprop(((over c ⟨σ, .three, p, k⟩ ∗ hSrc4 X Y σ p c (off3R σ p c k).set fullShare ∗ hOut X Y o σ p c (out3R σ p c k).set) ∗ recs X Y K ∗ ow c l -∗ Q ⟨⟩)
          -∗ W c (take3 o σ p c k) Q) := by
  iintro ⟨⟨Hr, H4, Ho⟩, #HR, HO⟩ Hk
  unfold take3
  rw [W_bind]
  iapply (recv_spec (X := X) (Y := Y) (K := K) σ .three p k l hl) $$ [Hr HO]
  · isplitr; · iexact HR
    isplitl [Hr] <;> iassumption
  iintro ⟨Ha, Hd, HO⟩
  ihave Ha := (Entails.of_eq (land_eq X Y c σ .three p k).symm) $$ Ha
  rw [W_bind]
  iapply (landed_spec σ .three p k) $$ Ha
  iintro Ha
  rw [W_bind]
  iapply (ld_any_spec (F := F) (c := c) (m := src4 σ) (r := off3R σ p c k) (h := pos32)) $$ H4
  iintro %u H4
  rw [W_bind, cast4 (m := 32) (sc4 σ .three) (sentN X Y σ .three p (bwdOf ⟨σ, .three, p, k⟩ c) k)]
  iapply (st3 (F := F) (c := c) (b := src4 σ) (off := off3 σ p c k) (inb := off3_inb σ p c k) (s4N X Y σ p c) (fun a ha b _ => by
    rw [off3_eq]
    show s4N X Y σ p c (pos (ax2 σ) (bwd (ax2 σ) (k.val + 1) c) * 32 + a) (0 + b) = s3N X Y σ p (bwd (ax2 σ) (k.val + 1) c) a b
    rw [Nat.zero_add, s4N_peer X Y σ p c k ha])) $$ H4
  iintro H4
  rw [W_bind]
  iapply (landed_spec σ .three p k) $$ Ha
  iintro Ha
  rw [cast4 (m := 32) (sc4 σ .three) (sentN X Y σ .three p (bwdOf ⟨σ, .three, p, k⟩ c) k),
    show extf .f32 (vec (m := 32) (n := 256) (sentN X Y σ .three p (bwdOf ⟨σ, .three, p, k⟩ c) k)) bitsLt_bf16_f32
      = vec fun a b => up (s3N X Y σ p (bwd (ax2 σ) (k.val + 1) c) a b) from rfl]
  iapply (putOut_spec (F := F) (c := c) (o := o) (hm := pos232) (off := out3 σ p c k) (inb := out3_inb σ p c k) (fun a b => outN X Y σ p c a (b - col σ p)) (fun a ha b _ => by
    rw [out3_eq]
    show outN X Y σ p c (pos (ax1 σ) c * R σ + pos (ax2 σ) (bwd (ax2 σ) (k.val + 1) c) * 32 + a) (col σ p + b - col σ p) = _
    rw [Nat.add_sub_cancel_left, outN_inner X Y σ p c k ha])) $$ Ho
  iintro Ho
  iapply Hk
  isplitr [HO]
  · isplitl [Ha Hd]
    · unfold over
      isplitl [Ha]; · iapply (spare_of_land σ .three p k) $$ Ha
      iexact Hd
    isplitl [H4]; · iexact H4
    iexact Ho
  isplitr; · iexact HR
  iexact HO

/-- The group's finished sums, as the remainder and a share for each transfer. -/
theorem src4_split {c : Dev nD} (σ p) :
    hSrc4 X Y σ p c (slab3 p).set fullShare
      = iprop(hSrc4 X Y σ p c (slab3 p).set (shareDrop fullShare (n1 σ)) ∗ bigSep Finset.univ fun k => source X Y c ⟨σ, .four, p, k⟩) := by
  refine (hold_toks fullShare (n1 σ) _).trans ?_
  exact congrArg (fun A : PP F => iprop(hSrc4 X Y σ p c (slab3 p).set (shareDrop fullShare (n1 σ)) ∗ A)) (bigSep_congr fun (k : Fin (n1 σ)) _ => source_four X Y c σ p k)
/-- They are the own rows and the peers'. -/
theorem src4_blocks {c : Dev nD} (σ p) :
    hSrc4 X Y σ p c (slab3 p).set fullShare
      = iprop(hSrc4 X Y σ p c (own2R σ p c).set fullShare ∗ bigSep Finset.univ fun k => hSrc4 X Y σ p c (off3R σ p c k).set fullShare) :=
  (hold_pieces (piecesSB σ p c) fullShare _).trans (bigSep_option _)

theorem gather3_spec {c : Dev nD} (o : Memref sig .tc .vmem S1024x1024 .f32) (σ p) (l : List Due) (hl : ∀ e ∈ blk (σ, .four, p) ++ l, stageNo .three < dueLv e)
    (Q : PUnit → PP F) :
    iprop(recs X Y K ∗ (hSrc4 X Y σ p c (own2R σ p c).set fullShare
        ∗ (bigSep Finset.univ fun k => toRecv c ⟨σ, .three, p, k⟩)
        ∗ (bigSep Finset.univ fun k => anyp c (src4 σ).view (off3R σ p c k).set)
        ∗ (bigSep Finset.univ fun k => anyp c o.view (out3R σ p c k).set)
        ∗ bigSep Finset.univ fun k => toSend c ⟨σ, .four, p, k⟩) ∗ ow c (blk (σ, .four, p) ++ l))
      ⊢ iprop(((hSrc4 X Y σ p c (slab3 p).set (shareDrop fullShare (n1 σ)) ∗ (bigSep Finset.univ fun k => hOut X Y o σ p c (out3R σ p c k).set)
          ∗ (bigSep Finset.univ fun k => over c ⟨σ, .three, p, k⟩)
          ∗ bigSep Finset.univ fun k => sent c ⟨σ, .four, p, k⟩) ∗ ow c l -∗ Q ⟨⟩) -∗ W c (gather3 o σ p c) Q) := by
  iintro ⟨#HR, ⟨H4, Hr, Hf, Ho, Ht⟩, HO⟩ Hk
  unfold gather3
  rw [W_bind]
  iapply (loop_spec (c := c) (n2 σ) (take3 o σ p c)
    (fun k => iprop(toRecv c ⟨σ, .three, p, k⟩ ∗ anyp c (src4 σ).view (off3R σ p c k).set ∗ anyp c o.view (out3R σ p c k).set))
    (fun k => iprop(over c ⟨σ, .three, p, k⟩ ∗ hSrc4 X Y σ p c (off3R σ p c k).set fullShare ∗ hOut X Y o σ p c (out3R σ p c k).set))
    (fun _ => iprop(recs X Y K ∗ ow c (blk (σ, .four, p) ++ l)))
    (fun k Q => take3_spec (X := X) (Y := Y) (K := K) o σ p k _ hl Q)) $$ [Hr Hf Ho HO]
  · isplitl [Hr Hf Ho]
    · simp only [bigSep_sep']
      isplitl [Hr]; · iexact Hr
      isplitl [Hf]; · iexact Hf
      iexact Ho
    isplitr; · iexact HR
    iexact HO
  simp only [bigSep_sep']
  iintro ⟨⟨Hov, Hf, Ho⟩, -, HO⟩
  ihave H4 := (Entails.of_eq (src4_blocks (X := X) (Y := Y) (c := c) σ p).symm) $$ [H4 Hf]
  · isplitl [H4]; · iexact H4
    iexact Hf
  ihave H4 := (Entails.of_eq (src4_split (X := X) (Y := Y) (c := c) σ p)) $$ H4
  icases H4 with ⟨H4, Hs⟩
  iapply (sends_spec (X := X) (Y := Y) (K := K) σ .four p l) $$ [Ht Hs HO]
  · isplitr; · iexact HR
    isplitl [Ht]; · iexact Ht
    isplitl [Hs]; · iexact Hs
    iexact HO
  iintro ⟨Hs, HO⟩
  iapply Hk
  isplitr [HO]
  · isplitl [H4]; · iexact H4
    isplitl [Ho]; · iexact Ho
    isplitl [Hov]; · iexact Hov
    iexact Hs
  iexact HO

/-! ## The outer gather -/

theorem take4_spec {c : Dev nD} (o : Memref sig .tc .vmem S1024x1024 .f32) (σ p) (k : Fin (n1 σ)) (l : List Due) (hl : ∀ e ∈ l, stageNo .four < dueLv e)
    (Q : PUnit → PP F) :
    iprop((toRecv c ⟨σ, .four, p, k⟩ ∗ anyp c o.view (out4R σ p c k).set) ∗ recs X Y K ∗ ow c l)
      ⊢ iprop(((over c ⟨σ, .four, p, k⟩ ∗ hOut X Y o σ p c (out4R σ p c k).set) ∗ recs X Y K ∗ ow c l -∗ Q ⟨⟩) -∗ W c (take4 o σ p c k) Q) := by
  iintro ⟨⟨Hr, Ho⟩, #HR, HO⟩ Hk
  unfold take4
  rw [W_bind]
  iapply (recv_spec (X := X) (Y := Y) (K := K) σ .four p k l hl) $$ [Hr HO]
  · isplitr; · iexact HR
    isplitl [Hr] <;> iassumption
  iintro ⟨Ha, Hd, HO⟩
  ihave Ha := (Entails.of_eq (land_eq X Y c σ .four p k).symm) $$ Ha
  rw [W_bind]
  iapply (landed_spec σ .four p k) $$ Ha
  iintro Ha
  rw [cast4 (m := R σ) (sc4 σ .four) (sentN X Y σ .four p (bwdOf ⟨σ, .four, p, k⟩ c) k),
    show extf .f32 (vec (m := R σ) (n := 256) (sentN X Y σ .four p (bwdOf ⟨σ, .four, p, k⟩ c) k)) bitsLt_bf16_f32
      = vec fun a b => up (s4N X Y σ p (bwd (ax1 σ) (k.val + 1) c) a b) from rfl]
  iapply (putOut_spec (F := F) (c := c) (o := o) (hm := pos2 σ) (off := out4 σ p c k) (inb := out4_inb σ p c k) (fun a b => outN X Y σ p c a (b - col σ p)) (fun a ha b _ => by
    rw [out4_eq]
    show outN X Y σ p c (pos (ax1 σ) (bwd (ax1 σ) (k.val + 1) c) * R σ + a) (col σ p + b - col σ p) = _
    rw [Nat.add_sub_cancel_left, outN_outer X Y σ p c k ha])) $$ Ho
  iintro Ho
  iapply Hk
  isplitr [HO]
  · isplitl [Ha Hd]
    · unfold over
      isplitl [Ha]; · iapply (spare_of_land σ .four p k) $$ Ha
      iexact Hd
    iexact Ho
  isplitr; · iexact HR
  iexact HO

theorem gather4_spec {c : Dev nD} (o : Memref sig .tc .vmem S1024x1024 .f32) (σ p) (l : List Due) (hl : ∀ e ∈ l, stageNo .four < dueLv e)
    (Q : PUnit → PP F) :
    iprop(recs X Y K ∗ ((bigSep Finset.univ fun k => toRecv c ⟨σ, .four, p, k⟩) ∗ bigSep Finset.univ fun k => anyp c o.view (out4R σ p c k).set) ∗ ow c l)
      ⊢ iprop((((bigSep Finset.univ fun k => over c ⟨σ, .four, p, k⟩) ∗ bigSep Finset.univ fun k => hOut X Y o σ p c (out4R σ p c k).set) ∗ ow c l -∗ Q ⟨⟩)
          -∗ W c (gather4 o σ p c) Q) := by
  iintro ⟨#HR, ⟨Hr, Ho⟩, HO⟩ Hk
  unfold gather4
  iapply (loop_spec (c := c) (n1 σ) (take4 o σ p c)
    (fun k => iprop(toRecv c ⟨σ, .four, p, k⟩ ∗ anyp c o.view (out4R σ p c k).set))
    (fun k => iprop(over c ⟨σ, .four, p, k⟩ ∗ hOut X Y o σ p c (out4R σ p c k).set))
    (fun _ => iprop(recs X Y K ∗ ow c l))
    (fun k Q => take4_spec (X := X) (Y := Y) (K := K) o σ p k _ hl Q)) $$ [Hr Ho HO]
  · isplitl [Hr Ho]
    · simp only [bigSep_sep']
      isplitl [Hr]; · iexact Hr
      iexact Ho
    isplitr; · iexact HR
    iexact HO
  simp only [bigSep_sep']
  iintro ⟨⟨Hov, Ho⟩, -, HO⟩
  iapply Hk
  isplitr [HO]
  · isplitl [Hov]; · iexact Hov
    iexact Ho
  iexact HO

/-! ## The partial product -/

theorem partN_half (σ : Side) (c : Dev nD) (ib) (j : S1024x512.Idx) :
    partN X Y c (j 0).val (col σ 0 + (j 1).val) = half (X c) (colsAt (Y c) (col σ 0) ib) j := by
  obtain ⟨a, b, rfl⟩ : ∃ (a : Fin 1024) (b : Fin 512), j = ix2 a b := ⟨j 0, j 1, eq_ix2 j⟩
  cases σ
  · show partN X Y c a.val (0 + b.val) = half (X c) (colsAt (Y c) 0 ib) (ix2 a b)
    unfold partN
    rw [dif_pos ⟨a.isLt, by omega⟩, dif_pos (show 0 + b.val < 512 by omega)]
    congr 2
    exact Fin.ext (Nat.zero_add _)
  · show partN X Y c a.val (512 + b.val) = half (X c) (colsAt (Y c) 512 ib) (ix2 a b)
    unfold partN
    rw [dif_pos ⟨a.isLt, by omega⟩, dif_neg (show ¬ 512 + b.val < 512 by omega)]
    congr 2
    exact Fin.ext (Nat.add_sub_cancel_left _ _)

theorem putHalf_spec {c : Dev nD} (w : Memref sig .tc .vmem S32x1024 .bf16) (σ : Side) (ib ib' hp) (Q : PUnit → PP F) :
    iprop(hold c w.view Finset.univ fullShare (Y c) ∗ anyp c partM.view (halfR σ).set)
      ⊢ iprop((hold c w.view Finset.univ fullShare (Y c) ∗ hPart X Y c (halfR σ).set -∗ Q ⟨⟩) -∗ W c (putHalf (X c) w (col σ 0) ib ib' hp) Q) := by
  iintro ⟨Hw, Hp⟩ Hk
  unfold putHalf
  rw [W_bind]
  iapply (ld_spec (F := F) (c := c) (m := w) (r := Rect.unit (s := S32x1024) ![0, col σ 0] S32x512.size ib) (h := h_S32x512) (g := Y c) (Finset.subset_univ _)) $$ Hw
  iintro Hw
  rw [W_bind]
  iapply (ld_any_spec (F := F) (c := c) (m := partM) (r := halfR σ) (h := h_S1024x512)) $$ Hp
  iintro %u Hp
  iapply (st_spec (F := F) (c := c) (m := partM) (r := halfR σ) (fun i => partN X Y c (i 0).val (i 1).val) (fun j => by
    rw [rect_emb_unit_val, rect_emb_unit_val]
    refine Eq.trans (congrArg (fun a => partN X Y c a _) (Nat.zero_add _)) ((partN_half σ c ib j).trans ?_)
    exact (congrArg (half (X c) (colsAt (Y c) (col σ 0) ib)) (Shape.reshapeEquiv_self _ j)).symm)) $$ Hp
  iintro Hp
  iapply Hk
  isplitl [Hw]; · iexact Hw
  iexact Hp

/-! ## The last waits -/

abbrev atS (c : Dev nD) (x : Slot) : PP F := atPos ER (dCell c (false, x)) 0 ∅ 0
abbrev toDrain (c : Dev nD) (x : Slot) : PP F := iprop(atS c x ∗ sent c x)
def drained (X : Dev nD → FVec F S1024x32 .bf16) (Y : Dev nD → FVec F S32x1024 .bf16) (c : Dev nD) (x : Slot) : PP F := iprop(source X Y c x ∗ done c (false, x))

theorem drain1 {c : Dev nD} (σ t p k) (Q : PUnit → PP F) :
    iprop(toDrain c ⟨σ, t, p, k⟩ ∗ recs X Y K ∗ ow c [])
      ⊢ iprop((drained X Y c ⟨σ, t, p, k⟩ ∗ recs X Y K ∗ ow c [] -∗ Q ⟨⟩) -∗ W c (waitSend σ t p c k) Q) := by
  iintro ⟨⟨Ha, Hs⟩, #HR, HO⟩ Hk
  iapply (drain_spec (X := X) (Y := Y) (K := K) σ t p k) $$ [Ha Hs HO]
  · isplitr; · iexact HR
    isplitl [Ha]; · iexact Ha
    isplitl [Hs]; · iexact Hs
    iexact HO
  iintro ⟨Hs, Hd, HO⟩
  iapply Hk
  isplitl [Hs Hd]
  · unfold drained
    isplitl [Hs]; · iexact Hs
    iexact Hd
  isplitr; · iexact HR
  iexact HO

theorem drain4 {c : Dev nD} (x1 x2 x3 x4 : Slot) {f1 f2 f3 f4 : Pr F PUnit} (P J : PP F) (h1 : ∀ Q : PUnit → PP F, iprop(toDrain c x1 ∗ J) ⊢ iprop((drained X Y c x1 ∗ J -∗ Q ⟨⟩) -∗ W c f1 Q))
    (h2 : ∀ Q : PUnit → PP F, iprop(toDrain c x2 ∗ J) ⊢ iprop((drained X Y c x2 ∗ J -∗ Q ⟨⟩) -∗ W c f2 Q))
    (h3 : ∀ Q : PUnit → PP F, iprop(toDrain c x3 ∗ J) ⊢ iprop((drained X Y c x3 ∗ J -∗ Q ⟨⟩) -∗ W c f3 Q))
    (h4 : ∀ Q : PUnit → PP F, iprop(toDrain c x4 ∗ J) ⊢ iprop((drained X Y c x4 ∗ J -∗ Q ⟨⟩) -∗ W c f4 Q)) (Q : PUnit → PP F) :
    iprop((toDrain c x1 ∗ toDrain c x2 ∗ toDrain c x3 ∗ toDrain c x4) ∗ J)
      ⊢ iprop(((drained X Y c x1 ∗ drained X Y c x2 ∗ drained X Y c x3 ∗ drained X Y c x4) ∗ J -∗ Q ⟨⟩)
          -∗ W c (do f1; f2; f3; f4) Q) := by
  iintro ⟨⟨A1, A2, A3, A4⟩, HJ⟩ Hk
  rw [W_bind]
  iapply (h1 _) $$ [A1 HJ]
  · isplitl [A1] <;> iassumption
  iintro ⟨A1, HJ⟩
  rw [W_bind]
  iapply (h2 _) $$ [A2 HJ]
  · isplitl [A2] <;> iassumption
  iintro ⟨A2, HJ⟩
  rw [W_bind]
  iapply (h3 _) $$ [A3 HJ]
  · isplitl [A3] <;> iassumption
  iintro ⟨A3, HJ⟩
  iapply (h4 _) $$ [A4 HJ]
  · isplitl [A4] <;> iassumption
  iintro ⟨A4, HJ⟩
  iapply Hk
  isplitr [HJ]
  · isplitl [A1]; · iexact A1
    isplitl [A2]; · iexact A2
    isplitl [A3]; · iexact A3
    iexact A4
  iexact HJ

end Cert.KernelIdeal.AllReduce

end
-- ==== Proof.Regroup.lean ====
/- Regrouping: the transfers by stages and by last waits, and every buffer as the parts that the phases use. -/
module

public import proofs.«01_k».proof.Proof.Gather
public import Idealize.ShloMosaic.Lib.Pipeline.Cells

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok)
open Cert.KernelIdeal Cert.KernelIdeal.Gen

variable {F : FTy → Type} [FloatOps F]
variable {X : Dev nD → FVec F S1024x32 .bf16} {Y : Dev nD → FVec F S32x1024 .bf16} {K : Dev nD × Cell → ℕ}

open Idealize.ShloMosaic.Pipeline (bigSep_univ_sigma)

/-- A half and a piece. -/
abbrev Sp := Side × Fin 2
abbrev all (Φ : Sp → PP F) : PP F := bigSep Finset.univ Φ
/-- A stage's transfers. -/
abbrev tr (Φ : Slot → PP F) (t : Stage) (s : Sp) : PP F := bigSep Finset.univ fun k => Φ ⟨s.1, t, s.2, k⟩

instance : Std.Commutative (BIBase.sep : PP F → PP F → PP F) := ⟨fun _ _ => BI.equiv_iff.mp ⟨BI.sep_comm, BI.sep_comm⟩⟩
instance : Std.Associative (BIBase.sep : PP F → PP F → PP F) := ⟨fun _ _ _ => BI.equiv_iff.mp ⟨BI.sep_assoc, BI.sep_assoc'⟩⟩

theorem side2 (Φ : Side → PP F) : bigSep Finset.univ Φ = iprop(Φ .A ∗ Φ .B) := by
  rw [bigSep_univ_eq_bigSepL [.A, .B] (by decide) (by decide)]; rfl
theorem fin2 (Φ : Fin 2 → PP F) : bigSep Finset.univ Φ = iprop(Φ 0 ∗ Φ 1) := by
  rw [bigSep_univ_eq_bigSepL [0, 1] (by decide) (by decide)]; rfl
theorem stage4 (Φ : Stage → PP F) : bigSep Finset.univ Φ = iprop(Φ .one ∗ Φ .two ∗ Φ .three ∗ Φ .four) := by
  rw [bigSep_univ_eq_bigSepL [.one, .two, .three, .four] (by decide) (by decide)]; rfl
theorem all_eq (Φ : Sp → PP F) : all Φ = iprop(Φ (.A, 0) ∗ Φ (.B, 0) ∗ Φ (.A, 1) ∗ Φ (.B, 1)) := by
  unfold all; rw [bigSep_univ_eq_bigSepL [(.A, 0), (.B, 0), (.A, 1), (.B, 1)] (by decide) (by decide)]; rfl
theorem all_nested (Φ : Side → Fin 2 → PP F) : (all fun s => Φ s.1 s.2) = bigSep Finset.univ fun σ => bigSep Finset.univ fun p => Φ σ p := by
  unfold all; rw [BI.bigSep_univ_prod]

theorem slots_nested (Φ : Slot → PP F) : bigSep Finset.univ Φ
    = bigSep Finset.univ fun σ => bigSep Finset.univ fun t => bigSep Finset.univ fun p => bigSep Finset.univ fun k => Φ ⟨σ, t, p, k⟩ := by
  rw [bigSep_univ_sigma]
  refine bigSep_congr fun σ _ => ?_
  rw [bigSep_univ_sigma]
  refine bigSep_congr fun t _ => ?_
  rw [bigSep_univ_sigma]

/-- The transfers, stage by stage. -/
theorem by_stage (Φ : Slot → PP F) : bigSep Finset.univ Φ = iprop(all (tr Φ .one) ∗ all (tr Φ .two) ∗ all (tr Φ .three) ∗ all (tr Φ .four)) := by
  rw [slots_nested, BI.bigSep_univ_comm, stage4, ← all_nested, ← all_nested, ← all_nested, ← all_nested]

/-- The transfers, by the last waits. -/
abbrev drZ (Φ : Slot → PP F) (p : Fin 2) (k : Fin 3) : PP F := iprop(Φ ⟨.A, .one, p, k⟩ ∗ Φ ⟨.B, .two, p, k⟩ ∗ Φ ⟨.B, .three, p, k⟩ ∗ Φ ⟨.A, .four, p, k⟩)
abbrev drQ (Φ : Slot → PP F) (p : Fin 2) (k : Fin 7) : PP F := iprop(Φ ⟨.B, .one, p, k⟩ ∗ Φ ⟨.A, .two, p, k⟩ ∗ Φ ⟨.A, .three, p, k⟩ ∗ Φ ⟨.B, .four, p, k⟩)
theorem by_drain (Φ : Slot → PP F) : bigSep Finset.univ Φ
    = iprop((bigSep Finset.univ (drZ Φ 0)) ∗ (bigSep Finset.univ (drQ Φ 0)) ∗ (bigSep Finset.univ (drZ Φ 1)) ∗ bigSep Finset.univ (drQ Φ 1)) := by
  rw [by_stage]
  have A1 : ∀ p, tr Φ .one (.A, p) = bigSep Finset.univ fun k : Fin 3 => Φ ⟨.A, .one, p, k⟩ := fun _ => rfl
  have A2 : ∀ p, tr Φ .two (.A, p) = bigSep Finset.univ fun k : Fin 7 => Φ ⟨.A, .two, p, k⟩ := fun _ => rfl
  have A3 : ∀ p, tr Φ .three (.A, p) = bigSep Finset.univ fun k : Fin 7 => Φ ⟨.A, .three, p, k⟩ := fun _ => rfl
  have A4 : ∀ p, tr Φ .four (.A, p) = bigSep Finset.univ fun k : Fin 3 => Φ ⟨.A, .four, p, k⟩ := fun _ => rfl
  have B1 : ∀ p, tr Φ .one (.B, p) = bigSep Finset.univ fun k : Fin 7 => Φ ⟨.B, .one, p, k⟩ := fun _ => rfl
  have B2 : ∀ p, tr Φ .two (.B, p) = bigSep Finset.univ fun k : Fin 3 => Φ ⟨.B, .two, p, k⟩ := fun _ => rfl
  have B3 : ∀ p, tr Φ .three (.B, p) = bigSep Finset.univ fun k : Fin 3 => Φ ⟨.B, .three, p, k⟩ := fun _ => rfl
  have B4 : ∀ p, tr Φ .four (.B, p) = bigSep Finset.univ fun k : Fin 7 => Φ ⟨.B, .four, p, k⟩ := fun _ => rfl
  rw [all_eq, all_eq, all_eq, all_eq, A1, A1, A2, A2, A3, A3, A4, A4, B1, B1, B2, B2, B3, B3, B4, B4]
  unfold drZ drQ
  simp only [bigSep_sep']
  ac_rfl

/-! ## Buffers -/

variable {c : Dev nD}

/-- The landing buffers, from their buffers and back. -/
theorem spare_all : (bigSep Finset.univ fun σ => bigSep Finset.univ fun t => anyp (F := F) c (rcv σ t).view Finset.univ) ⊢ bigSep Finset.univ fun x : Slot => spare c x := by
  rw [slots_nested]
  refine bigSep_mono fun σ _ => bigSep_mono fun t _ => (any_split slab_pieces).trans ?_
  rw [BI.bigSep_univ_prod]
  exact bigSep_mono fun p _ => bigSep_mono fun k _ => spare_intro c σ t p k
theorem spare_join : (bigSep Finset.univ fun x : Slot => spare (F := F) c x) ⊢ bigSep Finset.univ fun σ => bigSep Finset.univ fun t => anyp c (rcv σ t).view Finset.univ := by
  rw [slots_nested]
  refine bigSep_mono fun σ _ => bigSep_mono fun t _ => BI.Entails.trans ?_ (any_join slab_pieces)
  rw [BI.bigSep_univ_prod]
  exact bigSep_mono fun p _ => bigSep_mono fun k _ => spare_elim c σ t p k

/-- A buffer of a half, by pieces, and back. -/
theorem pieces2 {m : Side → ℕ} (b : (σ : Side) → Memref sig .tc .vmem (Sh3 2 (m σ) 256) .bf16) :
    (bigSep Finset.univ fun σ => anyp (F := F) c (b σ).view Finset.univ) ⊢ all fun s => anyp c (b s.1).view (slab3 s.2).set := by
  rw [all_nested fun σ p => anyp c (b σ).view (slab3 p).set]
  exact bigSep_mono fun σ _ => any_split two_pieces
theorem pieces2_join {m : Side → ℕ} (b : (σ : Side) → Memref sig .tc .vmem (Sh3 2 (m σ) 256) .bf16) :
    (all fun s => anyp (F := F) c (b s.1).view (slab3 s.2).set) ⊢ bigSep Finset.univ fun σ => anyp c (b σ).view Finset.univ := by
  rw [all_nested fun σ p => anyp c (b σ).view (slab3 p).set]
  exact bigSep_mono fun σ _ => any_join two_pieces

theorem src4_pieces : (bigSep Finset.univ fun σ => anyp (F := F) c (src4 σ).view Finset.univ)
    ⊢ iprop((all fun s => anyp c (src4 s.1).view (own2R s.1 s.2 c).set) ∗ all fun s => bigSep Finset.univ fun k => anyp c (src4 s.1).view (off3R s.1 s.2 c k).set) := by
  refine (pieces2 src4).trans ?_
  unfold all
  rw [← bigSep_sep']
  refine bigSep_mono fun s _ => (any_split (piecesSB s.1 s.2 c)).trans ?_
  rw [bigSep_option]
  exact BI.Entails.refl _

/-- The result's buffer, by columns and then by the rows of each origin. -/
theorem out_pieces (o : Memref sig .tc .vmem S1024x1024 .f32) : anyp (F := F) c o.view Finset.univ
    ⊢ iprop((all fun s => anyp c o.view (out2R s.1 s.2 c).set) ∗ (all fun s => bigSep Finset.univ fun k => anyp c o.view (out3R s.1 s.2 c k).set)
      ∗ all fun s => bigSep Finset.univ fun k => anyp c o.view (out4R s.1 s.2 c k).set) := by
  refine (any_split half_pieces).trans ((bigSep_mono fun σ _ => any_split (col_pieces σ)).trans ?_)
  rw [← all_nested fun σ p => anyp c o.view (colR σ p).set]
  unfold all
  rw [← bigSep_sep', ← bigSep_sep']
  refine bigSep_mono fun s _ => (any_split (piecesB1 s.1 s.2 c)).trans ?_
  rw [bigSep_option]
  iintro ⟨H, H4⟩
  ihave H := (show anyp (F := F) c o.view (blkB1 s.1 s.2 c none) ⊢ bigSep Finset.univ fun t => anyp c o.view (blkB2 s.1 s.2 c t) from any_split (piecesB2 s.1 s.2 c)) $$ H
  ihave H := (Entails.of_eq (bigSep_option _)) $$ H
  icases H with ⟨H2, H3⟩
  isplitl [H2]; · iexact H2
  isplitl [H3]; · iexact H3
  iexact H4

/-- The result, at row `a` and column `b`. -/
def outAll (X : Dev nD → FVec F S1024x32 .bf16) (Y : Dev nD → FVec F S32x1024 .bf16) (c : Dev nD) (a b : ℕ) : F .f32 :=
  outN X Y (if b < 512 then .A else .B) (if b % 512 < 256 then 0 else 1) c a (b % 256)
def outC (X : Dev nD → FVec F S1024x32 .bf16) (Y : Dev nD → FVec F S32x1024 .bf16) (c : Dev nD) : S1024x1024.Idx → F .f32 :=
  fun i => outAll X Y c (i 0).val (i 1).val

theorem outAll_col : ∀ (σ : Side) (p : Fin 2) (a b : ℕ), col σ p ≤ b → b < col σ p + 256 → outN X Y σ p c a (b - col σ p) = outAll X Y c a b := by
  intro σ p a b h1 h2
  have hc := col_eq σ p
  unfold outAll
  have hp := p.isLt
  generalize col σ p = n at *
  rw [show b % 256 = b - n by cases σ <;> simp only [sideNo] at hc <;> omega,
    show (if b < 512 then Side.A else Side.B) = σ by cases σ <;> simp only [sideNo] at hc <;> [rw [if_pos (by omega)]; rw [if_neg (by omega)]],
    show (if b % 512 < 256 then (0 : Fin 2) else 1) = p by
      rcases (show p = 0 ∨ p = 1 by omega) with rfl | rfl
      · rw [if_pos]; cases σ <;> simp only [sideNo] at hc <;> simp at hc <;> omega
      · rw [if_neg]; cases σ <;> simp only [sideNo] at hc <;> simp at hc <;> omega]

theorem out_own1 (o : Memref sig .tc .vmem S1024x1024 .f32) (σ : Side) (p : Fin 2) : hOut X Y o σ p c (own1R σ p c).set
    = iprop(hOut X Y o σ p c (out2R σ p c).set ∗ bigSep Finset.univ fun k => hOut X Y o σ p c (out3R σ p c k).set) :=
  (hold_pieces (piecesB2 σ p c) fullShare _).trans (bigSep_option _)
theorem out_col (o : Memref sig .tc .vmem S1024x1024 .f32) (σ : Side) (p : Fin 2) : hOut X Y o σ p c (colR σ p).set
    = iprop(hOut X Y o σ p c (own1R σ p c).set ∗ bigSep Finset.univ fun k => hOut X Y o σ p c (out4R σ p c k).set) :=
  (hold_pieces (piecesB1 σ p c) fullShare _).trans (bigSep_option _)

theorem out_join (o : Memref sig .tc .vmem S1024x1024 .f32) :
    iprop((all fun s => hOut X Y o s.1 s.2 c (out2R s.1 s.2 c).set) ∗ (all fun s => bigSep Finset.univ fun k => hOut X Y o s.1 s.2 c (out3R s.1 s.2 c k).set)
      ∗ all fun s => bigSep Finset.univ fun k => hOut X Y o s.1 s.2 c (out4R s.1 s.2 c k).set) ⊢ hold c o.view Finset.univ fullShare (outC X Y c) := by
  rw [hold_pieces half_pieces]
  simp only [hold_pieces (col_pieces _)]
  rw [← all_nested fun σ p => hold c o.view (colR σ p).set fullShare (outC X Y c)]
  unfold all
  rw [← bigSep_sep', ← bigSep_sep']
  refine bigSep_mono fun s _ => ?_
  have e : hold c o.view (colR s.1 s.2).set fullShare (outC X Y c) = hOut X Y o s.1 s.2 c (colR s.1 s.2).set :=
    hold_congr fun i hi => (outAll_col s.1 s.2 _ _ (in_col.mp hi).1 (in_col.mp hi).2).symm
  rw [e]
  rw [out_col, out_own1]
  exact BI.sep_assoc'

/-- The partial product's columns of a half, as the rows owned here and those sent. -/
theorem part_split (σ : Side) : hPart X Y c (halfR σ).set
    = bigSep Finset.univ fun p => iprop(hPart X Y c (own1R σ p c).set ∗ tr (source X Y c) .one (σ, p)) := by
  refine (hold_pieces (col_pieces σ) fullShare _).trans (bigSep_congr fun p _ => ?_)
  refine (hold_pieces (piecesF1 σ p c) fullShare _).trans ((bigSep_option _).trans ?_)
  exact congrArg (fun A : PP F => iprop(hPart X Y c (own1R σ p c).set ∗ A)) (bigSep_congr fun k _ => source_one X Y c σ p k)

theorem part_join : iprop((all fun s => hPart X Y c (own1R s.1 s.2 c).set) ∗ all (tr (source X Y c) .one)) ⊢ anyp c partM.view Finset.univ := by
  unfold all
  rw [← bigSep_sep', BI.bigSep_univ_prod]
  have h : hPart X Y c Finset.univ ⊢ anyp c partM.view Finset.univ := hold_any
  refine BI.Entails.trans ?_ h
  rw [show hPart X Y c Finset.univ = _ from hold_pieces half_pieces fullShare _]
  exact bigSep_mono fun σ _ => Entails.of_eq (part_split σ).symm

theorem pool_join : iprop((all fun s => hPool X Y s.1 s.2 c (own2R s.1 s.2 c).set) ∗ all (tr (source X Y c) .two)) ⊢ bigSep Finset.univ fun σ => anyp c (pool σ).view Finset.univ := by
  refine BI.Entails.trans ?_ (pieces2_join pool)
  unfold all
  rw [← bigSep_sep']
  exact bigSep_mono fun s _ => (Entails.of_eq (pool_split s.1 s.2).symm).trans hold_any
theorem src3_join : iprop((all fun s => hSrc3 X Y s.1 s.2 c (shareDrop fullShare (n2 s.1))) ∗ all (tr (source X Y c) .three)) ⊢ bigSep Finset.univ fun σ => anyp c (src3 σ).view Finset.univ := by
  refine BI.Entails.trans ?_ (pieces2_join (m := fun _ => 32) src3)
  unfold all
  rw [← bigSep_sep']
  exact bigSep_mono fun s _ => (Entails.of_eq (src3_split s.1 s.2).symm).trans hold_any
theorem src4_join : iprop((all fun s => hSrc4 X Y s.1 s.2 c (slab3 s.2).set (shareDrop fullShare (n1 s.1))) ∗ all (tr (source X Y c) .four)) ⊢ bigSep Finset.univ fun σ => anyp c (src4 σ).view Finset.univ := by
  refine BI.Entails.trans ?_ (pieces2_join src4)
  unfold all
  rw [← bigSep_sep']
  exact bigSep_mono fun s _ => (Entails.of_eq (src4_split s.1 s.2).symm).trans hold_any

end Cert.KernelIdeal.AllReduce

end
-- ==== Proof.Body.lean ====
/- The whole body on one device: from its buffers, its tokens and what it owes, to the result, its buffers again, and
   nothing owed. -/
module

public import proofs.«01_k».proof.Proof.Regroup

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok)
open Cert.KernelIdeal Cert.KernelIdeal.Gen

variable {F : FTy → Type} [FloatOps F]
variable {X : Dev nD → FVec F S1024x32 .bf16} {Y : Dev nD → FVec F S32x1024 .bf16} {K : Dev nD × Cell → ℕ}

open Idealize.ShloMosaic.ValueIdx Idealize.ShloMosaic.ValueKit

/-- What is still owed after the first `i` groups of transfers. -/
def due (i : ℕ) : List Due := dues (order.drop i)

theorem above {n : ℕ} {l : List Phase} (h : ∀ a ∈ l, n < stageNo a.2.1) : ∀ e ∈ dues l, n < dueLv e := fun e he => by
  obtain ⟨a, ha, h'⟩ := mem_dues he
  rw [h']; exact h a ha

/-- The program `f` turns `P` into `P'` and what is owed from `l` into `l'`. -/
def Step (X : Dev nD → FVec F S1024x32 .bf16) (Y : Dev nD → FVec F S32x1024 .bf16) (K : Dev nD × Cell → ℕ) (c : Dev nD) (f : Pr F PUnit)
    (P P' : PP F) (l l' : List Due) : Prop :=
  ∀ Q : PUnit → PP F, iprop(recs X Y K ∗ P ∗ ow c l) ⊢ iprop((P' ∗ ow c l' -∗ Q ⟨⟩) -∗ W c f Q)

/-- A phase runs over both halves and both pieces. -/
theorem four {c : Dev nD} (f : Sp → Pr F PUnit) (P P' : Sp → PP F) (l0 l1 l2 l3 l4 : List Due)
    (h0 : Step X Y K c (f (.A, 0)) (P (.A, 0)) (P' (.A, 0)) l0 l1) (h1 : Step X Y K c (f (.B, 0)) (P (.B, 0)) (P' (.B, 0)) l1 l2)
    (h2 : Step X Y K c (f (.A, 1)) (P (.A, 1)) (P' (.A, 1)) l2 l3) (h3 : Step X Y K c (f (.B, 1)) (P (.B, 1)) (P' (.B, 1)) l3 l4)
    (k : Pr F PUnit) (Q : PUnit → PP F) :
    iprop(recs X Y K ∗ all P ∗ ow c l0) ⊢ iprop((all P' ∗ ow c l4 -∗ W c k Q) -∗ W c (do f (.A, 0); f (.B, 0); f (.A, 1); f (.B, 1); k) Q) := by
  rw [all_eq, all_eq]
  iintro ⟨#HR, ⟨A0, B0, A1, B1⟩, HO⟩ Hk
  rw [W_bind]
  iapply (h0 _) $$ [A0 HO]
  · isplitr; · iexact HR
    isplitl [A0] <;> iassumption
  iintro ⟨A0, HO⟩
  rw [W_bind]
  iapply (h1 _) $$ [B0 HO]
  · isplitr; · iexact HR
    isplitl [B0] <;> iassumption
  iintro ⟨B0, HO⟩
  rw [W_bind]
  iapply (h2 _) $$ [A1 HO]
  · isplitr; · iexact HR
    isplitl [A1] <;> iassumption
  iintro ⟨A1, HO⟩
  rw [W_bind]
  iapply (h3 _) $$ [B1 HO]
  · isplitr; · iexact HR
    isplitl [B1] <;> iassumption
  iintro ⟨B1, HO⟩
  iapply Hk
  isplitr [HO]
  · isplitl [A0]; · iexact A0
    isplitl [B0]; · iexact B0
    isplitl [A1]; · iexact A1
    iexact B1
  iexact HO

theorem all_sep (Φ Ψ : Sp → PP F) : (all fun s => iprop(Φ s ∗ Ψ s)) = iprop(all Φ ∗ all Ψ) := bigSep_sep' _ _ _

section Phases

variable {c : Dev nD} (o : Memref sig .tc .vmem S1024x1024 .f32) (k : Pr F PUnit) (Q : PUnit → PP F)

theorem reduce1_all : iprop(recs X Y K ∗ ((all fun s => hPart X Y c (own1R s.1 s.2 c).set) ∗ (all fun s => anyp c (pool s.1).view (slab3 s.2).set)
      ∗ all (tr (toRecv c) .one) ∗ all (tr (toSend c) .two)) ∗ ow c (due 4))
    ⊢ iprop((((all fun s => hPart X Y c (own1R s.1 s.2 c).set) ∗ (all fun s => hPool X Y s.1 s.2 c (own2R s.1 s.2 c).set)
      ∗ all (tr (over c) .one) ∗ all (tr (sent c) .two)) ∗ ow c (due 8) -∗ W c k Q)
      -∗ W c (do reduce1 .A 0 c; reduce1 .B 0 c; reduce1 .A 1 c; reduce1 .B 1 c; k) Q) := by
  have h := four (X := X) (Y := Y) (K := K) (c := c) (fun s => reduce1 s.1 s.2 c)
    (fun s => iprop(hPart X Y c (own1R s.1 s.2 c).set ∗ anyp c (pool s.1).view (slab3 s.2).set ∗ tr (toRecv c) .one s ∗ tr (toSend c) .two s))
    (fun s => iprop(hPart X Y c (own1R s.1 s.2 c).set ∗ hPool X Y s.1 s.2 c (own2R s.1 s.2 c).set ∗ tr (over c) .one s ∗ tr (sent c) .two s))
    (due 4) (due 5) (due 6) (due 7) (due 8)
    (fun Q => reduce1_spec .A 0 (due 5) (above (l := order.drop 4) (by decide)) Q) (fun Q => reduce1_spec .B 0 (due 6) (above (l := order.drop 5) (by decide)) Q)
    (fun Q => reduce1_spec .A 1 (due 7) (above (l := order.drop 6) (by decide)) Q) (fun Q => reduce1_spec .B 1 (due 8) (above (l := order.drop 7) (by decide)) Q) k Q
  simp only [all_sep] at h
  exact h

theorem reduce2_all : iprop(recs X Y K ∗ ((all fun s => hPool X Y s.1 s.2 c (own2R s.1 s.2 c).set) ∗ (all fun s => anyp c (src3 s.1).view (slab3 s.2).set)
      ∗ (all fun s => anyp c (src4 s.1).view (own2R s.1 s.2 c).set) ∗ (all fun s => anyp c o.view (out2R s.1 s.2 c).set)
      ∗ all (tr (toRecv c) .two) ∗ all (tr (toSend c) .three)) ∗ ow c (due 8))
    ⊢ iprop((((all fun s => hPool X Y s.1 s.2 c (own2R s.1 s.2 c).set) ∗ (all fun s => hSrc3 X Y s.1 s.2 c (shareDrop fullShare (n2 s.1)))
      ∗ (all fun s => hSrc4 X Y s.1 s.2 c (own2R s.1 s.2 c).set fullShare) ∗ (all fun s => hOut X Y o s.1 s.2 c (out2R s.1 s.2 c).set)
      ∗ all (tr (over c) .two) ∗ all (tr (sent c) .three)) ∗ ow c (due 12) -∗ W c k Q)
      -∗ W c (do reduce2 o .A 0 c; reduce2 o .B 0 c; reduce2 o .A 1 c; reduce2 o .B 1 c; k) Q) := by
  have h := four (X := X) (Y := Y) (K := K) (c := c) (fun s => reduce2 o s.1 s.2 c)
    (fun s => iprop(hPool X Y s.1 s.2 c (own2R s.1 s.2 c).set ∗ anyp c (src3 s.1).view (slab3 s.2).set ∗ anyp c (src4 s.1).view (own2R s.1 s.2 c).set
      ∗ anyp c o.view (out2R s.1 s.2 c).set ∗ tr (toRecv c) .two s ∗ tr (toSend c) .three s))
    (fun s => iprop(hPool X Y s.1 s.2 c (own2R s.1 s.2 c).set ∗ hSrc3 X Y s.1 s.2 c (shareDrop fullShare (n2 s.1)) ∗ hSrc4 X Y s.1 s.2 c (own2R s.1 s.2 c).set fullShare
      ∗ hOut X Y o s.1 s.2 c (out2R s.1 s.2 c).set ∗ tr (over c) .two s ∗ tr (sent c) .three s))
    (due 8) (due 9) (due 10) (due 11) (due 12)
    (fun Q => reduce2_spec o .A 0 (due 9) (above (l := order.drop 8) (by decide)) Q) (fun Q => reduce2_spec o .B 0 (due 10) (above (l := order.drop 9) (by decide)) Q)
    (fun Q => reduce2_spec o .A 1 (due 11) (above (l := order.drop 10) (by decide)) Q) (fun Q => reduce2_spec o .B 1 (due 12) (above (l := order.drop 11) (by decide)) Q) k Q
  simp only [all_sep] at h
  exact h

theorem gather3_all : iprop(recs X Y K ∗ ((all fun s => hSrc4 X Y s.1 s.2 c (own2R s.1 s.2 c).set fullShare) ∗ all (tr (toRecv c) .three)
      ∗ (all fun s => bigSep Finset.univ fun k => anyp c (src4 s.1).view (off3R s.1 s.2 c k).set) ∗ (all fun s => bigSep Finset.univ fun k => anyp c o.view (out3R s.1 s.2 c k).set)
      ∗ all (tr (toSend c) .four)) ∗ ow c (due 12))
    ⊢ iprop((((all fun s => hSrc4 X Y s.1 s.2 c (slab3 s.2).set (shareDrop fullShare (n1 s.1)))
      ∗ (all fun s => bigSep Finset.univ fun k => hOut X Y o s.1 s.2 c (out3R s.1 s.2 c k).set)
      ∗ all (tr (over c) .three) ∗ all (tr (sent c) .four)) ∗ ow c [] -∗ W c k Q)
      -∗ W c (do gather3 o .A 0 c; gather3 o .B 0 c; gather3 o .A 1 c; gather3 o .B 1 c; k) Q) := by
  have h := four (X := X) (Y := Y) (K := K) (c := c) (fun s => gather3 o s.1 s.2 c)
    (fun s => iprop(hSrc4 X Y s.1 s.2 c (own2R s.1 s.2 c).set fullShare ∗ tr (toRecv c) .three s
      ∗ (bigSep Finset.univ fun k => anyp c (src4 s.1).view (off3R s.1 s.2 c k).set) ∗ (bigSep Finset.univ fun k => anyp c o.view (out3R s.1 s.2 c k).set)
      ∗ tr (toSend c) .four s))
    (fun s => iprop(hSrc4 X Y s.1 s.2 c (slab3 s.2).set (shareDrop fullShare (n1 s.1))
      ∗ (bigSep Finset.univ fun k => hOut X Y o s.1 s.2 c (out3R s.1 s.2 c k).set) ∗ tr (over c) .three s ∗ tr (sent c) .four s))
    (due 12) (due 13) (due 14) (due 15) []
    (fun Q => gather3_spec o .A 0 (due 13) (above (l := order.drop 12) (by decide)) Q) (fun Q => gather3_spec o .B 0 (due 14) (above (l := order.drop 13) (by decide)) Q)
    (fun Q => gather3_spec o .A 1 (due 15) (above (l := order.drop 14) (by decide)) Q) (fun Q => gather3_spec o .B 1 [] (above (l := order.drop 15) (by decide)) Q) k Q
  simp only [all_sep] at h
  exact h

theorem gather4_all : iprop(recs X Y K ∗ (all (tr (toRecv c) .four) ∗ all fun s => bigSep Finset.univ fun k => anyp c o.view (out4R s.1 s.2 c k).set) ∗ ow c [])
    ⊢ iprop(((all (tr (over c) .four) ∗ all fun s => bigSep Finset.univ fun k => hOut X Y o s.1 s.2 c (out4R s.1 s.2 c k).set) ∗ ow c [] -∗ W c k Q)
      -∗ W c (do gather4 o .A 0 c; gather4 o .B 0 c; gather4 o .A 1 c; gather4 o .B 1 c; k) Q) := by
  have h0 : ∀ e ∈ ([] : List Due), stageNo .four < dueLv e := fun e he => absurd he List.not_mem_nil
  have h := four (X := X) (Y := Y) (K := K) (c := c) (fun s => gather4 o s.1 s.2 c)
    (fun s => iprop(tr (toRecv c) .four s ∗ bigSep Finset.univ fun k => anyp c o.view (out4R s.1 s.2 c k).set))
    (fun s => iprop(tr (over c) .four s ∗ bigSep Finset.univ fun k => hOut X Y o s.1 s.2 c (out4R s.1 s.2 c k).set))
    [] [] [] [] [] (fun Q => gather4_spec o .A 0 [] h0 Q) (fun Q => gather4_spec o .B 0 [] h0 Q) (fun Q => gather4_spec o .A 1 [] h0 Q) (fun Q => gather4_spec o .B 1 [] h0 Q) k Q
  simp only [all_sep] at h
  exact h

/-- The last waits: every source comes back. -/
theorem drain_all : iprop(recs X Y K ∗ (bigSep Finset.univ fun x : Slot => toDrain c x) ∗ ow c [])
    ⊢ iprop(((bigSep Finset.univ fun x : Slot => drained X Y c x) ∗ ow c [] -∗ Q ⟨⟩)
      -∗ W c (do loop 3 (drainZ 0 c); loop 7 (drainQ 0 c); loop 3 (drainZ 1 c); loop 7 (drainQ 1 c)) Q) := by
  have hZ : ∀ (p : Fin 2) (Q : PUnit → PP F), iprop((bigSep Finset.univ (drZ (toDrain c) p)) ∗ recs X Y K ∗ ow c [])
      ⊢ iprop(((bigSep Finset.univ (drZ (drained X Y c) p)) ∗ recs X Y K ∗ ow c [] -∗ Q ⟨⟩) -∗ W c (loop 3 (drainZ p c)) Q) := fun p Q =>
    loop_spec (c := c) 3 (drainZ p c) _ _ (fun _ => iprop(recs X Y K ∗ ow c [])) (fun k Q =>
      drain4 _ _ _ _ iprop(emp) _ (fun Q => drain1 .A .one p k Q) (fun Q => drain1 .B .two p k Q) (fun Q => drain1 .B .three p k Q) (fun Q => drain1 .A .four p k Q) Q) Q
  have hQ : ∀ (p : Fin 2) (Q : PUnit → PP F), iprop((bigSep Finset.univ (drQ (toDrain c) p)) ∗ recs X Y K ∗ ow c [])
      ⊢ iprop(((bigSep Finset.univ (drQ (drained X Y c) p)) ∗ recs X Y K ∗ ow c [] -∗ Q ⟨⟩) -∗ W c (loop 7 (drainQ p c)) Q) := fun p Q =>
    loop_spec (c := c) 7 (drainQ p c) _ _ (fun _ => iprop(recs X Y K ∗ ow c [])) (fun k Q =>
      drain4 _ _ _ _ iprop(emp) _ (fun Q => drain1 .B .one p k Q) (fun Q => drain1 .A .two p k Q) (fun Q => drain1 .A .three p k Q) (fun Q => drain1 .B .four p k Q) Q) Q
  rw [by_drain, by_drain]
  iintro ⟨HR, ⟨Z0, Q0, Z1, Q1⟩, HO⟩ Hk
  rw [W_bind]
  iapply (hZ 0 _) $$ [Z0 HR HO]
  · isplitl [Z0]; · iexact Z0
    isplitl [HR] <;> iassumption
  iintro ⟨Z0, HJ⟩
  rw [W_bind]
  iapply (hQ 0 _) $$ [Q0 HJ]
  · isplitl [Q0]; · iexact Q0
    iexact HJ
  iintro ⟨Q0, HJ⟩
  rw [W_bind]
  iapply (hZ 1 _) $$ [Z1 HJ]
  · isplitl [Z1]; · iexact Z1
    iexact HJ
  iintro ⟨Z1, HJ⟩
  iapply (hQ 1 _) $$ [Q1 HJ]
  · isplitl [Q1]; · iexact Q1
    iexact HJ
  iintro ⟨Q1, -, HO⟩
  iapply Hk
  isplitr [HO]
  · isplitl [Z0]; · iexact Z0
    isplitl [Q0]; · iexact Q0
    isplitl [Z1]; · iexact Z1
    iexact Q1
  iexact HO

end Phases

/-! ## The whole -/

/-- A device's buffers besides the windows, contents unknown. -/
def bufs (c : Dev nD) : PP F :=
  iprop(anyp c partM.view Finset.univ ∗ (bigSep Finset.univ fun σ => bigSep Finset.univ fun t => anyp c (rcv σ t).view Finset.univ)
    ∗ (bigSep Finset.univ fun σ => anyp c (pool σ).view Finset.univ) ∗ (bigSep Finset.univ fun σ => anyp c (src3 σ).view Finset.univ)
    ∗ bigSep Finset.univ fun σ => anyp c (src4 σ).view Finset.univ)
/-- The tokens for a transfer's ends. -/
def ends (c : Dev nD) (x : Slot) : PP F := iprop(dutyTok ER (dCell c (false, x)) 0 0 ∗ dutyTok ER (dCell (fwdOf x c) (true, x)) 0 0)
/-- What a device brings to the exchange. -/
def ghosts (c : Dev nD) : PP F :=
  iprop((bigSep Finset.univ fun i : Fin 10 => dutyTok ER (barCell (sigPeer c i)) 0 i) ∗ atPos ER (barCell c) 0 ∅ 0 ∗ cred (tallyAt (barCell c) () 10)
    ∗ (bigSep Finset.univ fun x : Slot => ends c x) ∗ (bigSep Finset.univ fun x : Slot => atS c x) ∗ bigSep Finset.univ fun x : Slot => toRecv c x)
/-- What its cells end as. -/
def sems (c : Dev nD) : PP F :=
  iprop(semVal (barCell c) 0 ∗ (bigSep Finset.univ fun x : Slot => done c (false, x)) ∗ bigSep Finset.univ fun x : Slot => done c (true, x))

theorem whole_load {c : Dev nD} (x : Memref sig .tc .vmem S1024x32 .bf16) (Q : FVec F S1024x32 .bf16 → PP F) :
    hold c x.view Finset.univ fullShare (X c) ⊢ iprop((hold c x.view Finset.univ fullShare (X c) -∗ Q (X c))
      -∗ W c (ld x (Rect.unit (s := S1024x32) ![0, 0] S1024x32.size inb_S1024x32_S1024x32_0_0) h_S1024x32) Q) :=
  ld_spec_eq (F := F) (c := c) (m := x) (r := Rect.unit (s := S1024x32) ![0, 0] S1024x32.size inb_S1024x32_S1024x32_0_0) (h := h_S1024x32) (q := fullShare) (g := X c)
    (Finset.subset_univ _) (X c) (Q := Q) fun j => congrArg (X c) (by
      funext a
      refine Fin.ext ?_
      rw [rect_emb_unit_val]
      show (![0, 0] : Fin 2 → ℕ) a + _ = _
      fin_cases a <;> exact Nat.zero_add _)

/-- Both pieces' transfers of the first stage, for one half. -/
theorem sends1 {c : Dev nD} (σ : Side) (l0 l1 l2 : List Due) (h0 : l0 = blk (σ, .one, 0) ++ l1) (h1 : l1 = blk (σ, .one, 1) ++ l2) (k : Pr F PUnit) (Q : PUnit → PP F) :
    iprop(recs X Y K ∗ (tr (toSend c) .one (σ, 0) ∗ tr (toSend c) .one (σ, 1)) ∗ hPart X Y c (halfR σ).set ∗ ow c l0)
      ⊢ iprop((((hPart X Y c (own1R σ 0 c).set ∗ hPart X Y c (own1R σ 1 c).set) ∗ (tr (sent c) .one (σ, 0) ∗ tr (sent c) .one (σ, 1))) ∗ ow c l2 -∗ W c k Q)
          -∗ W c (do loop (nn σ .one) (send σ .one 0 c); loop (nn σ .one) (send σ .one 1 c); k) Q) := by
  rw [part_split, fin2, h0, h1]
  iintro ⟨#HR, ⟨T0, T1⟩, ⟨⟨P0, S0⟩, ⟨P1, S1⟩⟩, HO⟩ Hk
  rw [W_bind]
  iapply (sends_spec (X := X) (Y := Y) (K := K) σ .one 0 (blk (σ, .one, 1) ++ l2)) $$ [T0 S0 HO]
  · isplitr; · iexact HR
    isplitl [T0]; · iexact T0
    isplitl [S0]; · iexact S0
    iexact HO
  iintro ⟨S0, HO⟩
  rw [W_bind]
  iapply (sends_spec (X := X) (Y := Y) (K := K) σ .one 1 l2) $$ [T1 S1 HO]
  · isplitr; · iexact HR
    isplitl [T1]; · iexact T1
    isplitl [S1]; · iexact S1
    iexact HO
  iintro ⟨S1, HO⟩
  iapply Hk
  isplitr [HO]
  · isplitl [P0 P1]
    · isplitl [P0]; · iexact P0
      iexact P1
    isplitl [S0]; · iexact S0
    iexact S1
  iexact HO

/-- The tokens and the peers' buffers are what the transfers need. -/
theorem toSend_all {c : Dev nD} : iprop((bigSep Finset.univ fun x : Slot => ends (F := F) c x) ∗ bigSep Finset.univ fun x : Slot => spare (fwdOf x c) x)
    ⊢ bigSep Finset.univ fun x : Slot => toSend c x := by
  rw [← bigSep_sep']
  refine bigSep_mono fun x _ => ?_
  unfold ends toSend
  exact BI.sep_assoc

set_option maxHeartbeats 1000000 in
theorem prog_spec {c : Dev nD} (x : Memref sig .tc .vmem S1024x32 .bf16) (w : Memref sig .tc .vmem S32x1024 .bf16) (o : Memref sig .tc .vmem S1024x1024 .f32)
    (Q : PUnit → PP F) :
    iprop(recs X Y K ∗ hold c x.view Finset.univ fullShare (X c) ∗ hold c w.view Finset.univ fullShare (Y c) ∗ anyp c o.view Finset.univ ∗ bufs c ∗ ghosts c
        ∗ ow c (sigDues ++ dues order))
      ⊢ iprop((hold c x.view Finset.univ fullShare (X c) ∗ hold c w.view Finset.univ fullShare (Y c) ∗ hold c o.view Finset.univ fullShare (outC X Y c) ∗ bufs c ∗ sems c
        ∗ ow c [] -∗ Q ⟨⟩) -∗ W c (prog x w o) Q) := by
  unfold bufs ghosts sems
  iintro ⟨#HR, Hx, Hw, Ho, ⟨Hpart, Hrcv, Hpool, H3, H4⟩, ⟨Hbt, Hba, Hbc, Hends, HatS, Hrecv⟩, HO⟩ Hk
  unfold prog Prog.lift
  rw [W_bind]
  iapply W_intro
  rw [wp_deviceId, wp_ret]
  imodintro
  rw [W_bind]
  iapply (whole_load (X := X) x) $$ Hx
  iintro Hx
  -- the first half of the partial product
  ihave Hpart := ((any_split (F := F) (c := c) half_pieces).trans (Entails.of_eq (side2 _))) $$ Hpart
  icases Hpart with ⟨HpA, HpB⟩
  rw [W_bind]
  iapply (putHalf_spec (X := X) (Y := Y) w .A inb_S32x1024_S32x512_0_0 inb_S1024x1024_S1024x512_0_0 packedbf16_S1024x1024_S1024x512_0_0) $$ [Hw HpA]
  · isplitl [Hw] <;> iassumption
  iintro ⟨Hw, HpA⟩
  -- the barrier
  ihave Hrcv := spare_all $$ Hrcv
  rw [W_bind]
  iapply (barrier_spec (X := X) (Y := Y) (K := K) (dues order) (above (by decide))) $$ [Hbt Hrcv Hba Hbc HO]
  · isplitr; · iexact HR
    isplitl [Hbt]; · iexact Hbt
    isplitl [Hrcv]; · iexact Hrcv
    isplitl [Hba]; · iexact Hba
    isplitl [Hbc]; · iexact Hbc
    iexact HO
  iintro ⟨Hsp, Hbar, HO⟩
  ihave Hts := toSend_all $$ [Hends Hsp]
  · isplitl [Hends] <;> iassumption
  ihave Hts := (Entails.of_eq (by_stage _)) $$ Hts
  icases Hts with ⟨Ht1, Ht2, Ht3, Ht4⟩
  ihave Hrecv := (Entails.of_eq (by_stage _)) $$ Hrecv
  icases Hrecv with ⟨Hr1, Hr2, Hr3, Hr4⟩
  ihave Ht1 := (Entails.of_eq (all_eq _)) $$ Ht1
  icases Ht1 with ⟨TA0, TB0, TA1, TB1⟩
  -- the first transfers
  iapply (sends1 (X := X) (Y := Y) (K := K) .A (dues order) (due 1) (due 2) rfl rfl) $$ [TA0 TA1 HpA HO]
  · isplitr; · iexact HR
    isplitl [TA0 TA1]; · isplitl [TA0] <;> iassumption
    isplitl [HpA]; · iexact HpA
    iexact HO
  iintro ⟨⟨⟨PA0, PA1⟩, ⟨SA0, SA1⟩⟩, HO⟩
  rw [W_bind]
  iapply (putHalf_spec (X := X) (Y := Y) w .B inb_S32x1024_S32x512_0_512 inb_S1024x1024_S1024x512_0_512 packedbf16_S1024x1024_S1024x512_0_512) $$ [Hw HpB]
  · isplitl [Hw] <;> iassumption
  iintro ⟨Hw, HpB⟩
  iapply (sends1 (X := X) (Y := Y) (K := K) .B (due 2) (due 3) (due 4) rfl rfl) $$ [TB0 TB1 HpB HO]
  · isplitr; · iexact HR
    isplitl [TB0 TB1]; · isplitl [TB0] <;> iassumption
    isplitl [HpB]; · iexact HpB
    iexact HO
  iintro ⟨⟨⟨PB0, PB1⟩, ⟨SB0, SB1⟩⟩, HO⟩
  ihave Hp := (Entails.of_eq (all_eq (F := F) fun s => hPart X Y c (own1R s.1 s.2 c).set).symm) $$ [PA0 PA1 PB0 PB1]
  · isplitl [PA0]; · iexact PA0
    isplitl [PB0]; · iexact PB0
    isplitl [PA1]; · iexact PA1
    iexact PB1
  ihave Hs1 := (Entails.of_eq (all_eq (F := F) (tr (sent c) .one)).symm) $$ [SA0 SA1 SB0 SB1]
  · isplitl [SA0]; · iexact SA0
    isplitl [SB0]; · iexact SB0
    isplitl [SA1]; · iexact SA1
    iexact SB1
  -- the outer reduction
  ihave Hpool := (pieces2 pool) $$ Hpool
  iapply (reduce1_all (X := X) (Y := Y) (K := K)) $$ [Hp Hpool Hr1 Ht2 HO]
  · isplitr; · iexact HR
    isplitr [HO]
    · isplitl [Hp]; · iexact Hp
      isplitl [Hpool]; · iexact Hpool
      isplitl [Hr1]; · iexact Hr1
      iexact Ht2
    iexact HO
  iintro ⟨⟨Hp, Hpool, Ho1, Hs2⟩, HO⟩
  -- the inner reduction
  ihave H3 := (pieces2 (m := fun _ => 32) src3) $$ H3
  ihave H4 := src4_pieces $$ H4
  icases H4 with ⟨H4, H4f⟩
  ihave Ho := (out_pieces o) $$ Ho
  icases Ho with ⟨Hout2, Hout3, Hout4⟩
  iapply (reduce2_all (X := X) (Y := Y) (K := K) o) $$ [Hpool H3 H4 Hout2 Hr2 Ht3 HO]
  · isplitr; · iexact HR
    isplitr [HO]
    · isplitl [Hpool]; · iexact Hpool
      isplitl [H3]; · iexact H3
      isplitl [H4]; · iexact H4
      isplitl [Hout2]; · iexact Hout2
      isplitl [Hr2]; · iexact Hr2
      iexact Ht3
    iexact HO
  iintro ⟨⟨Hpool, H3, H4, Hout2, Ho2, Hs3⟩, HO⟩
  -- the inner gather
  iapply (gather3_all (X := X) (Y := Y) (K := K) o) $$ [H4 H4f Hout3 Hr3 Ht4 HO]
  · isplitr; · iexact HR
    isplitr [HO]
    · isplitl [H4]; · iexact H4
      isplitl [Hr3]; · iexact Hr3
      isplitl [H4f]; · iexact H4f
      isplitl [Hout3]; · iexact Hout3
      iexact Ht4
    iexact HO
  iintro ⟨⟨H4, Hout3, Ho3, Hs4⟩, HO⟩
  -- the outer gather
  iapply (gather4_all (X := X) (Y := Y) (K := K) o) $$ [Hout4 Hr4 HO]
  · isplitr; · iexact HR
    isplitr [HO]
    · isplitl [Hr4]; · iexact Hr4
      iexact Hout4
    iexact HO
  iintro ⟨⟨Ho4, Hout4⟩, HO⟩
  -- the last waits
  ihave Hs := (Entails.of_eq (by_stage (F := F) (sent c)).symm) $$ [Hs1 Hs2 Hs3 Hs4]
  · isplitl [Hs1]; · iexact Hs1
    isplitl [Hs2]; · iexact Hs2
    isplitl [Hs3]; · iexact Hs3
    iexact Hs4
  ihave Hd := (Entails.of_eq (bigSep_sep' (Finset.univ : Finset Slot) (atS (F := F) c) (sent c)).symm) $$ [HatS Hs]
  · isplitl [HatS] <;> iassumption
  iapply (drain_all (X := X) (Y := Y) (K := K)) $$ [Hd HO]
  · isplitr; · iexact HR
    isplitl [Hd]; · iexact Hd
    iexact HO
  iintro ⟨Hd, HO⟩
  -- everything back together
  unfold drained
  ihave Hd := (Entails.of_eq (bigSep_sep' (Finset.univ : Finset Slot) (source X Y c) (fun x => done c (false, x)))) $$ Hd
  icases Hd with ⟨Hsrc, HdS⟩
  ihave Hsrc := (Entails.of_eq (by_stage (source X Y c))) $$ Hsrc
  icases Hsrc with ⟨Q1, Q2, Q3, Q4⟩
  ihave Hov := (Entails.of_eq (by_stage (F := F) (over c)).symm) $$ [Ho1 Ho2 Ho3 Ho4]
  · isplitl [Ho1]; · iexact Ho1
    isplitl [Ho2]; · iexact Ho2
    isplitl [Ho3]; · iexact Ho3
    iexact Ho4
  unfold over
  ihave Hov := (Entails.of_eq (bigSep_sep' (Finset.univ : Finset Slot) (fun x => spare (F := F) c x) (fun x => done c (true, x)))) $$ Hov
  icases Hov with ⟨Hrcv, HdR⟩
  iapply Hk
  isplitl [Hx]; · iexact Hx
  isplitl [Hw]; · iexact Hw
  isplitl [Hout2 Hout3 Hout4]
  · iapply (out_join (X := X) (Y := Y) o)
    isplitl [Hout2]; · iexact Hout2
    isplitl [Hout3]; · iexact Hout3
    iexact Hout4
  isplitl [Hp Q1 Hrcv Hpool Q2 H3 Q3 H4 Q4]
  · isplitl [Hp Q1]
    · iapply (part_join (X := X) (Y := Y))
      isplitl [Hp] <;> iassumption
    isplitl [Hrcv]; · iapply spare_join $$ Hrcv
    isplitl [Hpool Q2]
    · iapply (pool_join (X := X) (Y := Y))
      isplitl [Hpool] <;> iassumption
    isplitl [H3 Q3]
    · iapply (src3_join (X := X) (Y := Y))
      isplitl [H3] <;> iassumption
    iapply (src4_join (X := X) (Y := Y))
    isplitl [H4] <;> iassumption
  isplitr [HO]
  · isplitl [Hbar]; · iexact Hbar
    isplitl [HdS]; · iexact HdS
    iexact HdR
  iexact HO

end Cert.KernelIdeal.AllReduce

end
-- ==== Proof.Data.lean ====
/- The kernel's region on a device as the launch sees it: what is staged, what the point needs and leaves, and that the
   body takes the one to the other. -/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]
variable (m : (ℓ : Loc nD τ sig) → Buf (Elt F) ℓ) (ρ : Dev nD → PrngReg)

/-- The memory at launch: arbitrary contents and generator registers, counters at zero. -/
def s₀ : MemSt nD τ sig (Elt F) := ⟨m, fun _ => 0, ρ⟩

/-- The blocks of the two operands that device `c` stages. -/
def xOf (c : Dev nD) : FVec F S1024x32 .bf16 := (win0_0.blk (0 : Fin 1)).view.read (Elt F) ((s₀ m ρ).mem ((c : Thread nD τ).loc main_arg0))
def yOf (c : Dev nD) : FVec F S32x1024 .bf16 := (win0_1.blk (0 : Fin 1)).view.read (Elt F) ((s₀ m ρ).mem ((c : Thread nD τ).loc main_arg1))

/-- The cells' invariants and marks, under some names. -/
def marks (X : Dev nD → FVec F S1024x32 .bf16) (Y : Dev nD → FVec F S32x1024 .bf16) (K : Dev nD × Cell → ℕ) : PP F :=
  iprop((bigSep Finset.univ fun ck : Dev nD × Cell => cellInv ER (rd X Y) (K ck) (kcell ck))
    ∗ (bigSep Finset.univ fun ck : Dev nD × Cell => reached ER (kcell ck) 0))
instance marks_persistent (X : Dev nD → FVec F S1024x32 .bf16) (Y K) : BI.Persistent (marks X Y K) := by unfold marks; infer_instance

def atR (c : Dev nD) (x : Slot) : PP F := atPos ER (dCell c (true, x)) 0 ∅ 0
/-- The tokens a device pays with. -/
def payToks (c : Dev nD) : PP F :=
  iprop((bigSep Finset.univ fun i : Fin 10 => dutyTok ER (barCell (sigPeer c i)) 0 i) ∗ bigSep Finset.univ fun x : Slot => ends c x)
/-- A device's positions and the tokens it pays with. -/
def linear (c : Dev nD) : PP F :=
  iprop((atPos ER (barCell c) 0 ∅ 0 ∗ (bigSep Finset.univ fun x : Slot => atS c x) ∗ bigSep Finset.univ fun x : Slot => atR c x) ∗ payToks c)
/-- What the launch's set-up leaves with device `c`. -/
def G' (c : Dev nD) : PP F := iprop(∃ K, marks (xOf m ρ) (yOf m ρ) K ∗ linear c)
/-- The credit for a device's own waits. -/
def credits (c : Dev nD) : PP F :=
  iprop(cred (tallyAt (barCell c) () 10) ∗ bigSep Finset.univ fun x : Slot => cred (tallyAt (dCell c (true, x)) () (N x)))
def start (c : Dev nD) : PP F := iprop(G' m ρ c ∗ credits c ∗ levels)

def Φ₀ (c : Dev nD) : PP F := iprop(start m ρ c ∗ bufs c)
def Φ₁ (c : Dev nD) : PP F := iprop(bufs c ∗ sems c)

/-- The region's data: the operands staged and kept, the result's buffer left at the reduced product. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xOf m ρ c
    | ⟨1, _⟩ => yOf m ρ c
    | ⟨2, _⟩ => outC (xOf m ρ) (yOf m ρ) c
  Φ t := match t with
    | ⟨0, _⟩ => Φ₀ m ρ c
    | ⟨_ + 1, _⟩ => Φ₁ c
  q _ := fullShare
  owed t := match t with
    | ⟨0, _⟩ => owed₀ c
    | ⟨_ + 1, _⟩ => 0

theorem bigSep_W (Φ : Fin cfg0.W → PP F) : bigSep Finset.univ Φ = iprop(Φ (0 : Fin 3) ∗ Φ (1 : Fin 3) ∗ Φ (2 : Fin 3)) := bigSep_W0 Φ

/-- A staging buffer holding `f`. -/
abbrev stg (c : Dev nD) (b : Ref sig .tc) (f : b.ty.Contents (Elt F)) : PP F := hold c (View.whole b) Finset.univ fullShare f
theorem owns_whole (c : Dev nD) (b : Ref sig .tc) (f : b.ty.Contents (Elt F)) :
    (owns (Ix := Unit) (Name := ℕ) (U := UU) (Lvl := ℕ) (c : Thread nD τ) (Memref.whole b) fullShare f : PP F) = stg c b f := by
  rw [stg, ← hold_whole]
  unfold owns
  simp only [Memref.view_whole, View.read_whole, View.set_whole]
  refine BI.Entails.antisymm (show _ ⊢ (_ : PP F) from ?_) (show _ ⊢ (_ : PP F) from ?_)
  · iintro ⟨%g, %hg, H⟩; subst hg; iexact H
  · iintro H; iexists f; isplitr; · (ipureintro; rfl)
    iexact H

/-- What is owed, within whatever bounds the waits had. -/
theorem owesAt_eq (c : Dev nD) (t : Fin (cfg0.N + 1)) (l : List Due) (h : (dats m ρ 0 c).owed t = owed c l) : (dats m ρ 0 c).owesAt () t = ow c l := by
  unfold Dat.owesAt Pipeline.owesWithin ow
  rw [h]
  refine BI.Entails.antisymm (show _ ⊢ (_ : PP F) from ?_) (show _ ⊢ (_ : PP F) from ?_)
  · iintro ⟨%w, -, H⟩; iexists w; iexact H
  · iintro ⟨%w, H⟩; iexists w; isplitr; · ipureintro; exact fun _ _ => Or.inl trivial
    iexact H

def bodyPre (c : Dev nD) : PP F :=
  iprop(Φ₀ m ρ c ∗ (dats m ρ 0 c).owesAt () t0_0.castSucc
    ∗ (∃ d, stg c cc0_stg0_0 ((dats m ρ 0 c).before (0 : Fin 3) t0_0 d)) ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : PP F :=
  iprop(Φ₁ c ∗ (dats m ρ 0 c).owesAt () t0_0.succ
    ∗ stg c cc0_stg0_0 (xOf m ρ c) ∗ stg c cc0_stg1_0 (yOf m ρ c) ∗ stg c cc0_stg2_0 (outC (xOf m ρ) (yOf m ρ) c))

theorem before_x (c : Dev nD) (d) : (dats m ρ 0 c).before (0 : Fin 3) t0_0 d = xOf m ρ c := by
  unfold Dat.before; rw [if_pos (show (cfg0.win (0 : Fin 3)).fetch t0_0 = true from rfl)]; rfl
theorem before_y (c : Dev nD) (d) : (dats m ρ 0 c).before (1 : Fin 3) t0_0 d = yOf m ρ c := by
  unfold Dat.before; rw [if_pos (show (cfg0.win (1 : Fin 3)).fetch t0_0 = true from rfl)]; rfl

theorem recs_intro (c : Dev nD) (K : Dev nD × Cell → ℕ) : iprop(marks (xOf m ρ) (yOf m ρ) K ∗ levels) ⊢ recs (xOf m ρ) (yOf m ρ) K := by
  unfold marks recs
  iintro ⟨⟨H1, H2⟩, H3⟩
  isplitl [H1]; · iexact H1
  isplitl [H2] <;> iassumption

theorem ghosts_intro (c : Dev nD) : iprop(linear c ∗ credits c) ⊢ (ghosts c : PP F) := by
  unfold linear payToks credits ghosts
  iintro ⟨⟨⟨Hb, Hs, Hr⟩, Htb, Hte⟩, Hcb, Hcr⟩
  isplitl [Htb]; · iexact Htb
  isplitl [Hb]; · iexact Hb
  isplitl [Hcb]; · iexact Hcb
  isplitl [Hte]; · iexact Hte
  isplitl [Hs]; · iexact Hs
  iapply (Entails.of_eq (bigSep_sep' (Finset.univ : Finset Slot) (atR (F := F) c) (fun x => cred (tallyAt (dCell c (true, x)) () (N x)))).symm)
  isplitl [Hr] <;> iassumption

/-- The body from what the point has to what it leaves. -/
theorem body_spec (c : Dev nD) : bodyPre m ρ c
    ⊢ W c (prog (Memref.whole cc0_stg0_0) (Memref.whole cc0_stg1_0) (Memref.whole cc0_stg2_0)) fun _ => bodyPost m ρ c := by
  unfold bodyPre Φ₀ start G'
  rw [owesAt_eq m ρ c t0_0.castSucc (sigDues ++ dues order) rfl]
  iintro ⟨⟨⟨⟨%K, Hm, Hl⟩, Hc, Hlv⟩, Hbufs⟩, HO, ⟨%d0, Hx⟩, ⟨%d1, Hy⟩, ⟨%d2, Ho⟩⟩
  rw [before_x m ρ c d0, before_y m ρ c d1]
  ihave HR := (recs_intro m ρ c K) $$ [Hm Hlv]
  · isplitl [Hm] <;> iassumption
  ihave Hg := (ghosts_intro (F := F) c) $$ [Hl Hc]
  · isplitl [Hl] <;> iassumption
  iapply (prog_spec (X := xOf m ρ) (Y := yOf m ρ) (K := K) (Memref.whole cc0_stg0_0) (Memref.whole cc0_stg1_0) (Memref.whole cc0_stg2_0)
    (fun _ => bodyPost m ρ c)) $$ [HR Hx Hy Ho Hbufs Hg HO]
  · isplitl [HR]; · iexact HR
    isplitl [Hx]; · iexact Hx
    isplitl [Hy]; · iexact Hy
    isplitl [Ho]; · iapply hold_any $$ Ho
    isplitl [Hbufs]; · iexact Hbufs
    isplitl [Hg]; · iexact Hg
    iexact HO
  iintro ⟨Hx, Hy, Ho, Hbufs, Hs, HO⟩
  unfold bodyPost Φ₁
  rw [owesAt_eq m ρ c t0_0.succ [] rfl]
  isplitl [Hbufs Hs]
  · isplitl [Hbufs] <;> iassumption
  isplitl [HO]; · iexact HO
  isplitl [Hx]; · iexact Hx
  isplitl [Hy]; · iexact Hy
  iexact Ho

set_option maxRecDepth 100000 in
/-- The launch's obligation on the body. -/
theorem body_obligation (c : Dev nD) : BodyObligation (dats (F := F) m ρ 0 c) (defs₀ (F := F)) 𝒱₀ () Set.univ := fun t => by
  rw [show t = t0_0 from fin_N0 t]
  rw [bigSep_W, bigSep_W]
  simp only [owns_whole]
  have h := body_spec m ρ c
  rw [← body_eq (F := F) (Memref.whole cc0_stg0_0) (Memref.isWhole_whole _) (Memref.whole cc0_stg1_0) (Memref.isWhole_whole _)
    (Memref.whole cc0_stg2_0) (Memref.isWhole_whole _)] at h
  unfold W at h
  exact h

end Cert.KernelIdeal.AllReduce

end
-- ==== Proof.Setup.lean ====
/- The exchange's ghost state made at the launch: every cell's round, its tokens handed to the devices that pay with them,
   and the credit for what the devices owe one another. -/
module

public import proofs.«01_k».proof.Proof.Data

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]
variable (m : (ℓ : Loc nD τ sig) → Buf (Elt F) ℓ) (ρ : Dev nD → PrngReg)

/-- The kernel's own semaphores: the transfers'. -/
abbrev osem (b : Bool × Slot) : SemLoc sig := .dma (dsem b)
theorem osem_inj : Function.Injective osem := fun a b h => dsem_inj (by injection h)
theorem ownSemFacts : Pipeline.OwnSemFacts cfg0.spec osem :=
  ⟨by decide +kernel, osem_inj, by decide +kernel⟩

theorem kcell_inj : Function.Injective kcell := by
  rintro ⟨c, k⟩ ⟨c', k'⟩ h
  have h1 : c = c' := congrArg (fun g : GSem nD τ sig => g.1.1) h
  subst h1
  have h2 : csem k = csem k' := congrArg Prod.snd h
  cases k with
  | none => cases k' with
    | none => rfl
    | some b => cases h2
  | some b => cases k' with
    | none => cases h2
    | some b' => rw [osem_inj h2]
/-- All the exchange's cells. -/
def allCells : Finset (GSem nD τ sig) := Finset.univ.map ⟨kcell, kcell_inj⟩

/-- The duties of a device's own cells: a barrier's ten, and one for each end of a transfer. -/
abbrev Duty := Fin 10 ⊕ (Bool × Slot)
def tokOf (cj : Dev nD × Duty) : GSem nD τ sig × ℕ × Fin 10 := match cj.2 with
  | .inl i => (barCell cj.1, 0, i)
  | .inr b => (dCell cj.1 b, 0, 0)
theorem tokOf_inj : Function.Injective tokOf := by
  rintro ⟨c, j⟩ ⟨c', j'⟩ h
  have h0 := congrArg Prod.fst h
  have h3 := congrArg (fun z : GSem nD τ sig × ℕ × Fin 10 => z.2.2) h
  cases j with
  | inl i => cases j' with
    | inl i' =>
      have h1 : c = c' := congrArg (fun g : GSem nD τ sig => g.1.1) h0
      have h2 : i = i' := h3
      rw [h1, h2]
    | inr b' => exact absurd (congrArg Prod.snd h0) (fun h => by cases h)
  | inr b => cases j' with
    | inl i' => exact absurd (congrArg Prod.snd h0) (fun h => by cases h)
    | inr b' =>
      have h1 : c = c' := congrArg (fun g : GSem nD τ sig => g.1.1) h0
      have h2 : osem b = osem b' := congrArg Prod.snd h0
      rw [h1, osem_inj h2]
def allToks : Finset (GSem nD τ sig × ℕ × Fin 10) := Finset.univ.map ⟨tokOf, tokOf_inj⟩

def u₀ : UU := (initOf (Pipeline.cells cfgs cellOf_inj) (Pipeline.launchToks cfgs cellOf_inj), initOf allCells allToks)

/-- The tokens of a device's own cells. -/
def toks (c : Dev nD) : PP F :=
  iprop((bigSep Finset.univ fun i : Fin 10 => dutyTok ER (barCell c) 0 i) ∗ bigSep Finset.univ fun b : Bool × Slot => dutyTok ER (dCell c b) 0 0)

/-- A device's share of the launch's element. -/
def G (c : Dev nD) : PP F :=
  iprop((bigSep Finset.univ fun k : Cell => roundState ER (rd (xOf m ρ) (yOf m ρ)) (kcell (c, k)) 0)
    ∗ (bigSep Finset.univ fun k : Cell => iprop(atPos ER (kcell (c, k)) 0 ∅ 0 ∗ reached ER (kcell (c, k)) 0)) ∗ toks c)

theorem both_ends (Φ : Bool × Slot → PP F) :
    bigSep Finset.univ Φ = iprop((bigSep Finset.univ fun x => Φ (false, x)) ∗ bigSep Finset.univ fun x => Φ (true, x)) := by
  rw [BI.bigSep_univ_prod, bigSep_univ_eq_bigSepL [false, true] (by decide) (by decide)]; rfl

theorem by_cell (Φ : Cell → PP F) : bigSep Finset.univ Φ = iprop(Φ none ∗ bigSep Finset.univ fun b : Bool × Slot => Φ (some b)) := by
  rw [show (Finset.univ : Finset Cell) = insert none (Finset.univ.map Function.Embedding.some) from by ext t; cases t <;> simp,
    bigSep_insert (by simp), bigSep_map]
  rfl

theorem fund_all : BI.own (ER (initOf allCells allToks)) ⊢ (|==> bigSep Finset.univ (G m ρ) : PP F) := by
  have hX (Φ : GSem nD τ sig → PP F) : bigSep allCells Φ = bigSep Finset.univ fun c : Dev nD => bigSep Finset.univ fun k : Cell => Φ (kcell (c, k)) := by
    unfold allCells; rw [bigSep_map, BI.bigSep_univ_prod]; rfl
  have hT : bigSep allToks (fun z => (dutyTok ER z.1 z.2.1 z.2.2 : PP F)) = bigSep Finset.univ fun c : Dev nD => toks c := by
    unfold allToks; rw [bigSep_map, BI.bigSep_univ_prod]
    exact bigSep_congr fun c _ => by unfold toks; rw [bigSep_univ_sum]; rfl
  iintro HX
  imod (Rounds.fund ER (rd (xOf m ρ) (yOf m ρ)) allCells allToks) $$ HX with ⟨Hst, Hr, Hat, Htok⟩
  imodintro
  ihave Hst := (Entails.of_eq (hX fun g => roundState ER (rd (xOf m ρ) (yOf m ρ)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem ownSems0_eq (c : Dev nD) : (Pipeline.ownSems0 (Ix := Unit) (Name := ℕ) (U := UU) (Lvl := ℕ) (Val := Elt F) (τ := τ) osem c : PP F)
    = bigSep Finset.univ fun b : Bool × Slot => done c b := rfl
set_option maxRecDepth 16000 in
theorem unscopedSems0_eq (c : Dev nD) : (unscopedSems0 c : PP F) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : PP F) := by
  rw [ownSems0_eq, unscopedSems0_eq, by_cell]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cell => iprop(∃ κ : ℕ, cellInv ER (rd (xOf m ρ) (yOf m ρ)) κ (kcell (c, k))))
          ∗ (bigSep Finset.univ fun k : Cell => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cell => semVal (kcell (c, k)) 0) ∗ bigSep Finset.univ fun k : Cell => roundState ER (rd (xOf m ρ) (yOf m ρ)) (kcell (c, k)) 0)
      ⊢ (|={Set.univ}=> bigSep Finset.univ fun k : Cell => iprop(∃ κ : ℕ, cellInv ER (rd (xOf m ρ) (yOf m ρ)) κ (kcell (c, k))) : PP F) from by
        rw [← bigSep_sep']
        exact (bigSep_mono fun k _ => (Rounds.body_intro ER (rd (xOf m ρ) (yOf m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens moved from the devices that own the cells to the devices that pay with them. -/
theorem toks_around : (bigSep Finset.univ fun c : Dev nD => (toks c : PP F)) = bigSep Finset.univ fun c : Dev nD => payToks c := by
  unfold toks payToks ends
  simp only [both_ends, bigSep_sep']
  rw [BI.bigSep_univ_comm (fun (c : Dev nD) (i : Fin 10) => (dutyTok ER (barCell c) 0 i : PP F)),
    BI.bigSep_univ_comm (fun (c : Dev nD) (x : Slot) => (dutyTok ER (dCell c (true, x)) 0 0 : PP F)),
    bigSep_congr (s := Finset.univ) (fun (i : Fin 10) _ => bigSep_univ_equiv (sigTurn i) (fun c : Dev nD => (dutyTok ER (barCell c) 0 i : PP F))),
    bigSep_congr (s := Finset.univ) (fun (x : Slot) _ => bigSep_univ_equiv (turn x) (fun c : Dev nD => (dutyTok ER (dCell c (true, x)) 0 0 : PP F))),
    BI.bigSep_univ_comm (fun (i : Fin 10) (c : Dev nD) => (dutyTok ER (barCell (sigTurn i c)) 0 i : PP F)),
    BI.bigSep_univ_comm (fun (x : Slot) (c : Dev nD) => (dutyTok ER (dCell (turn x c) (true, x)) 0 0 : PP F))]
  rfl

theorem with_persistent {I : Type} [DecidableEq I] {S : Finset I} {R : PP F} [BI.Persistent R] {Φ Ψ : I → PP F}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_eq (c : Dev nD) :
    iprop((bigSep Finset.univ fun k : Cell => (atPos ER (kcell (c, k)) 0 ∅ 0 : PP F)) ∗ payToks c) = linear c := by
  unfold linear; rw [by_cell, both_ends]; rfl

theorem regroup :
    (bigSep Finset.univ fun c : Dev nD => iprop((bigSep Finset.univ fun k : Cell => iprop(∃ κ : ℕ, cellInv ER (rd (xOf m ρ) (yOf m ρ)) κ (kcell (c, k))))
          ∗ (bigSep Finset.univ fun k : Cell => iprop(atPos ER (kcell (c, k)) 0 ∅ 0 ∗ reached ER (kcell (c, k)) 0)) ∗ toks c) : PP F)
      ⊢ bigSep Finset.univ (G' m ρ) := by
  rw [bigSep_sep', bigSep_sep', ← BI.bigSep_univ_prod (fun ck : Dev nD × Cell => iprop(∃ κ : ℕ, cellInv ER (rd (xOf m ρ) (yOf m ρ)) κ (kcell ck))),
    bigSep_congr (s := Finset.univ) (fun (c : Dev nD) _ => bigSep_sep' Finset.univ (fun k : Cell => (atPos ER (kcell (c, k)) 0 ∅ 0 : PP F)) (fun k => reached ER (kcell (c, k)) 0)),
    bigSep_sep', ← BI.bigSep_univ_prod (fun ck : Dev nD × Cell => (reached ER (kcell ck) 0 : PP F)), toks_around]
  iintro ⟨HI, ⟨Hat, #HR⟩, Htok⟩
  ihave HK := (BI.bigSep_exists_pi Finset.univ (fun (ck : Dev nD × Cell) (κ : ℕ) => (cellInv ER (rd (xOf m ρ) (yOf m ρ)) κ (kcell ck) : PP F))) $$ HI
  icases HK with ⟨%K, #HI⟩
  iapply (with_persistent (R := marks (xOf m ρ) (yOf m ρ) K) (Φ := fun c : Dev nD => linear c) fun c _ => show _ ⊢ G' m ρ c from by
    unfold G'; iintro H; iexists K; iexact H)
  isplitr
  · unfold marks; isplitl; · iexact HI
    iexact HR
  · iapply ((Entails.of_eq (bigSep_sep' Finset.univ (fun c : Dev nD => bigSep Finset.univ fun k : Cell => (atPos ER (kcell (c, k)) 0 ∅ 0 : PP F)) payToks).symm).trans
      (bigSep_mono fun c _ => Entails.of_eq (linear_eq c)))
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : PP F)
    ⊢ |={Set.univ}=> bigSep Finset.univ (G' m ρ) :=
  ((bigSep_mono fun c _ => core_alloc m ρ c).trans (bigSep_fupd _ _)).trans (BI.fupd_mono (regroup m ρ))

/-! ## The credit -/

/-- A device's own cell for a raise that another owes it. -/
def ownCell (c : Dev nD) : Due → GSem nD τ sig
  | .inl _ => barCell c
  | .inr x => dCell c (true, x)
def dueCred (c : Dev nD) (e : Due) : PP F := cred (tallyAt (ownCell c e) () (dueAmt e))

/-- Each device owing one raise, each is due one. -/
theorem cred_one (c : Dev nD) (e : Due) :
    (Pipeline.launchCred (fun d => tallyAt (dueCell d e) () (dueAmt e)) c : PP F) ⊢ dueCred c e := by
  cases e with
  | inl i => exact Pipeline.launchCred_tallyAt (.reg barS) (sigTurn i) (sigTurn i).symm (sigTurn i).apply_symm_apply (sigTurn i).symm_apply_apply () 1 c
  | inr x => exact Pipeline.launchCred_tallyAt (.dma (dsem (true, x))) (fwdOf x) (bwdOf x) (fwdOf_bwdOf x) (bwdOf_fwdOf x) () (N x) c

theorem cred_list (c : Dev nD) : ∀ l : List Due, l.Nodup → (Pipeline.launchCred (fun d => owed d l) c : PP F) ⊢ bigSep l.toFinset (dueCred c)
  | [], _ => by
    show Pipeline.launchCred (fun _ : Dev nD => (0 : CellTallies nD τ sig Unit)) c ⊢ bigSep ∅ (dueCred c)
    rw [Pipeline.launchCred_zero, BI.bigSep_empty]; exact BI.Entails.refl _
  | e :: l, hl => by
    show Pipeline.launchCred (fun d : Dev nD => owed d l + tallyAt (dueCell d e) () (dueAmt e)) c ⊢ _
    rw [Pipeline.launchCred_add, List.toFinset_cons, BI.bigSep_insert (fun h => (List.nodup_cons.mp hl).1 (List.mem_toFinset.mp h))]
    show _ ⊢ iprop(dueCred c e ∗ bigSep l.toFinset (dueCred c))
    iintro ⟨H1, H2⟩
    isplitl [H2]; · iapply (cred_one c e) $$ H2
    iapply (cred_list c l (List.nodup_cons.mp hl).2) $$ H1

theorem dues_nodup : (sigDues ++ dues order).Nodup := by decide +kernel
theorem dues_univ : (sigDues ++ dues order).toFinset = Finset.univ := by decide +kernel

theorem creds (c : Dev nD) : (Pipeline.launchCred owed₀ c : PP F) ⊢ credits c := by
  refine (cred_list c (sigDues ++ dues order) dues_nodup).trans ?_
  rw [dues_univ, bigSep_univ_sum]
  refine sep_mono_left (show (bigSep Finset.univ fun _ : Fin 10 => (cred (tallyAt (barCell c) () 1) : PP F)) ⊢ _ from ?_)
  rw [← Pipeline.cred_finsetSum]
  refine Entails.of_eq (congrArg cred ?_)
  funext g; refine Finsupp.ext fun u => ?_
  rw [Finset.sum_apply, Finsupp.finsetSum_apply]
  simp only [tallyAt_apply]
  split <;> rfl

end Cert.KernelIdeal.AllReduce

end
-- ==== Proof.Run.lean ====
/- The kernel's run on its thirty-two devices: it ends, with the result's array holding the reduced product on every
   device, the operands as they were and every counter at zero. -/
module

public import proofs.«01_k».proof.Proof.Setup
public import Idealize.ShloMosaic.Lib.Pipeline.ValueKit
public import Idealize.ShloMosaic.Lib.Pipeline.CollectiveSegs

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]
variable (m : (ℓ : Loc nD τ sig) → Buf (Elt F) ℓ) (ρ : Dev nD → PrngReg)

/-- The region's scratch buffers are the exchange's. -/
theorem scratch_eq (c : Dev nD) : (Pipeline.scopedRest (Ix := Unit) (Name := ℕ) (U := UU) (Lvl := ℕ) (Val := Elt F) spec0 c : PP F) = bufs c := by
  rw [scopedRest0_eq]
  simp only [any_whole]
  unfold bufs
  simp only [side2, stage4]
  refine BI.Entails.antisymm (show _ ⊢ (_ : PP F) from ?_) (show _ ⊢ (_ : PP F) from ?_)
  · iintro ⟨H0, H1, H2, H3, H4, H5, H6, H7, H8, H9, H10, H11, H12, H13, H14⟩
    isplitl [H0]; · iexact H0
    isplitl [H1 H3 H5 H7 H8 H10 H12 H14]
    · isplitl [H1 H3 H5 H7]
      · isplitl [H1]; · iexact H1
        isplitl [H3]; · iexact H3
        isplitl [H5]; · iexact H5
        iexact H7
      · isplitl [H8]; · iexact H8
        isplitl [H10]; · iexact H10
        isplitl [H12]; · iexact H12
        iexact H14
    isplitl [H2 H9]
    · isplitl [H2]; · iexact H2
      iexact H9
    isplitl [H4 H11]
    · isplitl [H4]; · iexact H4
      iexact H11
    isplitl [H6]; · iexact H6
    iexact H13
  · iintro ⟨H0, ⟨⟨H1, H3, H5, H7⟩, H8, H10, H12, H14⟩, ⟨H2, H9⟩, ⟨H4, H11⟩, H6, H13⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start levels
  isplitl
  · isplitl [HG]; · iexact HG
    isplitl [Hc] <;> iassumption
  · iempintro

theorem point_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show (Pipeline.scopedRest cfg0.spec c : PP F) = bufs c from scratch_eq c]
  unfold Φ₀
  iintro ⟨Hs, -, Hr⟩
  isplitl [Hs] <;> iassumption

theorem point_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show (Pipeline.scopedRest cfg0.spec c : PP F) = bufs c from scratch_eq c,
    ownSems0_eq, unscopedSems0_eq, both_ends]
  unfold Φ₁ sems
  iintro ⟨Hr, HB, HS, HV⟩
  isplitl [HB]; · iexact HB
  isplitl [HS HV]
  · isplitl [HS] <;> iassumption
  iexact Hr

/-- The staging semaphores are below everything. -/
theorem lv_stage (c : Dev nD) (q : DmaSem sig) (h : ∀ b, q ≠ dsem b) : lv ((c : Thread nD τ), .dma q) () = 0 := by
  unfold lv
  rw [if_neg (fun h => by cases h)]
  have : which (.dma q) = none := by
    unfold which; exact dif_neg fun ⟨b, hb⟩ => h b (by injection hb)
  rw [this]

theorem due_pos : ∀ e ∈ sigDues ++ dues order, 0 < dueLv e := fun e _ => by
  rcases e with i | ⟨σ, t, p, k⟩
  · exact Nat.one_pos
  · cases t <;> exact Nat.succ_pos _

theorem stage_ne : ∀ (w : Fin cfg0.W) (s : Fin (cfg0.spec w).nbuf) (b : Bool × Slot), (cfg0.spec w).sem s ≠ dsem b := by decide +kernel

theorem waits (c : Dev nD) : (levAts L lv : PP F) ⊢ Pipeline.cellsWaits cfgs (dats m ρ) () 0 c :=
  Pipeline.cellsWaits_intro cfgs (dats m ρ) () 0 c fun w s t => by
    have hq : ∀ b : Bool × Slot, ((cfgs 0).spec w).sem s ≠ dsem b := stage_ne w s
    rcases t with ⟨_ | _, ht⟩
    · exact mayWait c _ (sigDues ++ dues order) 0 (le_of_eq (lv_stage c _ hq)) due_pos
    · exact mayWait c _ [] 0 (le_of_eq (lv_stage c _ hq)) (fun e he => absurd he (List.not_mem_nil))

/-- What the windows' arrays hold in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- The run, over any float values, from any memory with counters at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := point_intro m ρ) (hout := point_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x (c : Dev nD) : finalA m ρ c (0 : Fin 3) = (s₀ m ρ).mem (win0_0.arr.view.loc (c : Thread nD τ)) :=
  (dats (F := F) m ρ 0 c).arrAt_in (0 : Fin 3) rfl _
theorem final_y (c : Dev nD) : finalA m ρ c (1 : Fin 3) = (s₀ m ρ).mem (win0_1.arr.view.loc (c : Thread nD τ)) :=
  (dats (F := F) m ρ 0 c).arrAt_in (1 : Fin 3) rfl _

/-- The staged blocks are the whole arguments, -/
theorem xOf_eq (c : Dev nD) : xOf m ρ c = m ((c : Thread nD τ).loc main_arg0) := by
  unfold xOf s₀
  blk_ext! []
  · exact Nat.zero_add _
  · exact Nat.zero_add _
theorem yOf_eq (c : Dev nD) : yOf m ρ c = m ((c : Thread nD τ).loc main_arg1) := by
  unfold yOf s₀
  blk_ext! []
  · exact Nat.zero_add _
  · exact Nat.zero_add _
/-- and the result's array ends at the reduced product. -/
theorem final_o (c : Dev nD) : finalA m ρ c (2 : Fin 3) = outC (xOf m ρ) (yOf m ρ) c := by
  refine (dats m ρ 0 c).arrAt_eq_of_after_last (2 : Fin 3) t0_0 (by decide +kernel) _ fun j => ?_
  rfl

end Cert.KernelIdeal.AllReduce

end
-- ==== Proof.Math.lean ====
/- The result over the reals: each device's result is the positive part of the whole product. The outer and the inner
   reductions together add every device's partial product once, whatever the order, and a partial product is the part of
   the product's sum that runs over the device's own 32 inner indices. -/
module

public import proofs.«01_k».proof.Proof.Run
public import Idealize.ShloMosaic.PureOps.Ideal.Laws
public import Idealize.ShloMosaic.Lib.MatmulPlain
public import Idealize.ShloMosaic.Lib.Layout

@[expose] public section

noncomputable section

namespace Cert.KernelIdeal.AllReduce

open Idealize.ShloMosaic hiding ix2
open Idealize.ShloMosaic.TcCoe Idealize.SL.Sem
open Idealize.ShloMosaic.ValueIdx
open Cert.KernelIdeal Cert.KernelIdeal.Gen

/-- Over the reals a change of format keeps the value, and the positive part is the maximum with zero. -/
theorem up_ideal (x : Ideal .bf16) : (up x : EReal) = x := rfl
theorem down_ideal (x : Ideal .f32) : (down x : EReal) = x := rfl
theorem relu_ideal (x : Ideal .f32) : (relu x : EReal) = max x (Ideal.ofBits .f32 0x00000000#32) := rfl

/-! ## The two reductions meet every device once -/

/-- No step back is no step. -/
theorem bwd_zero : ∀ (a : Axis) (c : Dev nD), bwd a 0 c = c := by decide +kernel
/-- A device further along the inner axis has the same outer coordinate. -/
theorem pos1_bwd2 : ∀ (σ : Side) (c : Dev nD) (k : Fin (n2 σ + 1)), pos (ax1 σ) (bwd (ax2 σ) k.val c) = pos (ax1 σ) c := by decide +kernel
/-- The pairs of steps reach different devices, -/
theorem reach_inj : ∀ (σ : Side) (c : Dev nD) (j j' : Fin (n1 σ + 1)) (k k' : Fin (n2 σ + 1)),
    bwd (ax1 σ) j.val (bwd (ax2 σ) k.val c) = bwd (ax1 σ) j'.val (bwd (ax2 σ) k'.val c) → j = j' ∧ k = k' := by
  intro σ c j j' k k' h
  cases σ
  all_goals
    obtain ⟨c, hc⟩ := c; obtain ⟨j, hj⟩ := j; obtain ⟨j', hj'⟩ := j'; obtain ⟨k, hk⟩ := k; obtain ⟨k', hk'⟩ := k'
    have hc : c < 32 := hc
    simp only [n1, n2] at hj hj' hk hk'
    simp only [ax1, ax2, bwd, at', pos, len, Fin.mk.injEq] at h ⊢
    constructor <;> omega
/-- and so every device. -/
theorem reach_bij (σ : Side) (c : Dev nD) :
    Function.Bijective fun q : Fin (n2 σ + 1) × Fin (n1 σ + 1) => (bwd (ax1 σ) q.2.val (bwd (ax2 σ) q.1.val c) : Dev nD) := by
  refine (Fintype.bijective_iff_injective_and_card _).mpr ⟨fun q q' h => ?_, ?_⟩
  · obtain ⟨h2, h1⟩ := reach_inj σ c q.2 q'.2 q.1 q'.1 h
    exact Prod.ext h1 h2
  · cases σ <;> decide

variable (X : Dev nD → FVec Ideal S1024x32 .bf16) (Y : Dev nD → FVec Ideal S32x1024 .bf16)

/-- The outer reduction after `n` peers is the sum over them and the device itself. -/
theorem acc1_sum (σ : Side) (p : Fin 2) (c : Dev nD) (a b n : ℕ) :
    (acc1 X Y σ p c a b n : EReal)
      = ∑ j ∈ Finset.range (n + 1), (partN X Y (bwd (ax1 σ) j c) (pos (ax1 σ) c * R σ + a) (col σ p + b) : EReal) := by
  induction n with
  | zero => rw [Finset.sum_range_one, bwd_zero]; rfl
  | succ n ih => rw [Finset.sum_range_succ, ← ih]; rfl
/-- The inner reduction likewise. -/
theorem acc2_sum (σ : Side) (p : Fin 2) (c : Dev nD) (a b n : ℕ) :
    (acc2 X Y σ p c a b n : EReal)
      = ∑ k ∈ Finset.range (n + 1), (poolN X Y σ p (bwd (ax2 σ) k c) (pos (ax2 σ) c * 32 + a) b : EReal) := by
  induction n with
  | zero => rw [Finset.sum_range_one, bwd_zero]; rfl
  | succ n ih => rw [Finset.sum_range_succ, ← ih]; rfl

/-- Together they are the sum over all devices. -/
theorem acc2_all (σ : Side) (p : Fin 2) (c : Dev nD) (a b : ℕ) :
    (acc2 X Y σ p c a b (n2 σ) : EReal)
      = ∑ d : Dev nD, (partN X Y d (pos (ax1 σ) c * R σ + (pos (ax2 σ) c * 32 + a)) (col σ p + b) : EReal) := by
  rw [acc2_sum, Finset.sum_range, ← (reach_bij σ c).sum_comp, Fintype.sum_prod_type]
  refine Finset.sum_congr rfl fun k _ => ?_
  show (acc1 X Y σ p (bwd (ax2 σ) k.val c) (pos (ax2 σ) c * 32 + a) b (n1 σ) : EReal) = _
  rw [acc1_sum, Finset.sum_range, pos1_bwd2]

/-! ## The result -/

/-- The rows of the result belong to the device with these coordinates. -/
theorem pos_at1 : ∀ (σ : Side) (c : Dev nD) (q : Fin (n1 σ + 1)), pos (ax1 σ) (at' (ax1 σ) c q.val) = q.val := by decide +kernel
theorem pos_at2 : ∀ (σ : Side) (c : Dev nD) (q : Fin (n2 σ + 1)), pos (ax2 σ) (at' (ax2 σ) c q.val) = q.val := by decide +kernel
theorem pos1_at2 : ∀ (σ : Side) (c : Dev nD) (q : Fin (n2 σ + 1)), pos (ax1 σ) (at' (ax2 σ) c q.val) = pos (ax1 σ) c := by decide +kernel

theorem outN_all (σ : Side) (p : Fin 2) (c : Dev nD) (a b : ℕ) (ha : a < 1024) :
    (outN X Y σ p c a b : EReal) = relu (F := Ideal) (∑ d : Dev nD, (partN X Y d a (col σ p + b) : EReal)) := by
  have q1 : a / R σ < n1 σ + 1 := by cases σ <;> simp only [R, n1] <;> omega
  have q2 : a % R σ / 32 < n2 σ + 1 := by cases σ <;> simp only [R, n2] <;> omega
  have e : a / R σ * R σ + (a % R σ / 32 * 32 + a % 32) = a := by cases σ <;> simp only [R] <;> omega
  have e' : a % R σ % 32 = a % 32 := by cases σ <;> simp only [R] <;> omega
  unfold outN
  split
  · next h =>
    have h1 := pos_at1 σ c ⟨_, q1⟩
    have h2 := pos_at2 σ c ⟨_, q2⟩
    simp only [h.1, h.2] at h1 h2
    refine congrArg (relu (F := Ideal)) ((acc2_all X Y σ p c (a % 32) b).trans ?_)
    rw [h1, h2, e]
  · refine congrArg (relu (F := Ideal)) ?_
    show (acc2 X Y σ p (at' (ax2 σ) (at' (ax1 σ) c (a / R σ)) (a % R σ / 32)) (a % R σ % 32) b (n2 σ) : EReal) = _
    rw [acc2_all, pos1_at2 σ _ ⟨_, q2⟩, pos_at1 σ c ⟨_, q1⟩, pos_at2 σ _ ⟨_, q2⟩, e', e]

/-- The result is the positive part of the sum of all partial products. -/
theorem outAll_all (c : Dev nD) (a b : ℕ) (ha : a < 1024) (hb : b < 1024) :
    (outAll X Y c a b : EReal) = relu (F := Ideal) (∑ d : Dev nD, (partN X Y d a b : EReal)) := by
  unfold outAll
  rw [outN_all _ _ _ _ _ _ _ ha]
  have e : col (if b < 512 then .A else .B) (if b % 512 < 256 then 0 else 1) + b % 256 = b := by
    split <;> split <;> simp only [col] <;> simp <;> omega
  rw [e]

/-! ## A partial product -/

/-- One half of a partial product, at a row and a column. -/
theorem half_at (x : FVec Ideal S1024x32 .bf16) (w : FVec Ideal S32x512 .bf16) (a : Fin 1024) (b : Fin 512) :
    (half x w (ix2 a b) : EReal) = ∑ k : Fin 32, (x (ix2 a k) : EReal) * (w (ix2 k b) : EReal) := by
  unfold half
  rw [shapeCast_self, shapeCast_self]
  refine (Ideal.matmul_plain_apply none x w (constant S1024x512 .f32 0x00000000#32) a b).trans ?_
  show Ideal.ofBits .f32 0x00000000#32 + _ = _
  rw [Ideal.ofBits_zero_f32, zero_add]

/-- A partial product, at a row and a column. -/
theorem partN_at (d : Dev nD) (a b : Fin 1024) :
    (partN X Y d a.val b.val : EReal) = ∑ k : Fin 32, (X d (ix2 a k) : EReal) * (Y d (ix2 k b) : EReal) := by
  unfold partN
  rw [dif_pos ⟨a.isLt, b.isLt⟩]
  split
  · next h =>
    rw [half_at]
    refine Finset.sum_congr rfl fun k _ => congrArg (X d (ix2 a k) * ·) (congrArg (Y d) ?_)
    funext i; apply Fin.ext
    match i with
    | ⟨0, _⟩ => exact (Nat.zero_add _).trans (Nat.one_mul _)
    | ⟨1, _⟩ => exact (Nat.zero_add _).trans (Nat.one_mul _)
  · next h =>
    rw [half_at]
    refine Finset.sum_congr rfl fun k _ => congrArg (X d (ix2 a k) * ·) (congrArg (Y d) ?_)
    funext i; apply Fin.ext
    match i with
    | ⟨0, _⟩ => exact (Nat.zero_add _).trans (Nat.one_mul _)
    | ⟨1, _⟩ => show 512 + 1 * (b.val - 512) = b.val; omega

/-! ## Blocks of whole factors -/

variable (A : FVec Ideal S1024x1024 .bf16) (B : FVec Ideal S1024x1024 .bf16)

/-- Where every device holds its block of columns of the one factor and its block of rows of the other, the partial
    products add up to the whole product. -/
theorem parts_product
    (hX : ∀ c, X c = Layout.block ⟨2, ![1024, 32]⟩ ⟨2, ![1024, 1024]⟩ 1 32 c A)
    (hY : ∀ c, Y c = Layout.block ⟨2, ![32, 1024]⟩ ⟨2, ![1024, 1024]⟩ 0 32 c B) (a b : Fin 1024) :
    (∑ d : Dev nD, (partN X Y d a.val b.val : EReal)) = ∑ K : Fin 1024, (A (ix2 a K) : EReal) * (B (ix2 K b) : EReal) := by
  rw [← (finProdFinEquiv (m := 32) (n := 32)).sum_comp, Fintype.sum_prod_type]
  refine Finset.sum_congr rfl fun d _ => (partN_at X Y d a b).trans (Finset.sum_congr rfl fun k _ => ?_)
  have ex : X d (ix2 a k) = A (ix2 a (finProdFinEquiv (m := 32) (n := 32) (d, k))) := by
    rw [hX]
    refine congrArg A (funext fun i => Fin.ext ?_)
    match i with
    | ⟨0, _⟩ => rfl
    | ⟨1, _⟩ => show d.val * 32 + k.val = k.val + 32 * d.val; omega
  have ey : Y d (ix2 k b) = B (ix2 (finProdFinEquiv (m := 32) (n := 32) (d, k)) b) := by
    rw [hY]
    refine congrArg B (funext fun i => Fin.ext ?_)
    match i with
    | ⟨0, _⟩ => show d.val * 32 + k.val = k.val + 32 * d.val; omega
    | ⟨1, _⟩ => rfl
  rw [ex, ey]

/-- Every device's result at a row and a column: the positive part of the whole product there. -/
theorem outC_product
    (hX : ∀ c, X c = Layout.block ⟨2, ![1024, 32]⟩ ⟨2, ![1024, 1024]⟩ 1 32 c A)
    (hY : ∀ c, Y c = Layout.block ⟨2, ![32, 1024]⟩ ⟨2, ![1024, 1024]⟩ 0 32 c B) (c : Dev nD) (a b : Fin 1024) :
    (outC X Y c (ix2 a b) : EReal)
      = max (∑ K : Fin 1024, (A (ix2 a K) : EReal) * (B (ix2 K b) : EReal)) (Ideal.ofBits .f32 0x00000000#32) := by
  refine (outAll_all X Y c a.val b.val a.isLt b.isLt).trans ?_
  rw [parts_product X Y A B hX hY a b]
  exact relu_ideal _

end Cert.KernelIdeal.AllReduce

end
-- ==== Proof.lean ====
module

public import proofs.«01_k».proof.Defs
public import proofs.«01_k».proof.Proof.Math
public import proofs.«01_k».proof.Proof.Gen.ReferenceIdeal.Run
public import Idealize.ShloMosaic.Lib.StackMember
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

open Cert.KernelIdeal.AllReduce in
/-- The kernel's run, over any float values, keeps the operands and ends with every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c 0).trans (final_x m ρ c), (h.1 c 1).trans (final_y m ρ c)⟩, h.2⟩) (run_main m ρ)

/-- Over the reals, -/
theorem frame_ideal : Cert.quiescent_KernelIdeal := fun m ρ _ => frame_any (F := Ideal) m ρ

/-- The two programs have the same text, and so the same table of bodies, -/
theorem defs_eq {F : FTy → Type} [FloatOps F] : Cert.Kernel.defs (F := F) = Cert.KernelIdeal.defs (F := F) := by sl_kernel_rfl

/-- and the run over the machine's floats is the same run. -/
theorem frame_kernel : Cert.quiescent_Kernel := by
  intro m ρ _
  rw [defs_eq]
  exact frame_any (F := Bits) m ρ

/-- The reference's run keeps the operands; it has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference's result, over the reals. -/
def refOut (A B : FVec Ideal Cert.ReferenceIdeal.S1024x1024 .bf16) : FVec Ideal Cert.ReferenceIdeal.S1024x1024 .f32 :=
  maximumf (extf .f32 (truncf .bf16 (Host.dotGeneral Cert.ReferenceIdeal.dot_S1024x1024_S1024x1024_S1024x1024_1_0_0_1_n_n none A B)
      Cert.ReferenceIdeal.Gen.bitsLt_bf16_f32) Cert.ReferenceIdeal.Gen.bitsLt_bf16_f32)
    (broadcastInDim Cert.ReferenceIdeal.S1024x1024 ![] Cert.ReferenceIdeal.Gen.bcast_S_S1024x1024 (constant Cert.ReferenceIdeal.S_ .f32 0x00000000#32))

/-- At a row and a column it is the positive part of the product there. -/
theorem refOut_at (A B : FVec Ideal Cert.ReferenceIdeal.S1024x1024 .bf16) (a b : Fin 1024) :
    (refOut A B (ValueIdx.ix2 a b) : EReal)
      = max (∑ K : Fin 1024, (A (ValueIdx.ix2 a K) : EReal) * (B (ValueIdx.ix2 K b) : EReal)) (Ideal.ofBits .f32 0x00000000#32) :=
  congrArg (max · (Ideal.ofBits .f32 0x00000000#32)) (StackMember.dotGeneral_plain_apply none A B a b)

open Cert.KernelIdeal.AllReduce in
/-- Where the devices hold their blocks of the reference's operands, every device of the kernel ends, over the reals, with
    the reference's result. -/
theorem algebraic : Cert.algebraic_KernelIdeal_ReferenceIdeal := by
  intro m ρ m' ρ' _ hb
  refine ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨?_, (h.1 c 0).trans (final_x m ρ c), (h.1 c 1).trans (final_y m ρ c)⟩)
      (run_main (F := Ideal) m ρ)
    refine (h.1 c 2).trans ((final_o m ρ c).trans (funext fun i => ?_))
    obtain ⟨a, b, rfl⟩ : ∃ (a b : Fin 1024), i = ValueIdx.ix2 a b := ⟨i 0, i 1, ValueIdx.eq_ix2 i⟩
    exact (outC_product (xOf m ρ) (yOf m ρ) _ _ (fun c => (xOf_eq m ρ c).trans (hb c).1) (fun c => (yOf_eq m ρ c).trans (hb c).2) c a b).trans
      (refOut_at _ _ a b).symm
  · exact (θ_run Cert.ReferenceIdeal.defs _ _).mono (fun r h => h 0) (Cert.ReferenceIdeal.Value.run (F := Ideal) m' ρ')

/-- The claims. -/
theorem claim : Cert.Claim :=
  ⟨Cert.Kernel.Gen.facts, Cert.KernelIdeal.Gen.facts, Cert.ReferenceIdeal.Gen.facts, frame_kernel, frame_ideal, frame_reference, trivial, algebraic⟩

end Cert.Proof

end
